-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_finite_xattn [hPre_finite_xattn : Cert.Pre_finite_xattn.Facts] (m : (ℓ : Loc Cert.XattnIdeal.nD Cert.XattnIdeal.τ Cert.XattnIdeal.sig) → Buf (Elt Ideal) ℓ) : Prop :=
  ∀ c : Dev Cert.XattnIdeal.nD,
    (Cert.Pre_finite_xattn.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4)) (m ((c.tc : Thread Cert.XattnIdeal.nD Cert.XattnIdeal.τ).loc Cert.XattnIdeal.main_arg5)) (m ((c.tc : Thread Cert.XattnIdeal.nD Cert.XattnIdeal.τ).loc Cert.XattnIdeal.main_arg6)) (m ((c.tc : Thread Cert.XattnIdeal.nD Cert.XattnIdeal.τ).loc Cert.XattnIdeal.main_arg7)) (m ((c.tc : Thread Cert.XattnIdeal.nD Cert.XattnIdeal.τ).loc Cert.XattnIdeal.main_arg8)) (m ((c.tc : Thread Cert.XattnIdeal.nD Cert.XattnIdeal.τ).loc Cert.XattnIdeal.main_arg9)) (m ((c.tc : Thread Cert.XattnIdeal.nD Cert.XattnIdeal.τ).loc Cert.XattnIdeal.main_arg10)) (m ((c.tc : Thread Cert.XattnIdeal.nD Cert.XattnIdeal.τ).loc Cert.XattnIdeal.main_arg11)) (m ((c.tc : Thread Cert.XattnIdeal.nD Cert.XattnIdeal.τ).loc Cert.XattnIdeal.main_arg12))) = (fun _ => 1#1)

def Pre_XattnReferenceIdeal (m : (ℓ : Loc Cert.XattnReferenceIdeal.nD Cert.XattnReferenceIdeal.τ Cert.XattnReferenceIdeal.sig) → Buf (Elt Ideal) ℓ) : Prop :=
  True

def Pre_XattnReferenceIdeal_finite_xattn [hPre_finite_xattn : Cert.Pre_finite_xattn.Facts] (m : (ℓ : Loc Cert.XattnReferenceIdeal.nD Cert.XattnReferenceIdeal.τ Cert.XattnReferenceIdeal.sig) → Buf (Elt Ideal) ℓ) : Prop :=
  ∀ c : Dev Cert.XattnReferenceIdeal.nD,
    (Cert.Pre_finite_xattn.fn (F := Ideal) (m ((c.tc : Thread Cert.XattnReferenceIdeal.nD Cert.XattnReferenceIdeal.τ).loc Cert.XattnReferenceIdeal.main_arg0)) (m ((c.tc : Thread Cert.XattnReferenceIdeal.nD Cert.XattnReferenceIdeal.τ).loc Cert.XattnReferenceIdeal.main_arg1)) (m ((c.tc : Thread Cert.XattnReferenceIdeal.nD Cert.XattnReferenceIdeal.τ).loc Cert.XattnReferenceIdeal.main_arg2)) (m ((c.tc : Thread Cert.XattnReferenceIdeal.nD Cert.XattnReferenceIdeal.τ).loc Cert.XattnReferenceIdeal.main_arg3)) (m ((c.tc : Thread Cert.XattnReferenceIdeal.nD Cert.XattnReferenceIdeal.τ).loc Cert.XattnReferenceIdeal.main_arg4)) (m ((c.tc : Thread Cert.XattnReferenceIdeal.nD Cert.XattnReferenceIdeal.τ).loc Cert.XattnReferenceIdeal.main_arg5)) (m ((c.tc : Thread Cert.XattnReferenceIdeal.nD Cert.XattnReferenceIdeal.τ).loc Cert.XattnReferenceIdeal.main_arg6)) (m ((c.tc : Thread Cert.XattnReferenceIdeal.nD Cert.XattnReferenceIdeal.τ).loc Cert.XattnReferenceIdeal.main_arg7)) (m ((c.tc : Thread Cert.XattnReferenceIdeal.nD Cert.XattnReferenceIdeal.τ).loc Cert.XattnReferenceIdeal.main_arg8)) (m ((c.tc : Thread Cert.XattnReferenceIdeal.nD Cert.XattnReferenceIdeal.τ).loc Cert.XattnReferenceIdeal.main_arg9)) (m ((c.tc : Thread Cert.XattnReferenceIdeal.nD Cert.XattnReferenceIdeal.τ).loc Cert.XattnReferenceIdeal.main_arg10)) (m ((c.tc : Thread Cert.XattnReferenceIdeal.nD Cert.XattnReferenceIdeal.τ).loc Cert.XattnReferenceIdeal.main_arg11)) (m ((c.tc : Thread Cert.XattnReferenceIdeal.nD Cert.XattnReferenceIdeal.τ).loc Cert.XattnReferenceIdeal.main_arg12))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite_mix [hPre_finite_mix : Cert.Pre_finite_mix.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite_mix.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6)
      ∧ r.2.mem ((c.tc : Thread Cert.Xattn.nD Cert.Xattn.τ).loc Cert.Xattn.main_arg7) = m ((c.tc : Thread Cert.Xattn.nD Cert.Xattn.τ).loc Cert.Xattn.main_arg7)
      ∧ r.2.mem ((c.tc : Thread Cert.Xattn.nD Cert.Xattn.τ).loc Cert.Xattn.main_arg8) = m ((c.tc : Thread Cert.Xattn.nD Cert.Xattn.τ).loc Cert.Xattn.main_arg8)
      ∧ r.2.mem ((c.tc : Thread Cert.Xattn.nD Cert.Xattn.τ).loc Cert.Xattn.main_arg9) = m ((c.tc : Thread Cert.Xattn.nD Cert.Xattn.τ).loc Cert.Xattn.main_arg9)
      ∧ r.2.mem ((c.tc : Thread Cert.Xattn.nD Cert.Xattn.τ).loc Cert.Xattn.main_arg10) = m ((c.tc : Thread Cert.Xattn.nD Cert.Xattn.τ).loc Cert.Xattn.main_arg10)
      ∧ r.2.mem ((c.tc : Thread Cert.Xattn.nD Cert.Xattn.τ).loc Cert.Xattn.main_arg11) = m ((c.tc : Thread Cert.Xattn.nD Cert.Xattn.τ).loc Cert.Xattn.main_arg11)
      ∧ r.2.mem ((c.tc : Thread Cert.Xattn.nD Cert.Xattn.τ).loc Cert.Xattn.main_arg12) = m ((c.tc : Thread Cert.Xattn.nD Cert.Xattn.τ).loc Cert.Xattn.main_arg12))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
      ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
      ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12))
      ∧ r.2.sem = fun _ => 0)

def quiescent_XattnIdeal_pre_finite_xattn [hXattnIdeal : Cert.XattnIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_finite_xattn m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
      ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
      ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
      ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
      ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
      ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
      ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12))
      ∧ r.2.sem = fun _ => 0)

def quiescent_XattnReferenceIdeal [hXattnReferenceIdeal : Cert.XattnReferenceIdeal.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7)
      ∧ r.2.mem ((c.tc : Thread Cert.XattnReferenceIdeal.nD Cert.XattnReferenceIdeal.τ).loc Cert.XattnReferenceIdeal.main_arg8) = m ((c.tc : Thread Cert.XattnReferenceIdeal.nD Cert.XattnReferenceIdeal.τ).loc Cert.XattnReferenceIdeal.main_arg8)
      ∧ r.2.mem ((c.tc : Thread Cert.XattnReferenceIdeal.nD Cert.XattnReferenceIdeal.τ).loc Cert.XattnReferenceIdeal.main_arg9) = m ((c.tc : Thread Cert.XattnReferenceIdeal.nD Cert.XattnReferenceIdeal.τ).loc Cert.XattnReferenceIdeal.main_arg9)
      ∧ r.2.mem ((c.tc : Thread Cert.XattnReferenceIdeal.nD Cert.XattnReferenceIdeal.τ).loc Cert.XattnReferenceIdeal.main_arg10) = m ((c.tc : Thread Cert.XattnReferenceIdeal.nD Cert.XattnReferenceIdeal.τ).loc Cert.XattnReferenceIdeal.main_arg10)
      ∧ r.2.mem ((c.tc : Thread Cert.XattnReferenceIdeal.nD Cert.XattnReferenceIdeal.τ).loc Cert.XattnReferenceIdeal.main_arg11) = m ((c.tc : Thread Cert.XattnReferenceIdeal.nD Cert.XattnReferenceIdeal.τ).loc Cert.XattnReferenceIdeal.main_arg11)
      ∧ r.2.mem ((c.tc : Thread Cert.XattnReferenceIdeal.nD Cert.XattnReferenceIdeal.τ).loc Cert.XattnReferenceIdeal.main_arg12) = m ((c.tc : Thread Cert.XattnReferenceIdeal.nD Cert.XattnReferenceIdeal.τ).loc Cert.XattnReferenceIdeal.main_arg12))
      ∧ r.2.sem = fun _ => 0)

def quiescent_XattnReferenceIdeal_pre_finite_xattn [hXattnReferenceIdeal : Cert.XattnReferenceIdeal.Facts] [hPre_finite_xattn : Cert.Pre_finite_xattn.Facts] : Prop :=
  ∀ (m : (ℓ : Loc Cert.XattnReferenceIdeal.nD Cert.XattnReferenceIdeal.τ Cert.XattnReferenceIdeal.sig) → Buf (Elt Ideal) ℓ) (g : Dev Cert.XattnReferenceIdeal.nD → PrngReg), Pre_XattnReferenceIdeal_finite_xattn m →
    θ_run (Cert.XattnReferenceIdeal.defs (F := Ideal)) (onTc (τ := Cert.XattnReferenceIdeal.τ) (Cert.XattnReferenceIdeal.main (F := Ideal))) ⟨m, fun _ => 0, g⟩ (fun r => (∀ c : Dev Cert.XattnReferenceIdeal.nD,
      r.2.mem ((c.tc : Thread Cert.XattnReferenceIdeal.nD Cert.XattnReferenceIdeal.τ).loc Cert.XattnReferenceIdeal.main_arg0) = m ((c.tc : Thread Cert.XattnReferenceIdeal.nD Cert.XattnReferenceIdeal.τ).loc Cert.XattnReferenceIdeal.main_arg0)
      ∧ r.2.mem ((c.tc : Thread Cert.XattnReferenceIdeal.nD Cert.XattnReferenceIdeal.τ).loc Cert.XattnReferenceIdeal.main_arg1) = m ((c.tc : Thread Cert.XattnReferenceIdeal.nD Cert.XattnReferenceIdeal.τ).loc Cert.XattnReferenceIdeal.main_arg1)
      ∧ r.2.mem ((c.tc : Thread Cert.XattnReferenceIdeal.nD Cert.XattnReferenceIdeal.τ).loc Cert.XattnReferenceIdeal.main_arg2) = m ((c.tc : Thread Cert.XattnReferenceIdeal.nD Cert.XattnReferenceIdeal.τ).loc Cert.XattnReferenceIdeal.main_arg2)
      ∧ r.2.mem ((c.tc : Thread Cert.XattnReferenceIdeal.nD Cert.XattnReferenceIdeal.τ).loc Cert.XattnReferenceIdeal.main_arg3) = m ((c.tc : Thread Cert.XattnReferenceIdeal.nD Cert.XattnReferenceIdeal.τ).loc Cert.XattnReferenceIdeal.main_arg3)
      ∧ r.2.mem ((c.tc : Thread Cert.XattnReferenceIdeal.nD Cert.XattnReferenceIdeal.τ).loc Cert.XattnReferenceIdeal.main_arg4) = m ((c.tc : Thread Cert.XattnReferenceIdeal.nD Cert.XattnReferenceIdeal.τ).loc Cert.XattnReferenceIdeal.main_arg4)
      ∧ r.2.mem ((c.tc : Thread Cert.XattnReferenceIdeal.nD Cert.XattnReferenceIdeal.τ).loc Cert.XattnReferenceIdeal.main_arg5) = m ((c.tc : Thread Cert.XattnReferenceIdeal.nD Cert.XattnReferenceIdeal.τ).loc Cert.XattnReferenceIdeal.main_arg5)
      ∧ r.2.mem ((c.tc : Thread Cert.XattnReferenceIdeal.nD Cert.XattnReferenceIdeal.τ).loc Cert.XattnReferenceIdeal.main_arg6) = m ((c.tc : Thread Cert.XattnReferenceIdeal.nD Cert.XattnReferenceIdeal.τ).loc Cert.XattnReferenceIdeal.main_arg6)
      ∧ r.2.mem ((c.tc : Thread Cert.XattnReferenceIdeal.nD Cert.XattnReferenceIdeal.τ).loc Cert.XattnReferenceIdeal.main_arg7) = m ((c.tc : Thread Cert.XattnReferenceIdeal.nD Cert.XattnReferenceIdeal.τ).loc Cert.XattnReferenceIdeal.main_arg7)
      ∧ r.2.mem ((c.tc : Thread Cert.XattnReferenceIdeal.nD Cert.XattnReferenceIdeal.τ).loc Cert.XattnReferenceIdeal.main_arg8) = m ((c.tc : Thread Cert.XattnReferenceIdeal.nD Cert.XattnReferenceIdeal.τ).loc Cert.XattnReferenceIdeal.main_arg8)
      ∧ r.2.mem ((c.tc : Thread Cert.XattnReferenceIdeal.nD Cert.XattnReferenceIdeal.τ).loc Cert.XattnReferenceIdeal.main_arg9) = m ((c.tc : Thread Cert.XattnReferenceIdeal.nD Cert.XattnReferenceIdeal.τ).loc Cert.XattnReferenceIdeal.main_arg9)
      ∧ r.2.mem ((c.tc : Thread Cert.XattnReferenceIdeal.nD Cert.XattnReferenceIdeal.τ).loc Cert.XattnReferenceIdeal.main_arg10) = m ((c.tc : Thread Cert.XattnReferenceIdeal.nD Cert.XattnReferenceIdeal.τ).loc Cert.XattnReferenceIdeal.main_arg10)
      ∧ r.2.mem ((c.tc : Thread Cert.XattnReferenceIdeal.nD Cert.XattnReferenceIdeal.τ).loc Cert.XattnReferenceIdeal.main_arg11) = m ((c.tc : Thread Cert.XattnReferenceIdeal.nD Cert.XattnReferenceIdeal.τ).loc Cert.XattnReferenceIdeal.main_arg11)
      ∧ r.2.mem ((c.tc : Thread Cert.XattnReferenceIdeal.nD Cert.XattnReferenceIdeal.τ).loc Cert.XattnReferenceIdeal.main_arg12) = m ((c.tc : Thread Cert.XattnReferenceIdeal.nD Cert.XattnReferenceIdeal.τ).loc Cert.XattnReferenceIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_MixReferenceIdeal_pre_finite_mix [hMixReferenceIdeal : Cert.MixReferenceIdeal.Facts] [hPre_finite_mix : Cert.Pre_finite_mix.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite_mix m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Xattn_XattnIdeal : Prop :=
  True

def algebraic_XattnIdeal_XattnReferenceIdeal_pre_finite_xattn [hXattnIdeal : Cert.XattnIdeal.Facts] [hXattnReferenceIdeal : Cert.XattnReferenceIdeal.Facts] [hPre_finite_xattn : Cert.Pre_finite_xattn.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnReferenceIdeal.nD Cert.XattnReferenceIdeal.τ Cert.XattnReferenceIdeal.sig) → Buf (Elt Ideal) ℓ) (g' : Dev Cert.XattnReferenceIdeal.nD → PrngReg), Pre_XattnIdeal_finite_xattn m →
    (∀ c : Dev Cert.XattnIdeal.nD,
      m' ((c.tc : Thread Cert.XattnReferenceIdeal.nD Cert.XattnReferenceIdeal.τ).loc Cert.XattnReferenceIdeal.main_arg0) = m ((c.tc : Thread Cert.XattnIdeal.nD Cert.XattnIdeal.τ).loc Cert.XattnIdeal.main_arg0)
      ∧ m' ((c.tc : Thread Cert.XattnReferenceIdeal.nD Cert.XattnReferenceIdeal.τ).loc Cert.XattnReferenceIdeal.main_arg1) = m ((c.tc : Thread Cert.XattnIdeal.nD Cert.XattnIdeal.τ).loc Cert.XattnIdeal.main_arg1)
      ∧ m' ((c.tc : Thread Cert.XattnReferenceIdeal.nD Cert.XattnReferenceIdeal.τ).loc Cert.XattnReferenceIdeal.main_arg2) = m ((c.tc : Thread Cert.XattnIdeal.nD Cert.XattnIdeal.τ).loc Cert.XattnIdeal.main_arg2)
      ∧ m' ((c.tc : Thread Cert.XattnReferenceIdeal.nD Cert.XattnReferenceIdeal.τ).loc Cert.XattnReferenceIdeal.main_arg3) = m ((c.tc : Thread Cert.XattnIdeal.nD Cert.XattnIdeal.τ).loc Cert.XattnIdeal.main_arg3)
      ∧ m' ((c.tc : Thread Cert.XattnReferenceIdeal.nD Cert.XattnReferenceIdeal.τ).loc Cert.XattnReferenceIdeal.main_arg4) = m ((c.tc : Thread Cert.XattnIdeal.nD Cert.XattnIdeal.τ).loc Cert.XattnIdeal.main_arg4)
      ∧ m' ((c.tc : Thread Cert.XattnReferenceIdeal.nD Cert.XattnReferenceIdeal.τ).loc Cert.XattnReferenceIdeal.main_arg5) = m ((c.tc : Thread Cert.XattnIdeal.nD Cert.XattnIdeal.τ).loc Cert.XattnIdeal.main_arg5)
      ∧ m' ((c.tc : Thread Cert.XattnReferenceIdeal.nD Cert.XattnReferenceIdeal.τ).loc Cert.XattnReferenceIdeal.main_arg6) = m ((c.tc : Thread Cert.XattnIdeal.nD Cert.XattnIdeal.τ).loc Cert.XattnIdeal.main_arg6)
      ∧ m' ((c.tc : Thread Cert.XattnReferenceIdeal.nD Cert.XattnReferenceIdeal.τ).loc Cert.XattnReferenceIdeal.main_arg7) = m ((c.tc : Thread Cert.XattnIdeal.nD Cert.XattnIdeal.τ).loc Cert.XattnIdeal.main_arg7)
      ∧ m' ((c.tc : Thread Cert.XattnReferenceIdeal.nD Cert.XattnReferenceIdeal.τ).loc Cert.XattnReferenceIdeal.main_arg8) = m ((c.tc : Thread Cert.XattnIdeal.nD Cert.XattnIdeal.τ).loc Cert.XattnIdeal.main_arg8)
      ∧ m' ((c.tc : Thread Cert.XattnReferenceIdeal.nD Cert.XattnReferenceIdeal.τ).loc Cert.XattnReferenceIdeal.main_arg9) = m ((c.tc : Thread Cert.XattnIdeal.nD Cert.XattnIdeal.τ).loc Cert.XattnIdeal.main_arg9)
      ∧ m' ((c.tc : Thread Cert.XattnReferenceIdeal.nD Cert.XattnReferenceIdeal.τ).loc Cert.XattnReferenceIdeal.main_arg10) = m ((c.tc : Thread Cert.XattnIdeal.nD Cert.XattnIdeal.τ).loc Cert.XattnIdeal.main_arg10)
      ∧ m' ((c.tc : Thread Cert.XattnReferenceIdeal.nD Cert.XattnReferenceIdeal.τ).loc Cert.XattnReferenceIdeal.main_arg11) = m ((c.tc : Thread Cert.XattnIdeal.nD Cert.XattnIdeal.τ).loc Cert.XattnIdeal.main_arg11)
      ∧ m' ((c.tc : Thread Cert.XattnReferenceIdeal.nD Cert.XattnReferenceIdeal.τ).loc Cert.XattnReferenceIdeal.main_arg12) = m ((c.tc : Thread Cert.XattnIdeal.nD Cert.XattnIdeal.τ).loc Cert.XattnIdeal.main_arg12)) →
    ∃ (v0 : (c : Dev Cert.XattnIdeal.nD) → Buf (Elt Ideal) ((c.tc : Thread Cert.XattnIdeal.nD Cert.XattnIdeal.τ).loc Cert.XattnIdeal.main_v6_0)) (v1 : (c : Dev Cert.XattnIdeal.nD) → Buf (Elt Ideal) ((c.tc : Thread Cert.XattnIdeal.nD Cert.XattnIdeal.τ).loc Cert.XattnIdeal.main_v6_1)) (v2 : (c : Dev Cert.XattnIdeal.nD) → Buf (Elt Ideal) ((c.tc : Thread Cert.XattnIdeal.nD Cert.XattnIdeal.τ).loc Cert.XattnIdeal.main_v17)) (v3 : (c : Dev Cert.XattnIdeal.nD) → Buf (Elt Ideal) ((c.tc : Thread Cert.XattnIdeal.nD Cert.XattnIdeal.τ).loc Cert.XattnIdeal.main_v12_0)) (v4 : (c : Dev Cert.XattnIdeal.nD) → Buf (Elt Ideal) ((c.tc : Thread Cert.XattnIdeal.nD Cert.XattnIdeal.τ).loc Cert.XattnIdeal.main_v12_2)) (v5 : (c : Dev Cert.XattnIdeal.nD) → Buf (Elt Ideal) ((c.tc : Thread Cert.XattnIdeal.nD Cert.XattnIdeal.τ).loc Cert.XattnIdeal.main_v15)) (v6 : (c : Dev Cert.XattnIdeal.nD) → Buf (Elt Ideal) ((c.tc : Thread Cert.XattnIdeal.nD Cert.XattnIdeal.τ).loc Cert.XattnIdeal.main_v7_2)) (v7 : (c : Dev Cert.XattnIdeal.nD) → Buf (Elt Ideal) ((c.tc : Thread Cert.XattnIdeal.nD Cert.XattnIdeal.τ).loc Cert.XattnIdeal.main_v16)) (v8 : (c : Dev Cert.XattnIdeal.nD) → Buf (Elt Ideal) ((c.tc : Thread Cert.XattnIdeal.nD Cert.XattnIdeal.τ).loc Cert.XattnIdeal.main_v11)) (v9 : (c : Dev Cert.XattnIdeal.nD) → Buf (Elt Ideal) ((c.tc : Thread Cert.XattnIdeal.nD Cert.XattnIdeal.τ).loc Cert.XattnIdeal.main_v13_0)) (v10 : (c : Dev Cert.XattnIdeal.nD) → Buf (Elt Ideal) ((c.tc : Thread Cert.XattnIdeal.nD Cert.XattnIdeal.τ).loc Cert.XattnIdeal.main_v13_1)) (v11 : (c : Dev Cert.XattnIdeal.nD) → Buf (Elt Ideal) ((c.tc : Thread Cert.XattnIdeal.nD Cert.XattnIdeal.τ).loc Cert.XattnIdeal.main_v9)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v6_0) = v0 c
          ∧ r.2.mem ((c.tc : Thread Cert.XattnIdeal.nD Cert.XattnIdeal.τ).loc Cert.XattnIdeal.main_v6_1) = v1 c
          ∧ r.2.mem ((c.tc : Thread Cert.XattnIdeal.nD Cert.XattnIdeal.τ).loc Cert.XattnIdeal.main_v17) = v2 c
          ∧ r.2.mem ((c.tc : Thread Cert.XattnIdeal.nD Cert.XattnIdeal.τ).loc Cert.XattnIdeal.main_v12_0) = v3 c
          ∧ r.2.mem ((c.tc : Thread Cert.XattnIdeal.nD Cert.XattnIdeal.τ).loc Cert.XattnIdeal.main_v12_2) = v4 c
          ∧ r.2.mem ((c.tc : Thread Cert.XattnIdeal.nD Cert.XattnIdeal.τ).loc Cert.XattnIdeal.main_v15) = v5 c
          ∧ r.2.mem ((c.tc : Thread Cert.XattnIdeal.nD Cert.XattnIdeal.τ).loc Cert.XattnIdeal.main_v7_2) = v6 c
          ∧ r.2.mem ((c.tc : Thread Cert.XattnIdeal.nD Cert.XattnIdeal.τ).loc Cert.XattnIdeal.main_v16) = v7 c
          ∧ r.2.mem ((c.tc : Thread Cert.XattnIdeal.nD Cert.XattnIdeal.τ).loc Cert.XattnIdeal.main_v11) = v8 c
          ∧ r.2.mem ((c.tc : Thread Cert.XattnIdeal.nD Cert.XattnIdeal.τ).loc Cert.XattnIdeal.main_v13_0) = v9 c
          ∧ r.2.mem ((c.tc : Thread Cert.XattnIdeal.nD Cert.XattnIdeal.τ).loc Cert.XattnIdeal.main_v13_1) = v10 c
          ∧ r.2.mem ((c.tc : Thread Cert.XattnIdeal.nD Cert.XattnIdeal.τ).loc Cert.XattnIdeal.main_v9) = v11 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6)
          ∧ r.2.mem ((c.tc : Thread Cert.XattnIdeal.nD Cert.XattnIdeal.τ).loc Cert.XattnIdeal.main_arg7) = m ((c.tc : Thread Cert.XattnIdeal.nD Cert.XattnIdeal.τ).loc Cert.XattnIdeal.main_arg7)
          ∧ r.2.mem ((c.tc : Thread Cert.XattnIdeal.nD Cert.XattnIdeal.τ).loc Cert.XattnIdeal.main_arg8) = m ((c.tc : Thread Cert.XattnIdeal.nD Cert.XattnIdeal.τ).loc Cert.XattnIdeal.main_arg8)
          ∧ r.2.mem ((c.tc : Thread Cert.XattnIdeal.nD Cert.XattnIdeal.τ).loc Cert.XattnIdeal.main_arg9) = m ((c.tc : Thread Cert.XattnIdeal.nD Cert.XattnIdeal.τ).loc Cert.XattnIdeal.main_arg9)
          ∧ r.2.mem ((c.tc : Thread Cert.XattnIdeal.nD Cert.XattnIdeal.τ).loc Cert.XattnIdeal.main_arg10) = m ((c.tc : Thread Cert.XattnIdeal.nD Cert.XattnIdeal.τ).loc Cert.XattnIdeal.main_arg10)
          ∧ r.2.mem ((c.tc : Thread Cert.XattnIdeal.nD Cert.XattnIdeal.τ).loc Cert.XattnIdeal.main_arg11) = m ((c.tc : Thread Cert.XattnIdeal.nD Cert.XattnIdeal.τ).loc Cert.XattnIdeal.main_arg11)
          ∧ r.2.mem ((c.tc : Thread Cert.XattnIdeal.nD Cert.XattnIdeal.τ).loc Cert.XattnIdeal.main_arg12) = m ((c.tc : Thread Cert.XattnIdeal.nD Cert.XattnIdeal.τ).loc Cert.XattnIdeal.main_arg12))
      ∧ θ_run (Cert.XattnReferenceIdeal.defs (F := Ideal)) (onTc (τ := Cert.XattnReferenceIdeal.τ) (Cert.XattnReferenceIdeal.main (F := Ideal))) ⟨m', fun _ => 0, g'⟩ (fun r => ∀ c : Dev Cert.XattnReferenceIdeal.nD,
          r.2.mem ((c.tc : Thread Cert.XattnReferenceIdeal.nD Cert.XattnReferenceIdeal.τ).loc Cert.XattnReferenceIdeal.main_v76) = v0 c
          ∧ r.2.mem ((c.tc : Thread Cert.XattnReferenceIdeal.nD Cert.XattnReferenceIdeal.τ).loc Cert.XattnReferenceIdeal.main_v179) = v1 c
          ∧ r.2.mem ((c.tc : Thread Cert.XattnReferenceIdeal.nD Cert.XattnReferenceIdeal.τ).loc Cert.XattnReferenceIdeal.main_v178) = v2 c
          ∧ r.2.mem ((c.tc : Thread Cert.XattnReferenceIdeal.nD Cert.XattnReferenceIdeal.τ).loc Cert.XattnReferenceIdeal.main_v175) = v3 c
          ∧ r.2.mem ((c.tc : Thread Cert.XattnReferenceIdeal.nD Cert.XattnReferenceIdeal.τ).loc Cert.XattnReferenceIdeal.main_v158) = v4 c
          ∧ r.2.mem ((c.tc : Thread Cert.XattnReferenceIdeal.nD Cert.XattnReferenceIdeal.τ).loc Cert.XattnReferenceIdeal.main_v155) = v5 c
          ∧ r.2.mem ((c.tc : Thread Cert.XattnReferenceIdeal.nD Cert.XattnReferenceIdeal.τ).loc Cert.XattnReferenceIdeal.main_v94) = v6 c
          ∧ r.2.mem ((c.tc : Thread Cert.XattnReferenceIdeal.nD Cert.XattnReferenceIdeal.τ).loc Cert.XattnReferenceIdeal.main_v180) = v7 c
          ∧ r.2.mem ((c.tc : Thread Cert.XattnReferenceIdeal.nD Cert.XattnReferenceIdeal.τ).loc Cert.XattnReferenceIdeal.main_v181) = v8 c
          ∧ r.2.mem ((c.tc : Thread Cert.XattnReferenceIdeal.nD Cert.XattnReferenceIdeal.τ).loc Cert.XattnReferenceIdeal.main_v182) = v9 c
          ∧ r.2.mem ((c.tc : Thread Cert.XattnReferenceIdeal.nD Cert.XattnReferenceIdeal.τ).loc Cert.XattnReferenceIdeal.main_v183) = v10 c
          ∧ r.2.mem ((c.tc : Thread Cert.XattnReferenceIdeal.nD Cert.XattnReferenceIdeal.τ).loc Cert.XattnReferenceIdeal.main_v184) = v11 c
          ∧ r.2.mem ((c.tc : Thread Cert.XattnReferenceIdeal.nD Cert.XattnReferenceIdeal.τ).loc Cert.XattnReferenceIdeal.main_arg0) = m' ((c.tc : Thread Cert.XattnReferenceIdeal.nD Cert.XattnReferenceIdeal.τ).loc Cert.XattnReferenceIdeal.main_arg0)
          ∧ r.2.mem ((c.tc : Thread Cert.XattnReferenceIdeal.nD Cert.XattnReferenceIdeal.τ).loc Cert.XattnReferenceIdeal.main_arg1) = m' ((c.tc : Thread Cert.XattnReferenceIdeal.nD Cert.XattnReferenceIdeal.τ).loc Cert.XattnReferenceIdeal.main_arg1)
          ∧ r.2.mem ((c.tc : Thread Cert.XattnReferenceIdeal.nD Cert.XattnReferenceIdeal.τ).loc Cert.XattnReferenceIdeal.main_arg2) = m' ((c.tc : Thread Cert.XattnReferenceIdeal.nD Cert.XattnReferenceIdeal.τ).loc Cert.XattnReferenceIdeal.main_arg2)
          ∧ r.2.mem ((c.tc : Thread Cert.XattnReferenceIdeal.nD Cert.XattnReferenceIdeal.τ).loc Cert.XattnReferenceIdeal.main_arg3) = m' ((c.tc : Thread Cert.XattnReferenceIdeal.nD Cert.XattnReferenceIdeal.τ).loc Cert.XattnReferenceIdeal.main_arg3)
          ∧ r.2.mem ((c.tc : Thread Cert.XattnReferenceIdeal.nD Cert.XattnReferenceIdeal.τ).loc Cert.XattnReferenceIdeal.main_arg4) = m' ((c.tc : Thread Cert.XattnReferenceIdeal.nD Cert.XattnReferenceIdeal.τ).loc Cert.XattnReferenceIdeal.main_arg4)
          ∧ r.2.mem ((c.tc : Thread Cert.XattnReferenceIdeal.nD Cert.XattnReferenceIdeal.τ).loc Cert.XattnReferenceIdeal.main_arg5) = m' ((c.tc : Thread Cert.XattnReferenceIdeal.nD Cert.XattnReferenceIdeal.τ).loc Cert.XattnReferenceIdeal.main_arg5)
          ∧ r.2.mem ((c.tc : Thread Cert.XattnReferenceIdeal.nD Cert.XattnReferenceIdeal.τ).loc Cert.XattnReferenceIdeal.main_arg6) = m' ((c.tc : Thread Cert.XattnReferenceIdeal.nD Cert.XattnReferenceIdeal.τ).loc Cert.XattnReferenceIdeal.main_arg6)
          ∧ r.2.mem ((c.tc : Thread Cert.XattnReferenceIdeal.nD Cert.XattnReferenceIdeal.τ).loc Cert.XattnReferenceIdeal.main_arg7) = m' ((c.tc : Thread Cert.XattnReferenceIdeal.nD Cert.XattnReferenceIdeal.τ).loc Cert.XattnReferenceIdeal.main_arg7)
          ∧ r.2.mem ((c.tc : Thread Cert.XattnReferenceIdeal.nD Cert.XattnReferenceIdeal.τ).loc Cert.XattnReferenceIdeal.main_arg8) = m' ((c.tc : Thread Cert.XattnReferenceIdeal.nD Cert.XattnReferenceIdeal.τ).loc Cert.XattnReferenceIdeal.main_arg8)
          ∧ r.2.mem ((c.tc : Thread Cert.XattnReferenceIdeal.nD Cert.XattnReferenceIdeal.τ).loc Cert.XattnReferenceIdeal.main_arg9) = m' ((c.tc : Thread Cert.XattnReferenceIdeal.nD Cert.XattnReferenceIdeal.τ).loc Cert.XattnReferenceIdeal.main_arg9)
          ∧ r.2.mem ((c.tc : Thread Cert.XattnReferenceIdeal.nD Cert.XattnReferenceIdeal.τ).loc Cert.XattnReferenceIdeal.main_arg10) = m' ((c.tc : Thread Cert.XattnReferenceIdeal.nD Cert.XattnReferenceIdeal.τ).loc Cert.XattnReferenceIdeal.main_arg10)
          ∧ r.2.mem ((c.tc : Thread Cert.XattnReferenceIdeal.nD Cert.XattnReferenceIdeal.τ).loc Cert.XattnReferenceIdeal.main_arg11) = m' ((c.tc : Thread Cert.XattnReferenceIdeal.nD Cert.XattnReferenceIdeal.τ).loc Cert.XattnReferenceIdeal.main_arg11)
          ∧ r.2.mem ((c.tc : Thread Cert.XattnReferenceIdeal.nD Cert.XattnReferenceIdeal.τ).loc Cert.XattnReferenceIdeal.main_arg12) = m' ((c.tc : Thread Cert.XattnReferenceIdeal.nD Cert.XattnReferenceIdeal.τ).loc Cert.XattnReferenceIdeal.main_arg12))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3)) (v1 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_v4) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v13) = v0 c
          ∧ r.2.mem ((c.tc : Thread Cert.ProjReferenceIdeal.nD Cert.ProjReferenceIdeal.τ).loc Cert.ProjReferenceIdeal.main_v19) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)
      ∧ m' ((c.tc : Thread Cert.DhReferenceIdeal.nD Cert.DhReferenceIdeal.τ).loc Cert.DhReferenceIdeal.main_arg3) = m ((c.tc : Thread Cert.DhIdeal.nD Cert.DhIdeal.τ).loc Cert.DhIdeal.main_arg3)
      ∧ m' ((c.tc : Thread Cert.DhReferenceIdeal.nD Cert.DhReferenceIdeal.τ).loc Cert.DhReferenceIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v2_0)) (v1 : (c : Dev Cert.DhIdeal.nD) → Buf (Elt Ideal) ((c.tc : Thread Cert.DhIdeal.nD Cert.DhIdeal.τ).loc Cert.DhIdeal.main_v2_1)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v2_0) = v0 c
          ∧ r.2.mem ((c.tc : Thread Cert.DhIdeal.nD Cert.DhIdeal.τ).loc Cert.DhIdeal.main_v2_1) = v1 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v38) = v0 c
          ∧ r.2.mem ((c.tc : Thread Cert.DhReferenceIdeal.nD Cert.DhReferenceIdeal.τ).loc Cert.DhReferenceIdeal.main_v21) = v1 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_Mix_MixIdeal : Prop :=
  True

def algebraic_MixIdeal_MixReferenceIdeal_pre_finite_mix [hMixIdeal : Cert.MixIdeal.Facts] [hMixReferenceIdeal : Cert.MixReferenceIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_finite_mix m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v97) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_2)) (v1 : (c : Dev Cert.LossIdeal.nD) → Buf (Elt Ideal) ((c.tc : Thread Cert.LossIdeal.nD Cert.LossIdeal.τ).loc Cert.LossIdeal.main_v0_0)) (v2 : (c : Dev Cert.LossIdeal.nD) → Buf (Elt Ideal) ((c.tc : Thread Cert.LossIdeal.nD Cert.LossIdeal.τ).loc Cert.LossIdeal.main_v0_1)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_2) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_v0_1) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v49) = v0 c
          ∧ r.2.mem ((c.tc : Thread Cert.LossReferenceIdeal.nD Cert.LossReferenceIdeal.τ).loc Cert.LossReferenceIdeal.main_v48) = v1 c
          ∧ r.2.mem ((c.tc : Thread Cert.LossReferenceIdeal.nD Cert.LossReferenceIdeal.τ).loc Cert.LossReferenceIdeal.main_v50) = v2 c
          ∧ r.2.mem ((c.tc : Thread Cert.LossReferenceIdeal.nD Cert.LossReferenceIdeal.τ).loc Cert.LossReferenceIdeal.main_v32) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def Claim : Prop :=
  ∃ (hKernel : Cert.Kernel.Facts) (hKernelIdeal : Cert.KernelIdeal.Facts) (hReferenceIdeal : Cert.ReferenceIdeal.Facts) (hXattn : Cert.Xattn.Facts) (hXattnIdeal : Cert.XattnIdeal.Facts) (hXattnReferenceIdeal : Cert.XattnReferenceIdeal.Facts) (hProj : Cert.Proj.Facts) (hProjIdeal : Cert.ProjIdeal.Facts) (hProjReferenceIdeal : Cert.ProjReferenceIdeal.Facts) (hDh : Cert.Dh.Facts) (hDhIdeal : Cert.DhIdeal.Facts) (hDhReferenceIdeal : Cert.DhReferenceIdeal.Facts) (hMix : Cert.Mix.Facts) (hMixIdeal : Cert.MixIdeal.Facts) (hMixReferenceIdeal : Cert.MixReferenceIdeal.Facts) (hLoss : Cert.Loss.Facts) (hLossIdeal : Cert.LossIdeal.Facts) (hLossReferenceIdeal : Cert.LossReferenceIdeal.Facts) (hPre_finite : Cert.Pre_finite.Facts) (hPre_finite_xattn : Cert.Pre_finite_xattn.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Xattn (hXattn := hXattn)
    ∧ quiescent_XattnIdeal (hXattnIdeal := hXattnIdeal)
    ∧ quiescent_XattnIdeal_pre_finite_xattn (hXattnIdeal := hXattnIdeal) (hPre_finite_xattn := hPre_finite_xattn)
    ∧ quiescent_XattnReferenceIdeal (hXattnReferenceIdeal := hXattnReferenceIdeal)
    ∧ quiescent_XattnReferenceIdeal_pre_finite_xattn (hXattnReferenceIdeal := hXattnReferenceIdeal) (hPre_finite_xattn := hPre_finite_xattn)
    ∧ quiescent_Proj (hProj := hProj)
    ∧ quiescent_ProjIdeal (hProjIdeal := hProjIdeal)
    ∧ quiescent_ProjReferenceIdeal (hProjReferenceIdeal := hProjReferenceIdeal)
    ∧ quiescent_Dh (hDh := hDh)
    ∧ quiescent_DhIdeal (hDhIdeal := hDhIdeal)
    ∧ quiescent_DhReferenceIdeal (hDhReferenceIdeal := hDhReferenceIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixReferenceIdeal (hMixReferenceIdeal := hMixReferenceIdeal)
    ∧ quiescent_MixReferenceIdeal_pre_finite_mix (hMixReferenceIdeal := hMixReferenceIdeal) (hPre_finite_mix := hPre_finite_mix)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Xattn_XattnIdeal
    ∧ algebraic_XattnIdeal_XattnReferenceIdeal_pre_finite_xattn (hXattnIdeal := hXattnIdeal) (hXattnReferenceIdeal := hXattnReferenceIdeal) (hPre_finite_xattn := hPre_finite_xattn)
    ∧ preserves_Proj_ProjIdeal
    ∧ algebraic_ProjIdeal_ProjReferenceIdeal (hProjIdeal := hProjIdeal) (hProjReferenceIdeal := hProjReferenceIdeal)
    ∧ preserves_Dh_DhIdeal
    ∧ algebraic_DhIdeal_DhReferenceIdeal (hDhIdeal := hDhIdeal) (hDhReferenceIdeal := hDhReferenceIdeal)
    ∧ preserves_Mix_MixIdeal
    ∧ algebraic_MixIdeal_MixReferenceIdeal_pre_finite_mix (hMixIdeal := hMixIdeal) (hMixReferenceIdeal := hMixReferenceIdeal) (hPre_finite_mix := hPre_finite_mix)
    ∧ preserves_Loss_LossIdeal
    ∧ algebraic_LossIdeal_LossReferenceIdeal (hLossIdeal := hLossIdeal) (hLossReferenceIdeal := hLossReferenceIdeal)
-- ==== Pre_finite.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  main_v18

def fn {F : FTy → Type} [FloatOps F] (main_arg0 : FVec F S4096x2048 .f32) (main_arg1 : FVec F S4096x2048 .bf16) (main_arg2 : FVec F S2048x5632 .bf16) (main_arg3 : FVec F S2048x5632 .bf16) (main_arg4 : FVec F S5632x2048 .bf16) (main_arg5 : FVec F S4096x2048 .bf16) : IVec S_ 1 :=
  let main_v0 : FVec F S4096x2048 .bf16 := Host.absf main_arg1
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x5632 .bf16 := Host.absf main_arg3
  let main_cst_0 : FVec F S_ .bf16 := constant S_ .bf16 0x7F80#16
  let main_v5 : FVec F S2048x5632 .bf16 := broadcastInDim S2048x5632 ![] bcast_S_S2048x5632 main_cst_0
  let main_v6 : IVec S2048x5632 1 := cmpf .olt main_v4 main_v5
  let main_c_1 : IVec S_ 1 := constantI S_ 1 1#1
  let main_v7 : IVec S_ 1 := (fun x v => Host.reduce IntOp.andi x v reducesTo_S2048x5632_S_d0_1 h_S_) main_v6 main_c_1
  let main_v8 : IVec S_ 1 := andi main_v3 main_v7
  let main_v9 : FVec F S5632x2048 .bf16 := Host.absf main_arg4
  let main_cst_2 : FVec F S_ .bf16 := constant S_ .bf16 0x7F80#16
  let main_v10 : FVec F S5632x2048 .bf16 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S4096x2048 .bf16 := Host.absf main_arg5
  let main_cst_4 : FVec F S_ .bf16 := constant S_ .bf16 0x7F80#16
  let main_v15 : FVec F S4096x2048 .bf16 := broadcastInDim S4096x2048 ![] bcast_S_S4096x2048 main_cst_4
  let main_v16 : IVec S4096x2048 1 := cmpf .olt main_v14 main_v15
  fn_part1 (F := F) main_v13 main_v16
-- ==== Pre_finite_mix.lean ====
abbrev S4096x3072 : Shape := ⟨2, ![4096, 3072]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩

class Facts : Prop where
  slices_S4096x3072_S4096x1024_0_0 : S4096x3072.Slices ![0, 0] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x3072 .f32) (main_arg1 : FVec F S4x256x256 .bf16) (main_arg2 : FVec F S1x1024 .f32) (main_arg3 : FVec F S1x1024 .f32) (main_arg4 : FVec F S8x128x128 .f32) (main_arg5 : FVec F S8x128 .f32) : IVec S_ 1 :=
  let main_v0 : FVec F S4096x1024 .f32 := (extractStridedSlice S4096x1024 ![0, 0] · slices_S4096x3072_S4096x1024_0_0) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  main_v4
-- ==== Pre_finite_xattn.lean ====
abbrev S4096x2048 : Shape := ⟨2, ![4096, 2048]⟩
abbrev S256x2048 : Shape := ⟨2, ![256, 2048]⟩
abbrev S1x2048 : Shape := ⟨2, ![1, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg12 : FVec F S4096x2048 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S4096x2048 .f32 := Host.absf main_arg12
  let main_cst_22 : FVec F S_ .f32 := constant S_ .f32 0x7F800000#32
  let main_v49 : FVec F S4096x2048 .f32 := broadcastInDim S4096x2048 ![] bcast_S_S4096x2048 main_cst_22
  let main_v50 : IVec S4096x2048 1 := cmpf .olt main_v48 main_v49
  let main_c_23 : IVec S_ 1 := constantI S_ 1 1#1
  let main_v51 : IVec S_ 1 := (fun x v => Host.reduce IntOp.andi x v reducesTo_S4096x2048_S_d0_1 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg8 : FVec F S2048x2048 .bf16) (main_arg9 : FVec F S2048x2048 .bf16) (main_arg10 : FVec F S2048x2048 .bf16) (main_arg11 : FVec F S4096x2048 .f32) (main_arg12 : FVec F S4096x2048 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2048x2048 .bf16 := Host.absf main_arg8
  let main_cst_14 : FVec F S_ .bf16 := constant S_ .bf16 0x7F80#16
  let main_v33 : FVec F S2048x2048 .bf16 := broadcastInDim S2048x2048 ![] bcast_S_S2048x2048 main_cst_14
  let main_v34 : IVec S2048x2048 1 := cmpf .olt main_v32 main_v33
  let main_c_15 : IVec S_ 1 := constantI S_ 1 1#1
  let main_v35 : IVec S_ 1 := (fun x v => Host.reduce IntOp.andi x v reducesTo_S2048x2048_S_d0_1 h_S_) main_v34 main_c_15
  let main_v36 : FVec F S2048x2048 .bf16 := Host.absf main_arg9
  let main_cst_16 : FVec F S_ .bf16 := constant S_ .bf16 0x7F80#16
  let main_v37 : FVec F S2048x2048 .bf16 := broadcastInDim S2048x2048 ![] bcast_S_S2048x2048 main_cst_16
  let main_v38 : IVec S2048x2048 1 := cmpf .olt main_v36 main_v37
  let main_c_17 : IVec S_ 1 := constantI S_ 1 1#1
  let main_v39 : IVec S_ 1 := (fun x v => Host.reduce IntOp.andi x v reducesTo_S2048x2048_S_d0_1 h_S_) main_v38 main_c_17
  let main_v40 : FVec F S2048x2048 .bf16 := Host.absf main_arg10
  let main_cst_18 : FVec F S_ .bf16 := constant S_ .bf16 0x7F80#16
  let main_v41 : FVec F S2048x2048 .bf16 := broadcastInDim S2048x2048 ![] bcast_S_S2048x2048 main_cst_18
  let main_v42 : IVec S2048x2048 1 := cmpf .olt main_v40 main_v41
  let main_c_19 : IVec S_ 1 := constantI S_ 1 1#1
  let main_v43 : IVec S_ 1 := (fun x v => Host.reduce IntOp.andi x v reducesTo_S2048x2048_S_d0_1 h_S_) main_v42 main_c_19
  let main_v44 : FVec F S4096x2048 .f32 := Host.absf main_arg11
  let main_cst_20 : FVec F S_ .f32 := constant S_ .f32 0x7F800000#32
  let main_v45 : FVec F S4096x2048 .f32 := broadcastInDim S4096x2048 ![] bcast_S_S4096x2048 main_cst_20
  let main_v46 : IVec S4096x2048 1 := cmpf .olt main_v44 main_v45
  let main_c_21 : IVec S_ 1 := constantI S_ 1 1#1
  let main_v47 : IVec S_ 1 := (fun x v => Host.reduce IntOp.andi x v reducesTo_S4096x2048_S_d0_1 h_S_) main_v46 main_c_21
  fn_part3 (F := F) main_arg12 main_v3 main_v7 main_v11 main_v15 main_v19 main_v23 main_v27 main_v31 main_v35 main_v39 main_v43 main_v47

def fn_part1 {F : FTy → Type} [FloatOps F] (main_arg4 : FVec F S1x2048 .f32) (main_arg5 : FVec F S1x2048 .f32) (main_arg6 : FVec F S2048x2048 .bf16) (main_arg7 : FVec F S2048x2048 .bf16) (main_arg8 : FVec F S2048x2048 .bf16) (main_arg9 : FVec F S2048x2048 .bf16) (main_arg10 : FVec F S2048x2048 .bf16) (main_arg11 : FVec F S4096x2048 .f32) (main_arg12 : FVec F S4096x2048 .f32) (main_v3 : IVec S_ 1) (main_v7 : IVec S_ 1) (main_v11 : IVec S_ 1) (main_v15 : IVec S_ 1) : IVec S_ 1 :=
  let main_v16 : FVec F S1x2048 .f32 := Host.absf main_arg4
  let main_cst_6 : FVec F S_ .f32 := constant S_ .f32 0x7F800000#32
  let main_v17 : FVec F S1x2048 .f32 := broadcastInDim S1x2048 ![] bcast_S_S1x2048 main_cst_6
  let main_v18 : IVec S1x2048 1 := cmpf .olt main_v16 main_v17
  let main_c_7 : IVec S_ 1 := constantI S_ 1 1#1
  let main_v19 : IVec S_ 1 := (fun x v => Host.reduce IntOp.andi x v reducesTo_S1x2048_S_d0_1 h_S_) main_v18 main_c_7
  let main_v20 : FVec F S1x2048 .f32 := Host.absf main_arg5
  let main_cst_8 : FVec F S_ .f32 := constant S_ .f32 0x7F800000#32
  let main_v21 : FVec F S1x2048 .f32 := broadcastInDim S1x2048 ![] bcast_S_S1x2048 main_cst_8
  let main_v22 : IVec S1x2048 1 := cmpf .olt main_v20 main_v21
  let main_c_9 : IVec S_ 1 := constantI S_ 1 1#1
  let main_v23 : IVec S_ 1 := (fun x v => Host.reduce IntOp.andi x v reducesTo_S1x2048_S_d0_1 h_S_) main_v22 main_c_9
  let main_v24 : FVec F S2048x2048 .bf16 := Host.absf main_arg6
  let main_cst_10 : FVec F S_ .bf16 := constant S_ .bf16 0x7F80#16
  let main_v25 : FVec F S2048x2048 .bf16 := broadcastInDim S2048x2048 ![] bcast_S_S2048x2048 main_cst_10
  let main_v26 : IVec S2048x2048 1 := cmpf .olt main_v24 main_v25
  let main_c_11 : IVec S_ 1 := constantI S_ 1 1#1
  let main_v27 : IVec S_ 1 := (fun x v => Host.reduce IntOp.andi x v reducesTo_S2048x2048_S_d0_1 h_S_) main_v26 main_c_11
  let main_v28 : FVec F S2048x2048 .bf16 := Host.absf main_arg7
  let main_cst_12 : FVec F S_ .bf16 := constant S_ .bf16 0x7F80#16
  let main_v29 : FVec F S2048x2048 .bf16 := broadcastInDim S2048x2048 ![] bcast_S_S2048x2048 main_cst_12
  let main_v30 : IVec S2048x2048 1 := cmpf .olt main_v28 main_v29
  let main_c_13 : IVec S_ 1 := constantI S_ 1 1#1
  let main_v31 : IVec S_ 1 := (fun x v => Host.reduce IntOp.andi x v reducesTo_S2048x2048_S_d0_1 h_S_) main_v30 main_c_13
  fn_part2 (F := F) main_arg8 main_arg9 main_arg10 main_arg11 main_arg12 main_v3 main_v7 main_v11 main_v15 main_v19 main_v23 main_v27 main_v31

def fn {F : FTy → Type} [FloatOps F] (main_arg0 : FVec F S4096x2048 .bf16) (main_arg1 : FVec F S4096x2048 .f32) (main_arg2 : FVec F S256x2048 .f32) (main_arg3 : FVec F S1x2048 .f32) (main_arg4 : FVec F S1x2048 .f32) (main_arg5 : FVec F S1x2048 .f32) (main_arg6 : FVec F S2048x2048 .bf16) (main_arg7 : FVec F S2048x2048 .bf16) (main_arg8 : FVec F S2048x2048 .bf16) (main_arg9 : FVec F S2048x2048 .bf16) (main_arg10 : FVec F S2048x2048 .bf16) (main_arg11 : FVec F S4096x2048 .f32) (main_arg12 : FVec F S4096x2048 .f32) : IVec S_ 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : FVec F S256x2048 .f32 := Host.absf main_arg2
  let main_cst_2 : FVec F S_ .f32 := constant S_ .f32 0x7F800000#32
  let main_v9 : FVec F S256x2048 .f32 := broadcastInDim S256x2048 ![] bcast_S_S256x2048 main_cst_2
  let main_v10 : IVec S256x2048 1 := cmpf .olt main_v8 main_v9
  let main_c_3 : IVec S_ 1 := constantI S_ 1 1#1
  let main_v11 : IVec S_ 1 := (fun x v => Host.reduce IntOp.andi x v reducesTo_S256x2048_S_d0_1 h_S_) main_v10 main_c_3
  let main_v12 : FVec F S1x2048 .f32 := Host.absf main_arg3
  let main_cst_4 : FVec F S_ .f32 := constant S_ .f32 0x7F800000#32
  let main_v13 : FVec F S1x2048 .f32 := broadcastInDim S1x2048 ![] bcast_S_S1x2048 main_cst_4
  let main_v14 : IVec S1x2048 1 := cmpf .olt main_v12 main_v13
  let main_c_5 : IVec S_ 1 := constantI S_ 1 1#1
  let main_v15 : IVec S_ 1 := (fun x v => Host.reduce IntOp.andi x v reducesTo_S1x2048_S_d0_1 h_S_) main_v14 main_c_5
  fn_part1 (F := F) main_arg4 main_arg5 main_arg6 main_arg7 main_arg8 main_arg9 main_arg10 main_arg11 main_arg12 main_v3 main_v7 main_v11 main_v15
-- ==== Kernel.lean ====
abbrev S4096x2048 : Shape := ⟨2, ![4096, 2048]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S512x5632 : Shape := ⟨2, ![512, 5632]⟩
abbrev S5632x1024 : Shape := ⟨2, ![5632, 1024]⟩
abbrev S512x1024 : Shape := ⟨2, ![512, 1024]⟩
abbrev S1024x2048 : Shape := ⟨2, ![1024, 2048]⟩
abbrev S1408x2048 : Shape := ⟨2, ![1408, 2048]⟩
abbrev S1024x1408 : Shape := ⟨2, ![1024, 1408]⟩
abbrev S4096x512 : Shape := ⟨2, ![4096, 512]⟩
abbrev S4096x1024 : Shape := ⟨2, ![4096, 1024]⟩
abbrev S4096x1408 : Shape := ⟨2, ![4096, 1408]⟩
abbrev S1x1024x1408 : Shape := ⟨3, ![1, 1024, 1408]⟩
abbrev S1024x1024 : Shape := ⟨2, ![1024, 1024]⟩

abbrev nBuf : Space → Nat
  | .hbm => 20
  | .vmem => 60
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4096x2048, .bf16⟩
  | .hbm, ⟨6, _⟩ => ⟨S2048x4x1408, .bf16⟩
  | .hbm, ⟨7, _⟩ => ⟨S4x2048x1408, .bf16⟩
  | .hbm, ⟨8, _⟩ => ⟨S2048x4x1408, .bf16⟩
  | .hbm, ⟨9, _⟩ => ⟨S4x2048x1408, .bf16⟩
  | .hbm, ⟨10, _⟩ => ⟨S4096x5632, .bf16⟩
  | .hbm, ⟨11, _⟩ => ⟨S4096x5632, .bf16⟩
  | .hbm, ⟨12, _⟩ => ⟨S4096x5632, .bf16⟩
  | .hbm, ⟨13, _⟩ => ⟨S4096x2048, .f32⟩
  | .hbm, ⟨14, _⟩ => ⟨S4096x5632, .bf16⟩
  | .hbm, ⟨15, _⟩ => ⟨S4096x5632, .bf16⟩
  | .hbm, ⟨16, _⟩ => ⟨S5632x2048, .bf16⟩
  | .hbm, ⟨17, _⟩ => ⟨S4x2048x1408, .bf16⟩
  | .hbm, ⟨18, _⟩ => ⟨S4x2048x1408, .bf16⟩
  | .hbm, ⟨19, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x5632, .bf16⟩
  | .local _ .vmem, ⟨13, _⟩ => ⟨S512x5632, .bf16⟩
  | .local _ .vmem, ⟨14, _⟩ => ⟨S5632x1024, .bf16⟩
  | .local _ .vmem, ⟨15, _⟩ => ⟨S5632x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1024x2048, .bf16⟩
  | .local _ .vmem, ⟨21, _⟩ => ⟨S1024x2048, .bf16⟩
  | .local _ .vmem, ⟨22, _⟩ => ⟨S1408x2048, .bf16⟩
  | .local _ .vmem, ⟨23, _⟩ => ⟨S1408x2048, .bf16⟩
  | .local _ .vmem, ⟨24, _⟩ => ⟨S1024x1408, .bf16⟩
  | .local _ .vmem, ⟨25, _⟩ => ⟨S1024x1408, .bf16⟩
  | .local _ .vmem, ⟨26, _⟩ => ⟨S1024x1408, .bf16⟩
  | .local _ .vmem, ⟨27, _⟩ => ⟨S1024x1408, .bf16⟩
  | .local _ .vmem, ⟨28, _⟩ => ⟨S1024x1408, .bf16⟩
  | .local _ .vmem, ⟨29, _⟩ => ⟨S1024x1408, .bf16⟩
  | .local _ .vmem, ⟨30, _⟩ => ⟨S1024x1408, .bf16⟩
  | .local _ .vmem, ⟨31, _⟩ => ⟨S1024x1408, .bf16⟩
  | .local _ .vmem, ⟨32, _⟩ => ⟨S4096x512, .bf16⟩
  | .local _ .vmem, ⟨33, _⟩ => ⟨S4096x512, .bf16⟩
  | .local _ .vmem, ⟨34, _⟩ => ⟨S4096x1024, .bf16⟩
  | .local _ .vmem, ⟨35, _⟩ => ⟨S4096x1024, .bf16⟩
  | .local _ .vmem, ⟨36, _⟩ => ⟨S512x1024, .bf16⟩
  | .local _ .vmem, ⟨37, _⟩ => ⟨S512x1024, .bf16⟩
  | .local _ .vmem, ⟨38, _⟩ => ⟨S4096x1024, .bf16⟩
  | .local _ .vmem, ⟨39, _⟩ => ⟨S4096x1024, .bf16⟩
  | .local _ .vmem, ⟨40, _⟩ => ⟨S4096x1408, .bf16⟩
  | .local _ .vmem, ⟨41, _⟩ => ⟨S4096x1408, .bf16⟩
  | .local _ .vmem, ⟨42, _⟩ => ⟨S1x1024x1408, .bf16⟩
  | .local _ .vmem, ⟨43, _⟩ => ⟨S1x1024x1408, .bf16⟩
  | .local _ .vmem, ⟨44, _⟩ => ⟨S4096x1024, .bf16⟩
  | .local _ .vmem, ⟨45, _⟩ => ⟨S4096x1024, .bf16⟩
  | .local _ .vmem, ⟨46, _⟩ => ⟨S4096x1408, .bf16⟩
  | .local _ .vmem, ⟨47, _⟩ => ⟨S4096x1408, .bf16⟩
  | .local _ .vmem, ⟨48, _⟩ => ⟨S1x1024x1408, .bf16⟩
  | .local _ .vmem, ⟨49, _⟩ => ⟨S1x1024x1408, .bf16⟩
  | .local _ .vmem, ⟨50, _⟩ => ⟨S1024x1408, .bf16⟩
  | .local _ .vmem, ⟨51, _⟩ => ⟨S1024x1408, .bf16⟩
  | .local _ .vmem, ⟨52, _⟩ => ⟨S1024x1408, .bf16⟩
  | .local _ .vmem, ⟨53, _⟩ => ⟨S1024x1408, .bf16⟩
  | .local _ .vmem, ⟨54, _⟩ => ⟨S1x1024x1408, .bf16⟩
  | .local _ .vmem, ⟨55, _⟩ => ⟨S1x1024x1408, .bf16⟩
  | .local _ .vmem, ⟨56, _⟩ => ⟨S1x1024x1408, .bf16⟩
  | .local _ .vmem, ⟨57, _⟩ => ⟨S1x1024x1408, .bf16⟩
  | .local _ .vmem, ⟨58, _⟩ => ⟨S1024x1024, .f32⟩
  | .local _ .vmem, ⟨59, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg4_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc6_sem3_0 : DmaSem sig := 56
abbrev cc6_sem3_1 : DmaSem sig := 57
abbrev cc6_sem4_0 : DmaSem sig := 58
abbrev cc6_sem4_1 : DmaSem sig := 59

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S5632x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1024x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1024x1408 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev grid3 : Pipeline.Grid := ⟨3, ![11, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 2, 4], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc6_transform_3 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1x1024x1408 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, true]

abbrev stage6_3 : Fin 2 → Memref sig .tc .vmem S1x1024x1408 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![false, true, true]

abbrev stage6_4 : Fin 2 → Memref sig .tc .vmem S1024x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, false]
-- ==== ReferenceIdeal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S2048x4x1408 : Shape := ⟨3, ![2048, 4, 1408]⟩
abbrev S4x2048x1408 : Shape := ⟨3, ![4, 2048, 1408]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4096x2048, .bf16⟩
  | .hbm, ⟨6, _⟩ => ⟨S4096x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S4096x2048, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x2048, .f32⟩
  | .hbm, ⟨28, _⟩ => ⟨S2048x5632, .f32⟩
  | .hbm, ⟨29, _⟩ => ⟨S5632x2048, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S5632x2048, .f32⟩
  | .hbm, ⟨34, _⟩ => ⟨S2048x5632, .f32⟩
  | .hbm, ⟨35, _⟩ => ⟨S4096x2048, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S5632x2048, .f32⟩
  | .hbm, ⟨41, _⟩ => ⟨S2048x5632, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S2048x4x1408, .f32⟩
  | .hbm, ⟨46, _⟩ => ⟨S4x2048x1408, .f32⟩
  | .hbm, ⟨47, _⟩ => ⟨S4x2048x1408, .bf16⟩
  | .hbm, ⟨48, _⟩ => ⟨S2048x4x1408, .f32⟩
  | .hbm, ⟨49, _⟩ => ⟨S4x2048x1408, .f32⟩
  | .hbm, ⟨50, _⟩ => ⟨S4x2048x1408, .bf16⟩
  | .hbm, ⟨51, _⟩ => ⟨S5632x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v6_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v6_1 : Ref sig .tc := ⟨.hbm, 23, rfl⟩
abbrev main_v6_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Xattn.lean ====
abbrev S4096x2048 : Shape := ⟨2, ![4096, 2048]⟩
abbrev S256x2048 : Shape := ⟨2, ![256, 2048]⟩
abbrev S1x2048 : Shape := ⟨2, ![1, 2048]⟩
abbrev S2048x2048 : Shape := ⟨2, ![2048, 2048]⟩
abbrev S256 : Shape := ⟨1, ![256]⟩
abbrev S256x1 : Shape := ⟨2, ![256, 1]⟩
abbrev S512x2048 : Shape := ⟨2, ![512, 2048]⟩
abbrev S512 : Shape := ⟨1, ![512]⟩
abbrev S512x1 : Shape := ⟨2, ![512, 1]⟩
abbrev S2048x1024 : Shape := ⟨2, ![2048, 1024]⟩
abbrev S256x1024 : Shape := ⟨2, ![256, 1024]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩
abbrev S2048 : Shape := ⟨1, ![2048]⟩
abbrev S4096x1024 : Shape := ⟨2, ![4096, 1024]⟩
abbrev S1024x1024 : Shape := ⟨2, ![1024, 1024]⟩

abbrev nBuf : Space → Nat
  | .hbm => 40
  | .vmem => 132
  | .smem => 0
  | _ => 0

abbrev vmemTy0_0 (i : Nat) : BufTy := match i % 128 with
  | 0 => ⟨S256x2048, .f32⟩
  | 1 => ⟨S1x2048, .f32⟩
  | 2 => ⟨S256x2048, .bf16⟩
  | 3 => ⟨S512x2048, .bf16⟩
  | 4 => ⟨S512x2048, .bf16⟩
  | 5 => ⟨S2048x2048, .bf16⟩
  | 6 => ⟨S512x2048, .f32⟩
  | 7 => ⟨S512x2048, .f32⟩
  | 8 => ⟨S1x2048, .f32⟩
  | 9 => ⟨S512x2048, .f32⟩
  | 10 => ⟨S512x2048, .f32⟩
  | 11 => ⟨S512x2048, .bf16⟩
  | 12 => ⟨S512x2048, .bf16⟩
  | 13 => ⟨S2048x2048, .bf16⟩
  | 14 => ⟨S2048x2048, .bf16⟩
  | 15 => ⟨S2048x1024, .bf16⟩
  | 16 => ⟨S2048x1024, .bf16⟩
  | 17 => ⟨S2048x1024, .bf16⟩
  | 18 => ⟨S2048x1024, .bf16⟩
  | 19 => ⟨S256x2048, .bf16⟩
  | 20 => ⟨S2048x1024, .bf16⟩
  | 21 => ⟨S2048x1024, .bf16⟩
  | 22 => ⟨S256x1024, .bf16⟩
  | 23 => ⟨S256x1024, .bf16⟩
  | 24 => ⟨S256x2048, .bf16⟩
  | 25 => ⟨S2048x1024, .bf16⟩
  | 26 => ⟨S2048x1024, .bf16⟩
  | 27 => ⟨S256x1024, .bf16⟩
  | 28 => ⟨S256x1024, .bf16⟩
  | 29 => ⟨S1024x2048, .bf16⟩
  | 30 => ⟨S1024x2048, .bf16⟩
  | 31 => ⟨S256x2048, .bf16⟩
  | 32 => ⟨S256x2048, .bf16⟩
  | 33 => ⟨S1024x2048, .bf16⟩
  | 34 => ⟨S1024x2048, .bf16⟩
  | 35 => ⟨S512x2048, .bf16⟩
  | 36 => ⟨S512x2048, .bf16⟩
  | 37 => ⟨S2048x2048, .bf16⟩
  | 38 => ⟨S512x2048, .f32⟩
  | 39 => ⟨S512x2048, .f32⟩
  | 40 => ⟨S1x2048, .f32⟩
  | 41 => ⟨S512x2048, .f32⟩
  | 42 => ⟨S512x2048, .f32⟩
  | 43 => ⟨S512x2048, .bf16⟩
  | 44 => ⟨S512x2048, .bf16⟩
  | 45 => ⟨S256x2048, .f32⟩
  | 46 => ⟨S256x2048, .f32⟩
  | 47 => ⟨S256x2048, .f32⟩
  | 48 => ⟨S256x2048, .f32⟩
  | 49 => ⟨S1x2048, .f32⟩
  | 50 => ⟨S256x2048, .f32⟩
  | 51 => ⟨S256x2048, .f32⟩
  | 52 => ⟨S256x2048, .f32⟩
  | 53 => ⟨S256x2048, .f32⟩
  | 54 => ⟨S256x2048, .bf16⟩
  | 55 => ⟨S256x2048, .bf16⟩
  | 56 => ⟨S1x2048, .f32⟩
  | 57 => ⟨S2048x2048, .bf16⟩
  | 58 => ⟨S2048x2048, .bf16⟩
  | 59 => ⟨S1024x2048, .bf16⟩
  | 60 => ⟨S1024x2048, .bf16⟩
  | 61 => ⟨S2048x1024, .bf16⟩
  | 62 => ⟨S2048x1024, .bf16⟩
  | 63 => ⟨S4096x1024, .bf16⟩
  | 64 => ⟨S4096x1024, .bf16⟩
  | 65 => ⟨S4096x1024, .bf16⟩
  | 66 => ⟨S4096x1024, .bf16⟩
  | 67 => ⟨S1024x1024, .bf16⟩
  | 68 => ⟨S1024x1024, .bf16⟩
  | 69 => ⟨S1024x2048, .bf16⟩
  | 70 => ⟨S1024x2048, .bf16⟩
  | 71 => ⟨S256x2048, .bf16⟩
  | 72 => ⟨S256x2048, .bf16⟩
  | 73 => ⟨S1024x2048, .bf16⟩
  | 74 => ⟨S1024x2048, .bf16⟩
  | 75 => ⟨S1024x2048, .bf16⟩
  | 76 => ⟨S1024x2048, .bf16⟩
  | 77 => ⟨S256x2048, .f32⟩
  | 78 => ⟨S256x2048, .f32⟩
  | 79 => ⟨S4096x1024, .bf16⟩
  | 80 => ⟨S4096x1024, .bf16⟩
  | 81 => ⟨S4096x1024, .bf16⟩
  | 82 => ⟨S4096x1024, .bf16⟩
  | 83 => ⟨S1024x1024, .bf16⟩
  | 84 => ⟨S1024x1024, .bf16⟩
  | 85 => ⟨S512x2048, .bf16⟩
  | 86 => ⟨S512x2048, .bf16⟩
  | 87 => ⟨S2048x2048, .bf16⟩
  | 88 => ⟨S512x2048, .f32⟩
  | 89 => ⟨S512x2048, .f32⟩
  | 90 => ⟨S1x2048, .f32⟩
  | 91 => ⟨S512x2048, .f32⟩
  | 92 => ⟨S512x2048, .f32⟩
  | 93 => ⟨S512x2048, .f32⟩
  | 94 => ⟨S512x2048, .f32⟩
  | 95 => ⟨S512x2048, .bf16⟩
  | 96 => ⟨S512x2048, .bf16⟩
  | 97 => ⟨S1x2048, .f32⟩
  | 98 => ⟨S256x1024, .bf16⟩
  | 99 => ⟨S256x1024, .bf16⟩
  | 100 => ⟨S256x1024, .f32⟩
  | 101 => ⟨S256x1024, .f32⟩
  | 102 => ⟨S256x1024, .f32⟩
  | 103 => ⟨S256x1024, .f32⟩
  | 104 => ⟨S1024x1024, .bf16⟩
  | 105 => ⟨S1024x1024, .bf16⟩
  | 106 => ⟨S1024x1024, .bf16⟩
  | 107 => ⟨S1024x1024, .bf16⟩
  | 108 => ⟨S256x2048, .f32⟩
  | 109 => ⟨S256x2048, .f32⟩
  | 110 => ⟨S1024x2048, .bf16⟩
  | 111 => ⟨S1024x2048, .bf16⟩
  | 112 => ⟨S1024x2048, .bf16⟩
  | 113 => ⟨S1024x2048, .bf16⟩
  | 114 => ⟨S256x1024, .f32⟩
  | 115 => ⟨S256x1024, .f32⟩
  | 116 => ⟨S256x2048, .f32⟩
  | 117 => ⟨S256x2048, .f32⟩
  | 118 => ⟨S1x2048, .f32⟩
  | 119 => ⟨S1x2048, .f32⟩
  | 120 => ⟨S4096x1024, .bf16⟩
  | 121 => ⟨S4096x1024, .bf16⟩
  | 122 => ⟨S4096x1024, .bf16⟩
  | 123 => ⟨S4096x1024, .bf16⟩
  | 124 => ⟨S1024x1024, .bf16⟩
  | 125 => ⟨S1024x1024, .bf16⟩
  | 126 => ⟨S2048x2048, .bf16⟩
  | 127 => ⟨S2048x2048, .bf16⟩
  | _ => ⟨S4096x2048, .bf16⟩

abbrev vmemTy0_1 (i : Nat) : BufTy := match i % 128 with
  | 0 => ⟨S1024x2048, .bf16⟩
  | 1 => ⟨S1024x2048, .bf16⟩
  | 2 => ⟨S2048x1024, .f32⟩
  | 3 => ⟨S2048x1024, .f32⟩
  | _ => ⟨S4096x2048, .bf16⟩

abbrev vmemTy (i : Nat) : BufTy := match i / 128 with
  | 0 => vmemTy0_0 i
  | 1 => vmemTy0_1 i
  | _ => ⟨S4096x2048, .bf16⟩

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S256x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S4096x2048, .f32⟩
  | .hbm, ⟨12, _⟩ => ⟨S4096x2048, .f32⟩
  | .hbm, ⟨13, _⟩ => ⟨S256x2048, .bf16⟩
  | .hbm, ⟨14, _⟩ => ⟨S4096x2048, .f32⟩
  | .hbm, ⟨15, _⟩ => ⟨S4096x2048, .bf16⟩
  | .hbm, ⟨16, _⟩ => ⟨S4096x2048, .bf16⟩
  | .hbm, ⟨17, _⟩ => ⟨S256x2048, .bf16⟩
  | .hbm, ⟨18, _⟩ => ⟨S256x2048, .bf16⟩
  | .hbm, ⟨19, _⟩ => ⟨S4096x2048, .bf16⟩
  | .hbm, ⟨20, _⟩ => ⟨S4096x2048, .f32⟩
  | .hbm, ⟨21, _⟩ => ⟨S4096x2048, .bf16⟩
  | .hbm, ⟨22, _⟩ => ⟨S4096x2048, .f32⟩
  | .hbm, ⟨23, _⟩ => ⟨S4096x2048, .bf16⟩
  | .hbm, ⟨24, _⟩ => ⟨S1x2048, .f32⟩
  | .hbm, ⟨25, _⟩ => ⟨S4096x2048, .bf16⟩
  | .hbm, ⟨26, _⟩ => ⟨S2048x2048, .bf16⟩
  | .hbm, ⟨27, _⟩ => ⟨S4096x2048, .bf16⟩
  | .hbm, ⟨28, _⟩ => ⟨S256x2048, .f32⟩
  | .hbm, ⟨29, _⟩ => ⟨S256x2048, .f32⟩
  | .hbm, ⟨30, _⟩ => ⟨S2048x2048, .bf16⟩
  | .hbm, ⟨31, _⟩ => ⟨S4096x2048, .f32⟩
  | .hbm, ⟨32, _⟩ => ⟨S4096x2048, .bf16⟩
  | .hbm, ⟨33, _⟩ => ⟨S1x2048, .f32⟩
  | .hbm, ⟨34, _⟩ => ⟨S2048x2048, .bf16⟩
  | .hbm, ⟨35, _⟩ => ⟨S2048x2048, .bf16⟩
  | .hbm, ⟨36, _⟩ => ⟨S256x2048, .f32⟩
  | .hbm, ⟨37, _⟩ => ⟨S1x2048, .f32⟩
  | .hbm, ⟨38, _⟩ => ⟨S2048x2048, .bf16⟩
  | .hbm, ⟨39, _⟩ => ⟨S4096x2048, .f32⟩
  | .local _ .vmem, ⟨i, _⟩ => vmemTy i
  | _, _ => ⟨S4096x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 132 → Bool
  | ⟨i, _⟩ => dmaSemScopedAt i

abbrev sig : RefSig :=
  ofTc nBuf bufTy 0 132 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v10_2 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev main_v12_2 : Ref sig .tc := ⟨.hbm, 33, rfl⟩
abbrev main_v13_0 : Ref sig .tc := ⟨.hbm, 34, rfl⟩
abbrev main_v13_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc6_stg3_0 : Ref sig .tc := ⟨.vmem, 40, rfl⟩
abbrev cc6_stg4_0 : Ref sig .tc := ⟨.vmem, 41, rfl⟩
abbrev cc6_stg4_1 : Ref sig .tc := ⟨.vmem, 42, rfl⟩
abbrev cc6_stg5_0 : Ref sig .tc := ⟨.vmem, 43, rfl⟩
abbrev cc6_stg5_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc7_stg4_0 : Ref sig .tc := ⟨.vmem, 52, rfl⟩
abbrev cc7_stg4_1 : Ref sig .tc := ⟨.vmem, 53, rfl⟩
abbrev cc7_stg5_0 : Ref sig .tc := ⟨.vmem, 54, rfl⟩
abbrev cc7_stg5_1 : Ref sig .tc := ⟨.vmem, 55, rfl⟩
abbrev cc7_stg6_0 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg2_1 : Ref sig .tc := ⟨.vmem, 62, rfl⟩
abbrev cc9_stg0_0 : Ref sig .tc := ⟨.vmem, 63, rfl⟩
abbrev cc9_stg0_1 : Ref sig .tc := ⟨.vmem, 64, rfl⟩
abbrev cc9_stg1_0 : Ref sig .tc := ⟨.vmem, 65, rfl⟩
abbrev cc9_stg1_1 : Ref sig .tc := ⟨.vmem, 66, rfl⟩
abbrev cc9_stg2_0 : Ref sig .tc := ⟨.vmem, 67, rfl⟩
abbrev cc9_stg2_1 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg2_0 : Ref sig .tc := ⟨.vmem, 72, rfl⟩
abbrev cc10_stg3_0 : Ref sig .tc := ⟨.vmem, 73, rfl⟩
abbrev cc10_stg3_1 : Ref sig .tc := ⟨.vmem, 74, rfl⟩
abbrev cc10_stg4_0 : Ref sig .tc := ⟨.vmem, 75, rfl⟩
abbrev cc10_stg4_1 : Ref sig .tc := ⟨.vmem, 76, rfl⟩
abbrev cc10_stg5_0 : Ref sig .tc := ⟨.vmem, 77, rfl⟩
abbrev cc10_stg6_0 : Ref sig .tc := ⟨.vmem, 78, rfl⟩
abbrev cc11_stg0_0 : Ref sig .tc := ⟨.vmem, 79, rfl⟩
abbrev cc11_stg0_1 : Ref sig .tc := ⟨.vmem, 80, rfl⟩
abbrev cc11_stg1_0 : Ref sig .tc := ⟨.vmem, 81, rfl⟩
abbrev cc11_stg1_1 : Ref sig .tc := ⟨.vmem, 82, rfl⟩
abbrev cc11_stg2_0 : Ref sig .tc := ⟨.vmem, 83, rfl⟩
abbrev cc11_stg2_1 : Ref sig .tc := ⟨.vmem, 84, rfl⟩
abbrev cc12_stg0_0 : Ref sig .tc := ⟨.vmem, 85, rfl⟩
abbrev cc12_stg0_1 : Ref sig .tc := ⟨.vmem, 86, rfl⟩
abbrev cc12_stg1_0 : Ref sig .tc := ⟨.vmem, 87, rfl⟩
abbrev cc12_stg2_0 : Ref sig .tc := ⟨.vmem, 88, rfl⟩
abbrev cc12_stg2_1 : Ref sig .tc := ⟨.vmem, 89, rfl⟩
abbrev cc12_stg3_0 : Ref sig .tc := ⟨.vmem, 90, rfl⟩
abbrev cc12_stg4_0 : Ref sig .tc := ⟨.vmem, 91, rfl⟩
abbrev cc12_stg4_1 : Ref sig .tc := ⟨.vmem, 92, rfl⟩
abbrev cc12_stg5_0 : Ref sig .tc := ⟨.vmem, 93, rfl⟩
abbrev cc12_stg5_1 : Ref sig .tc := ⟨.vmem, 94, rfl⟩
abbrev cc12_stg6_0 : Ref sig .tc := ⟨.vmem, 95, rfl⟩
abbrev cc12_stg6_1 : Ref sig .tc := ⟨.vmem, 96, rfl⟩
abbrev cc12_stg7_0 : Ref sig .tc := ⟨.vmem, 97, rfl⟩
abbrev cc13_stg0_0 : Ref sig .tc := ⟨.vmem, 98, rfl⟩
abbrev cc13_stg0_1 : Ref sig .tc := ⟨.vmem, 99, rfl⟩
abbrev cc13_stg1_0 : Ref sig .tc := ⟨.vmem, 100, rfl⟩
abbrev cc13_stg1_1 : Ref sig .tc := ⟨.vmem, 101, rfl⟩
abbrev cc13_stg2_0 : Ref sig .tc := ⟨.vmem, 102, rfl⟩
abbrev cc13_stg2_1 : Ref sig .tc := ⟨.vmem, 103, rfl⟩
abbrev cc13_stg3_0 : Ref sig .tc := ⟨.vmem, 104, rfl⟩
abbrev cc13_stg3_1 : Ref sig .tc := ⟨.vmem, 105, rfl⟩
abbrev cc13_stg4_0 : Ref sig .tc := ⟨.vmem, 106, rfl⟩
abbrev cc13_stg4_1 : Ref sig .tc := ⟨.vmem, 107, rfl⟩
abbrev cc14_stg0_0 : Ref sig .tc := ⟨.vmem, 108, rfl⟩
abbrev cc14_stg1_0 : Ref sig .tc := ⟨.vmem, 109, rfl⟩
abbrev cc14_stg2_0 : Ref sig .tc := ⟨.vmem, 110, rfl⟩
abbrev cc14_stg2_1 : Ref sig .tc := ⟨.vmem, 111, rfl⟩
abbrev cc14_stg3_0 : Ref sig .tc := ⟨.vmem, 112, rfl⟩
abbrev cc14_stg3_1 : Ref sig .tc := ⟨.vmem, 113, rfl⟩
abbrev cc14_stg4_0 : Ref sig .tc := ⟨.vmem, 114, rfl⟩
abbrev cc14_stg4_1 : Ref sig .tc := ⟨.vmem, 115, rfl⟩
abbrev cc15_stg0_0 : Ref sig .tc := ⟨.vmem, 116, rfl⟩
abbrev cc15_stg1_0 : Ref sig .tc := ⟨.vmem, 117, rfl⟩
abbrev cc15_stg2_0 : Ref sig .tc := ⟨.vmem, 118, rfl⟩
abbrev cc15_stg3_0 : Ref sig .tc := ⟨.vmem, 119, rfl⟩
abbrev cc16_stg0_0 : Ref sig .tc := ⟨.vmem, 120, rfl⟩
abbrev cc16_stg0_1 : Ref sig .tc := ⟨.vmem, 121, rfl⟩
abbrev cc16_stg1_0 : Ref sig .tc := ⟨.vmem, 122, rfl⟩
abbrev cc16_stg1_1 : Ref sig .tc := ⟨.vmem, 123, rfl⟩
abbrev cc16_stg2_0 : Ref sig .tc := ⟨.vmem, 124, rfl⟩
abbrev cc16_stg2_1 : Ref sig .tc := ⟨.vmem, 125, rfl⟩
abbrev cc17_stg0_0 : Ref sig .tc := ⟨.vmem, 126, rfl⟩
abbrev cc17_stg0_1 : Ref sig .tc := ⟨.vmem, 127, rfl⟩
abbrev cc17_stg1_0 : Ref sig .tc := ⟨.vmem, 128, rfl⟩
abbrev cc17_stg1_1 : Ref sig .tc := ⟨.vmem, 129, rfl⟩
abbrev cc17_stg2_0 : Ref sig .tc := ⟨.vmem, 130, rfl⟩
abbrev cc17_stg2_1 : Ref sig .tc := ⟨.vmem, 131, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc6_sem3_0 : DmaSem sig := 40
abbrev cc6_sem4_0 : DmaSem sig := 41
abbrev cc6_sem4_1 : DmaSem sig := 42
abbrev cc6_sem5_0 : DmaSem sig := 43
abbrev cc6_sem5_1 : DmaSem sig := 44
abbrev cc7_sem0_0 : DmaSem sig := 45
abbrev cc7_sem0_1 : DmaSem sig := 46
abbrev cc7_sem1_0 : DmaSem sig := 47
abbrev cc7_sem1_1 : DmaSem sig := 48
abbrev cc7_sem2_0 : DmaSem sig := 49
abbrev cc7_sem3_0 : DmaSem sig := 50
abbrev cc7_sem3_1 : DmaSem sig := 51
abbrev cc7_sem4_0 : DmaSem sig := 52
abbrev cc7_sem4_1 : DmaSem sig := 53
abbrev cc7_sem5_0 : DmaSem sig := 54
abbrev cc7_sem5_1 : DmaSem sig := 55
abbrev cc7_sem6_0 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem2_1 : DmaSem sig := 62
abbrev cc9_sem0_0 : DmaSem sig := 63
abbrev cc9_sem0_1 : DmaSem sig := 64
abbrev cc9_sem1_0 : DmaSem sig := 65
abbrev cc9_sem1_1 : DmaSem sig := 66
abbrev cc9_sem2_0 : DmaSem sig := 67
abbrev cc9_sem2_1 : DmaSem sig := 68
abbrev cc10_sem0_0 : DmaSem sig := 69
abbrev cc10_sem0_1 : DmaSem sig := 70
abbrev cc10_sem1_0 : DmaSem sig := 71
abbrev cc10_sem2_0 : DmaSem sig := 72
abbrev cc10_sem3_0 : DmaSem sig := 73
abbrev cc10_sem3_1 : DmaSem sig := 74
abbrev cc10_sem4_0 : DmaSem sig := 75
abbrev cc10_sem4_1 : DmaSem sig := 76
abbrev cc10_sem5_0 : DmaSem sig := 77
abbrev cc10_sem6_0 : DmaSem sig := 78
abbrev cc11_sem0_0 : DmaSem sig := 79
abbrev cc11_sem0_1 : DmaSem sig := 80
abbrev cc11_sem1_0 : DmaSem sig := 81
abbrev cc11_sem1_1 : DmaSem sig := 82
abbrev cc11_sem2_0 : DmaSem sig := 83
abbrev cc11_sem2_1 : DmaSem sig := 84
abbrev cc12_sem0_0 : DmaSem sig := 85
abbrev cc12_sem0_1 : DmaSem sig := 86
abbrev cc12_sem1_0 : DmaSem sig := 87
abbrev cc12_sem2_0 : DmaSem sig := 88
abbrev cc12_sem2_1 : DmaSem sig := 89
abbrev cc12_sem3_0 : DmaSem sig := 90
abbrev cc12_sem4_0 : DmaSem sig := 91
abbrev cc12_sem4_1 : DmaSem sig := 92
abbrev cc12_sem5_0 : DmaSem sig := 93
abbrev cc12_sem5_1 : DmaSem sig := 94
abbrev cc12_sem6_0 : DmaSem sig := 95
abbrev cc12_sem6_1 : DmaSem sig := 96
abbrev cc12_sem7_0 : DmaSem sig := 97
abbrev cc13_sem0_0 : DmaSem sig := 98
abbrev cc13_sem0_1 : DmaSem sig := 99
abbrev cc13_sem1_0 : DmaSem sig := 100
abbrev cc13_sem1_1 : DmaSem sig := 101
abbrev cc13_sem2_0 : DmaSem sig := 102
abbrev cc13_sem2_1 : DmaSem sig := 103
abbrev cc13_sem3_0 : DmaSem sig := 104
abbrev cc13_sem3_1 : DmaSem sig := 105
abbrev cc13_sem4_0 : DmaSem sig := 106
abbrev cc13_sem4_1 : DmaSem sig := 107
abbrev cc14_sem0_0 : DmaSem sig := 108
abbrev cc14_sem1_0 : DmaSem sig := 109
abbrev cc14_sem2_0 : DmaSem sig := 110
abbrev cc14_sem2_1 : DmaSem sig := 111
abbrev cc14_sem3_0 : DmaSem sig := 112
abbrev cc14_sem3_1 : DmaSem sig := 113
abbrev cc14_sem4_0 : DmaSem sig := 114
abbrev cc14_sem4_1 : DmaSem sig := 115
abbrev cc15_sem0_0 : DmaSem sig := 116
abbrev cc15_sem1_0 : DmaSem sig := 117
abbrev cc15_sem2_0 : DmaSem sig := 118
abbrev cc15_sem3_0 : DmaSem sig := 119
abbrev cc16_sem0_0 : DmaSem sig := 120
abbrev cc16_sem0_1 : DmaSem sig := 121
abbrev cc16_sem1_0 : DmaSem sig := 122
abbrev cc16_sem1_1 : DmaSem sig := 123
abbrev cc16_sem2_0 : DmaSem sig := 124
abbrev cc16_sem2_1 : DmaSem sig := 125
abbrev cc17_sem0_0 : DmaSem sig := 126
abbrev cc17_sem0_1 : DmaSem sig := 127
abbrev cc17_sem1_0 : DmaSem sig := 128
abbrev cc17_sem1_1 : DmaSem sig := 129
abbrev cc17_sem2_0 : DmaSem sig := 130
abbrev cc17_sem2_1 : DmaSem sig := 131

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S256x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S256x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S256x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, false]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x2048 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨3, ![8, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, false]

abbrev stage6_1 : Fin 1 → Memref sig .tc .vmem S2048x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false, false]

abbrev stage6_2 : Fin 2 → Memref sig .tc .vmem S512x2048 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false, false]

abbrev stage6_3 : Fin 1 → Memref sig .tc .vmem S1x2048 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false, false]

abbrev stage6_4 : Fin 2 → Memref sig .tc .vmem S512x2048 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false, false]

abbrev stage6_5 : Fin 2 → Memref sig .tc .vmem S512x2048 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false, false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S256x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S256x2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x2048 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S256x2048 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S256x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S256x2048 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x2048 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨3, ![2, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2048x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, false]

abbrev stage8_1 : Fin 2 → Memref sig .tc .vmem S1024x2048 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, false]

abbrev stage8_2 : Fin 2 → Memref sig .tc .vmem S2048x1024 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S4096x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S4096x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1024 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1024x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S256x2048 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S256x2048 .bf16 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S1024x2048 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S1024x2048 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S256x2048 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S256x2048 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨3, ![2, 2, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S4096x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S4096x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1024x1024 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![8, 1, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S512x2048 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 1 → Memref sig .tc .vmem S2048x2048 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, false, false]

abbrev stage12_2 : Fin 2 → Memref sig .tc .vmem S512x2048 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false, false]

abbrev stage12_3 : Fin 1 → Memref sig .tc .vmem S1x2048 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false, false, false]

abbrev stage12_4 : Fin 2 → Memref sig .tc .vmem S512x2048 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true, false, false]

abbrev stage12_5 : Fin 2 → Memref sig .tc .vmem S512x2048 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true, false, false]

abbrev stage12_6 : Fin 2 → Memref sig .tc .vmem S512x2048 .bf16 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true, false, false]

abbrev stage12_7 : Fin 1 → Memref sig .tc .vmem S1x2048 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false, false, false]

abbrev grid13 : Pipeline.Grid := ⟨3, ![2, 2, 1], ![false, false, false]⟩

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_3 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc13_transform_4 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 2 → Memref sig .tc .vmem S256x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false, true]

abbrev stage13_1 : Fin 2 → Memref sig .tc .vmem S256x1024 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true, true]

abbrev stage13_2 : Fin 2 → Memref sig .tc .vmem S256x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![false, true, true]

abbrev stage13_3 : Fin 2 → Memref sig .tc .vmem S1024x1024 .bf16 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, true, false]

abbrev stage13_4 : Fin 2 → Memref sig .tc .vmem S1024x1024 .bf16 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true, true, false]

abbrev grid14 : Pipeline.Grid := ⟨3, ![1, 2, 1], ![false, false, false]⟩

def cc14_transform_0 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc14_transform_3 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc14_transform_4 (i : grid14.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage14_0 : Fin 1 → Memref sig .tc .vmem S256x2048 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true, false, false]

abbrev stage14_1 : Fin 1 → Memref sig .tc .vmem S256x2048 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true, false, false]

abbrev stage14_2 : Fin 2 → Memref sig .tc .vmem S1024x2048 .bf16 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![false, true, false]

abbrev stage14_3 : Fin 2 → Memref sig .tc .vmem S1024x2048 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![false, true, false]

abbrev stage14_4 : Fin 2 → Memref sig .tc .vmem S256x1024 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true, true, false]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 1 → Memref sig .tc .vmem S256x2048 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S256x2048 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![true]

abbrev stage15_2 : Fin 1 → Memref sig .tc .vmem S1x2048 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x2048 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev grid16 : Pipeline.Grid := ⟨3, ![2, 2, 1], ![false, false, false]⟩

def cc16_transform_0 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc16_transform_1 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc16_transform_2 (i : grid16.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage16_0 : Fin 2 → Memref sig .tc .vmem S4096x1024 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false, true]

abbrev stage16_1 : Fin 2 → Memref sig .tc .vmem S4096x1024 .bf16 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true, true]

abbrev stage16_2 : Fin 2 → Memref sig .tc .vmem S1024x1024 .bf16 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, true, false]

abbrev grid17 : Pipeline.Grid := ⟨3, ![2, 2, 1], ![false, false, false]⟩

def cc17_transform_0 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc17_transform_2 (i : grid17.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage17_0 : Fin 2 → Memref sig .tc .vmem S2048x2048 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, false, false]

abbrev stage17_1 : Fin 2 → Memref sig .tc .vmem S1024x2048 .bf16 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![false, true, false]

abbrev stage17_2 : Fin 2 → Memref sig .tc .vmem S2048x1024 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, true, false]
-- ==== XattnReferenceIdeal.lean ====
abbrev S4096x2048 : Shape := ⟨2, ![4096, 2048]⟩
abbrev S256x2048 : Shape := ⟨2, ![256, 2048]⟩
abbrev S1x2048 : Shape := ⟨2, ![1, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4096x4x512 : Shape := ⟨3, ![4096, 4, 512]⟩
abbrev S256x4x512 : Shape := ⟨3, ![256, 4, 512]⟩
abbrev S4x4096x256 : Shape := ⟨3, ![4, 4096, 256]⟩
abbrev S4x4096 : Shape := ⟨2, ![4, 4096]⟩
abbrev S4x4096x1 : Shape := ⟨3, ![4, 4096, 1]⟩
abbrev S4x512x4096 : Shape := ⟨3, ![4, 512, 4096]⟩
abbrev S2048 : Shape := ⟨1, ![2048]⟩
abbrev S4x512x256 : Shape := ⟨3, ![4, 512, 256]⟩
abbrev S4x256x512 : Shape := ⟨3, ![4, 256, 512]⟩
abbrev S4x4096x512 : Shape := ⟨3, ![4, 4096, 512]⟩

abbrev nBuf : Space → Nat
  | .hbm => 232
  | .vmem => 0
  | .smem => 0
  | _ => 0

abbrev hbmTy0_0 (i : Nat) : BufTy := match i % 128 with
  | 0 => ⟨S4096x2048, .bf16⟩
  | 1 => ⟨S4096x2048, .f32⟩
  | 2 => ⟨S256x2048, .f32⟩
  | 3 => ⟨S1x2048, .f32⟩
  | 4 => ⟨S1x2048, .f32⟩
  | 5 => ⟨S1x2048, .f32⟩
  | 6 => ⟨S2048x2048, .bf16⟩
  | 7 => ⟨S2048x2048, .bf16⟩
  | 8 => ⟨S2048x2048, .bf16⟩
  | 9 => ⟨S2048x2048, .bf16⟩
  | 10 => ⟨S2048x2048, .bf16⟩
  | 11 => ⟨S4096x2048, .f32⟩
  | 12 => ⟨S4096x2048, .f32⟩
  | 13 => ⟨S4096x2048, .f32⟩
  | 14 => ⟨S2048x2048, .f32⟩
  | 15 => ⟨S2048x2048, .f32⟩
  | 16 => ⟨S2048x2048, .f32⟩
  | 17 => ⟨S2048x2048, .f32⟩
  | 18 => ⟨S2048x2048, .f32⟩
  | 19 => ⟨S4096x2048, .f32⟩
  | 20 => ⟨S4096x2048, .f32⟩
  | 21 => ⟨S4096x2048, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x2048, .f32⟩
  | 37 => ⟨S4096x2048, .f32⟩
  | 38 => ⟨S4096x2048, .f32⟩
  | 39 => ⟨S4096x2048, .f32⟩
  | 40 => ⟨S256x2048, .f32⟩
  | 41 => ⟨S_, .f32⟩
  | 42 => ⟨S256, .f32⟩
  | 43 => ⟨S256x1, .f32⟩
  | 44 => ⟨S_, .f32⟩
  | 45 => ⟨S256x1, .f32⟩
  | 46 => ⟨S256x1, .f32⟩
  | 47 => ⟨S_, .f32⟩
  | 48 => ⟨S256x1, .f32⟩
  | 49 => ⟨S256x1, .f32⟩
  | 50 => ⟨S256x1, .f32⟩
  | 51 => ⟨S256x2048, .f32⟩
  | 52 => ⟨S256x2048, .f32⟩
  | 53 => ⟨S256x2048, .f32⟩
  | 54 => ⟨S256x2048, .f32⟩
  | 55 => ⟨S4096x2048, .f32⟩
  | 56 => ⟨S4096x4x512, .f32⟩
  | 57 => ⟨S256x2048, .f32⟩
  | 58 => ⟨S256x4x512, .f32⟩
  | 59 => ⟨S256x2048, .f32⟩
  | 60 => ⟨S256x4x512, .f32⟩
  | 61 => ⟨S4x4096x256, .f32⟩
  | 62 => ⟨S_, .f32⟩
  | 63 => ⟨S4x4096x256, .f32⟩
  | 64 => ⟨S4x4096x256, .f32⟩
  | 65 => ⟨S_, .f32⟩
  | 66 => ⟨S4x4096, .f32⟩
  | 67 => ⟨S4x4096x1, .f32⟩
  | 68 => ⟨S4x4096x256, .f32⟩
  | 69 => ⟨S4x4096x256, .i1⟩
  | 70 => ⟨S4x4096x256, .f32⟩
  | 71 => ⟨S_, .f32⟩
  | 72 => ⟨S4x4096, .f32⟩
  | 73 => ⟨S_, .f32⟩
  | 74 => ⟨S4x4096, .f32⟩
  | 75 => ⟨S4x4096, .f32⟩
  | 76 => ⟨S_, .f32⟩
  | 77 => ⟨S4x4096, .f32⟩
  | 78 => ⟨S4x4096, .i1⟩
  | 79 => ⟨S_, .f32⟩
  | 80 => ⟨S4x4096, .f32⟩
  | 81 => ⟨S4x4096, .i1⟩
  | 82 => ⟨S_, .f32⟩
  | 83 => ⟨S4x4096, .f32⟩
  | 84 => ⟨S_, .f32⟩
  | 85 => ⟨S4x4096, .f32⟩
  | 86 => ⟨S_, .f32⟩
  | 87 => ⟨S4x4096, .f32⟩
  | 88 => ⟨S4x4096, .f32⟩
  | 89 => ⟨S4x4096, .f32⟩
  | 90 => ⟨S4x4096x1, .f32⟩
  | 91 => ⟨S4x4096x256, .f32⟩
  | 92 => ⟨S4x4096x256, .f32⟩
  | 93 => ⟨S4x4096x256, .f32⟩
  | 94 => ⟨S_, .f32⟩
  | 95 => ⟨S4x4096, .f32⟩
  | 96 => ⟨S4x4096x1, .f32⟩
  | 97 => ⟨S4x4096x256, .f32⟩
  | 98 => ⟨S4x4096x256, .f32⟩
  | 99 => ⟨S4x4096x1, .f32⟩
  | 100 => ⟨S_, .f32⟩
  | 101 => ⟨S4x4096x1, .f32⟩
  | 102 => ⟨S4x4096x1, .f32⟩
  | 103 => ⟨S4x512x4096, .f32⟩
  | 104 => ⟨S4096x4x512, .f32⟩
  | 105 => ⟨S4096x2048, .f32⟩
  | 106 => ⟨S4096x2048, .f32⟩
  | 107 => ⟨S4096x2048, .f32⟩
  | 108 => ⟨S4096x2048, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096x1, .f32⟩
  | 117 => ⟨S4096x1, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x2048, .f32⟩
  | 124 => ⟨S4096x2048, .f32⟩
  | 125 => ⟨S4096x2048, .f32⟩
  | 126 => ⟨S4096x2048, .f32⟩
  | 127 => ⟨S4096x2048, .f32⟩
  | _ => ⟨S4096x2048, .bf16⟩

abbrev hbmTy0_1 (i : Nat) : BufTy := match i % 128 with
  | 0 => ⟨S_, .f32⟩
  | 1 => ⟨S2048, .f32⟩
  | 2 => ⟨S1x2048, .f32⟩
  | 3 => ⟨S4096x2048, .f32⟩
  | 4 => ⟨S4096x2048, .f32⟩
  | 5 => ⟨S4096x2048, .f32⟩
  | 6 => ⟨S_, .f32⟩
  | 7 => ⟨S4096, .f32⟩
  | 8 => ⟨S4096x1, .f32⟩
  | 9 => ⟨S4096x2048, .f32⟩
  | 10 => ⟨S4096x2048, .f32⟩
  | 11 => ⟨S4096x2048, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x2048, .f32⟩
  | 19 => ⟨S4096x2048, .f32⟩
  | 20 => ⟨S4096x2048, .f32⟩
  | 21 => ⟨S4096x2048, .f32⟩
  | 22 => ⟨S4096x2048, .f32⟩
  | 23 => ⟨S4096x2048, .f32⟩
  | 24 => ⟨S4096x2048, .f32⟩
  | 25 => ⟨S2048x2048, .f32⟩
  | 26 => ⟨S2048x2048, .f32⟩
  | 27 => ⟨S4096x2048, .f32⟩
  | 28 => ⟨S4096x4x512, .f32⟩
  | 29 => ⟨S4x512x4096, .f32⟩
  | 30 => ⟨S4x4096x256, .f32⟩
  | 31 => ⟨S4x512x256, .f32⟩
  | 32 => ⟨S256x4x512, .f32⟩
  | 33 => ⟨S4x4096x256, .f32⟩
  | 34 => ⟨S4x4096x256, .f32⟩
  | 35 => ⟨S4x4096x256, .f32⟩
  | 36 => ⟨S_, .f32⟩
  | 37 => ⟨S4x4096, .f32⟩
  | 38 => ⟨S4x4096x1, .f32⟩
  | 39 => ⟨S4x4096x1, .f32⟩
  | 40 => ⟨S4x4096x256, .f32⟩
  | 41 => ⟨S4x4096x256, .f32⟩
  | 42 => ⟨S_, .f32⟩
  | 43 => ⟨S4x4096, .f32⟩
  | 44 => ⟨S4x4096x256, .f32⟩
  | 45 => ⟨S4x4096x256, .f32⟩
  | 46 => ⟨S4x4096x256, .f32⟩
  | 47 => ⟨S_, .f32⟩
  | 48 => ⟨S4x4096x256, .f32⟩
  | 49 => ⟨S4x4096x256, .f32⟩
  | 50 => ⟨S4x256x512, .f32⟩
  | 51 => ⟨S256x4x512, .f32⟩
  | 52 => ⟨S4x4096x512, .f32⟩
  | 53 => ⟨S4096x4x512, .f32⟩
  | 54 => ⟨S256x2048, .f32⟩
  | 55 => ⟨S2048x2048, .f32⟩
  | 56 => ⟨S2048x2048, .f32⟩
  | 57 => ⟨S256x2048, .f32⟩
  | 58 => ⟨S256x2048, .f32⟩
  | 59 => ⟨S2048x2048, .f32⟩
  | 60 => ⟨S2048x2048, .f32⟩
  | 61 => ⟨S256x2048, .f32⟩
  | 62 => ⟨S256x2048, .f32⟩
  | 63 => ⟨S4096x2048, .f32⟩
  | 64 => ⟨S2048x2048, .f32⟩
  | 65 => ⟨S2048x2048, .f32⟩
  | 66 => ⟨S4096x2048, .f32⟩
  | 67 => ⟨S256x2048, .f32⟩
  | 68 => ⟨S_, .f32⟩
  | 69 => ⟨S2048, .f32⟩
  | 70 => ⟨S1x2048, .f32⟩
  | 71 => ⟨S4096x2048, .f32⟩
  | 72 => ⟨S_, .f32⟩
  | 73 => ⟨S2048, .f32⟩
  | 74 => ⟨S1x2048, .f32⟩
  | 75 => ⟨S4096x2048, .f32⟩
  | 76 => ⟨S4096x2048, .f32⟩
  | 77 => ⟨S4096x2048, .f32⟩
  | 78 => ⟨S_, .f32⟩
  | 79 => ⟨S4096, .f32⟩
  | 80 => ⟨S4096x1, .f32⟩
  | 81 => ⟨S4096x2048, .f32⟩
  | 82 => ⟨S4096x2048, .f32⟩
  | 83 => ⟨S4096x2048, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S2048x2048, .f32⟩
  | 96 => ⟨S2048x2048, .f32⟩
  | 97 => ⟨S4096x2048, .f32⟩
  | 98 => ⟨S4096x2048, .bf16⟩
  | 99 => ⟨S2048x2048, .bf16⟩
  | 100 => ⟨S2048x2048, .bf16⟩
  | 101 => ⟨S2048x2048, .bf16⟩
  | 102 => ⟨S2048x2048, .bf16⟩
  | 103 => ⟨S2048x2048, .bf16⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_16 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_cst_18 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_20 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_23 : Ref sig .tc := ⟨.hbm, 141, rfl⟩
abbrev main_v104 : Ref sig .tc := ⟨.hbm, 142, rfl⟩
abbrev main_v105 : Ref sig .tc := ⟨.hbm, 143, rfl⟩
abbrev main_cst_24 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_25 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_26 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_27 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_28 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_29 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_cst_30 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_31 : Ref sig .tc := ⟨.hbm, 213, rfl⟩
abbrev main_v168 : Ref sig .tc := ⟨.hbm, 214, rfl⟩
abbrev main_v169 : Ref sig .tc := ⟨.hbm, 215, rfl⟩
abbrev main_cst_32 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩

abbrev nD : Nat := 1
abbrev τ : Topo := Topo.v7x

variable {F : FTy → Type} [FloatOps F]
-- ==== Proj.lean ====
abbrev S4096x2048 : Shape := ⟨2, ![4096, 2048]⟩
abbrev S1x2048 : Shape := ⟨2, ![1, 2048]⟩
abbrev S2048x3072 : Shape := ⟨2, ![2048, 3072]⟩
abbrev S4096x3072 : Shape := ⟨2, ![4096, 3072]⟩
abbrev S512x2048 : Shape := ⟨2, ![512, 2048]⟩
abbrev S512 : Shape := ⟨1, ![512]⟩
abbrev S512x1 : Shape := ⟨2, ![512, 1]⟩
abbrev S2048x4x768 : Shape := ⟨3, ![2048, 4, 768]⟩
abbrev S4x2048x768 : Shape := ⟨3, ![4, 2048, 768]⟩
abbrev S2048x2048 : Shape := ⟨2, ![2048, 2048]⟩
abbrev S1x2048x768 : Shape := ⟨3, ![1, 2048, 768]⟩
abbrev S2048x768 : Shape := ⟨2, ![2048, 768]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 9
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x3072, .bf16⟩
  | .hbm, ⟨3, _⟩ => ⟨S4096x3072, .bf16⟩
  | .hbm, ⟨4, _⟩ => ⟨S4096x2048, .bf16⟩
  | .hbm, ⟨5, _⟩ => ⟨S2048x4x768, .bf16⟩
  | .hbm, ⟨6, _⟩ => ⟨S4x2048x768, .bf16⟩
  | .hbm, ⟨7, _⟩ => ⟨S4096x3072, .f32⟩
  | .hbm, ⟨8, _⟩ => ⟨S4x2048x768, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048x768, .bf16⟩
  | .local _ .vmem, ⟨8, _⟩ => ⟨S1x2048x768, .bf16⟩
  | .local _ .vmem, ⟨9, _⟩ => ⟨S2048x768, .f32⟩
  | .local _ .vmem, ⟨10, _⟩ => ⟨S2048x768, .f32⟩
  | .local _ .vmem, ⟨11, _⟩ => ⟨S4096x1024, .bf16⟩
  | .local _ .vmem, ⟨12, _⟩ => ⟨S4096x1024, .bf16⟩
  | .local _ .vmem, ⟨13, _⟩ => ⟨S4096x768, .bf16⟩
  | .local _ .vmem, ⟨14, _⟩ => ⟨S4096x768, .bf16⟩
  | .local _ .vmem, ⟨15, _⟩ => ⟨S1x1024x768, .bf16⟩
  | .local _ .vmem, ⟨16, _⟩ => ⟨S1x1024x768, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1x2048x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== ProjReferenceIdeal.lean ====
abbrev S4096x2048 : Shape := ⟨2, ![4096, 2048]⟩
abbrev S1x2048 : Shape := ⟨2, ![1, 2048]⟩
abbrev S2048x3072 : Shape := ⟨2, ![2048, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S3072x2048 : Shape := ⟨2, ![3072, 2048]⟩
abbrev S2048x4x768 : Shape := ⟨3, ![2048, 4, 768]⟩
abbrev S4x2048x768 : Shape := ⟨3, ![4, 2048, 768]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x3072, .bf16⟩
  | .hbm, ⟨3, _⟩ => ⟨S4096x3072, .bf16⟩
  | .hbm, ⟨4, _⟩ => ⟨S2048x3072, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x3072, .f32⟩
  | .hbm, ⟨21, _⟩ => ⟨S4096x3072, .f32⟩
  | .hbm, ⟨22, _⟩ => ⟨S3072x2048, .f32⟩
  | .hbm, ⟨23, _⟩ => ⟨S2048x3072, .f32⟩
  | .hbm, ⟨24, _⟩ => ⟨S2048x4x768, .f32⟩
  | .hbm, ⟨25, _⟩ => ⟨S4x2048x768, .f32⟩
  | .hbm, ⟨26, _⟩ => ⟨S4x2048x768, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Dh.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S2048x4x768 : Shape := ⟨3, ![2048, 4, 768]⟩
abbrev S4x2048x768 : Shape := ⟨3, ![4, 2048, 768]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x4x768, .bf16⟩
  | .hbm, ⟨6, _⟩ => ⟨S4x2048x768, .bf16⟩
  | .hbm, ⟨7, _⟩ => ⟨S4096x2048, .f32⟩
  | .hbm, ⟨8, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32_26 : BitVec 32 := 0#32
  let v46 : BitVec 1 := Scalar.cmpi .eq arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DhReferenceIdeal.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S2048x3072, .f32⟩
  | .hbm, ⟨25, _⟩ => ⟨S4096x3072, .f32⟩
  | .hbm, ⟨26, _⟩ => ⟨S4096x3072, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Mix.lean ====
abbrev S4096x3072 : Shape := ⟨2, ![4096, 3072]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S4096x2048 : Shape := ⟨2, ![4096, 2048]⟩
abbrev S512x1024 : Shape := ⟨2, ![512, 1024]⟩
abbrev S16x1024 : Shape := ⟨2, ![16, 1024]⟩
abbrev S512x2048 : Shape := ⟨2, ![512, 2048]⟩
abbrev S16x256 : Shape := ⟨2, ![16, 256]⟩
abbrev S512x256 : Shape := ⟨2, ![512, 256]⟩
abbrev S528x256 : Shape := ⟨2, ![528, 256]⟩
abbrev S512x1 : Shape := ⟨2, ![512, 1]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S128x128 : Shape := ⟨2, ![128, 128]⟩
abbrev S1x128x128 : Shape := ⟨3, ![1, 128, 128]⟩

abbrev nBuf : Space → Nat
  | .hbm => 9
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S4x256x256, .bf16⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S8x128x1, .f32⟩
  | .hbm, ⟨7, _⟩ => ⟨S8x128x128, .f32⟩
  | .hbm, ⟨8, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S8x128x128, .f32⟩
  | .local _ .vmem, ⟨12, _⟩ => ⟨S8x128x128, .f32⟩
  | .local _ .vmem, ⟨13, _⟩ => ⟨S512x2048, .bf16⟩
  | .local _ .vmem, ⟨14, _⟩ => ⟨S512x2048, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixReferenceIdeal.lean ====
abbrev S4096x3072 : Shape := ⟨2, ![4096, 3072]⟩
abbrev S4x256x256 : Shape := ⟨3, ![4, 256, 256]⟩
abbrev S1x1024 : Shape := ⟨2, ![1, 1024]⟩
abbrev S8x128x128 : Shape := ⟨3, ![8, 128, 128]⟩
abbrev S8x128 : Shape := ⟨2, ![8, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S2x256 : Shape := ⟨2, ![2, 256]⟩
abbrev S4094x256 : Shape := ⟨2, ![4094, 256]⟩
abbrev S4x256 : Shape := ⟨2, ![4, 256]⟩
abbrev S4092x256 : Shape := ⟨2, ![4092, 256]⟩
abbrev S8x256 : Shape := ⟨2, ![8, 256]⟩
abbrev S4088x256 : Shape := ⟨2, ![4088, 256]⟩
abbrev S16x256 : Shape := ⟨2, ![16, 256]⟩
abbrev S4080x256 : Shape := ⟨2, ![4080, 256]⟩
abbrev S4096x1x256 : Shape := ⟨3, ![4096, 1, 256]⟩
abbrev S4096x4x256 : Shape := ⟨3, ![4096, 4, 256]⟩
abbrev S4x256x4096 : Shape := ⟨3, ![4, 256, 4096]⟩
abbrev S4096x2048 : Shape := ⟨2, ![4096, 2048]⟩
abbrev S32x128x8x128 : Shape := ⟨4, ![32, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 156
  | .vmem => 0
  | .smem => 0
  | _ => 0

abbrev hbmTy0_0 (i : Nat) : BufTy := match i % 128 with
  | 0 => ⟨S4096x3072, .f32⟩
  | 1 => ⟨S4x256x256, .bf16⟩
  | 2 => ⟨S1x1024, .f32⟩
  | 3 => ⟨S1x1024, .f32⟩
  | 4 => ⟨S8x128x128, .f32⟩
  | 5 => ⟨S8x128, .f32⟩
  | 6 => ⟨S4x256x256, .f32⟩
  | 7 => ⟨S4096x1024, .f32⟩
  | 8 => ⟨S_, .f32⟩
  | 9 => ⟨S_, .f32⟩
  | 10 => ⟨S4096x1024, .f32⟩
  | 11 => ⟨S4096, .i32⟩
  | 12 => ⟨S_, .i32⟩
  | 13 => ⟨S4096, .i32⟩
  | 14 => ⟨S4096, .i32⟩
  | 15 => ⟨S4096, .f32⟩
  | 16 => ⟨S4096x1, .f32⟩
  | 17 => ⟨S4096x256, .f32⟩
  | 18 => ⟨S_, .f32⟩
  | 19 => ⟨S2x256, .f32⟩
  | 20 => ⟨S4094x256, .f32⟩
  | 21 => ⟨S4096x256, .f32⟩
  | 22 => ⟨S4096x256, .f32⟩
  | 23 => ⟨S_, .f32⟩
  | 24 => ⟨S4096x1, .f32⟩
  | 25 => ⟨S4096x1, .f32⟩
  | 26 => ⟨S4096x256, .f32⟩
  | 27 => ⟨S4096x256, .f32⟩
  | 28 => ⟨S4096x256, .f32⟩
  | 29 => ⟨S4096x256, .f32⟩
  | 30 => ⟨S4096x256, .f32⟩
  | 31 => ⟨S_, .f32⟩
  | 32 => ⟨S4x256, .f32⟩
  | 33 => ⟨S4092x256, .f32⟩
  | 34 => ⟨S4096x256, .f32⟩
  | 35 => ⟨S4096x256, .f32⟩
  | 36 => ⟨S_, .f32⟩
  | 37 => ⟨S4096x1, .f32⟩
  | 38 => ⟨S4096x1, .f32⟩
  | 39 => ⟨S4096x256, .f32⟩
  | 40 => ⟨S4096x256, .f32⟩
  | 41 => ⟨S4096x256, .f32⟩
  | 42 => ⟨S4096x256, .f32⟩
  | 43 => ⟨S4096x256, .f32⟩
  | 44 => ⟨S_, .f32⟩
  | 45 => ⟨S8x256, .f32⟩
  | 46 => ⟨S4088x256, .f32⟩
  | 47 => ⟨S4096x256, .f32⟩
  | 48 => ⟨S4096x256, .f32⟩
  | 49 => ⟨S_, .f32⟩
  | 50 => ⟨S4096x1, .f32⟩
  | 51 => ⟨S4096x1, .f32⟩
  | 52 => ⟨S4096x256, .f32⟩
  | 53 => ⟨S4096x256, .f32⟩
  | 54 => ⟨S4096x256, .f32⟩
  | 55 => ⟨S4096x256, .f32⟩
  | 56 => ⟨S4096x256, .f32⟩
  | 57 => ⟨S_, .f32⟩
  | 58 => ⟨S16x256, .f32⟩
  | 59 => ⟨S4080x256, .f32⟩
  | 60 => ⟨S4096x256, .f32⟩
  | 61 => ⟨S4096x256, .f32⟩
  | 62 => ⟨S_, .f32⟩
  | 63 => ⟨S4096x1, .f32⟩
  | 64 => ⟨S4096x1, .f32⟩
  | 65 => ⟨S4096x256, .f32⟩
  | 66 => ⟨S4096x256, .f32⟩
  | 67 => ⟨S4096x256, .f32⟩
  | 68 => ⟨S4096x256, .f32⟩
  | 69 => ⟨S4096x1x256, .f32⟩
  | 70 => ⟨S4096x1x256, .f32⟩
  | 71 => ⟨S4096x1x256, .f32⟩
  | 72 => ⟨S4096x1x256, .f32⟩
  | 73 => ⟨S4096x4x256, .f32⟩
  | 74 => ⟨S4x256x4096, .f32⟩
  | 75 => ⟨S4096x4x256, .f32⟩
  | 76 => ⟨S4096x1024, .f32⟩
  | 77 => ⟨S4096x1024, .f32⟩
  | 78 => ⟨S4096x1024, .f32⟩
  | 79 => ⟨S4096x2048, .f32⟩
  | 80 => ⟨S4096x1024, .f32⟩
  | 81 => ⟨S4096x1024, .f32⟩
  | 82 => ⟨S4096x1024, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1, .f32⟩
  | 93 => ⟨S4096x1024, .f32⟩
  | 94 => ⟨S4096x1024, .f32⟩
  | 95 => ⟨S4096x1024, .f32⟩
  | 96 => ⟨S4096x1024, .f32⟩
  | 97 => ⟨S32x128x8x128, .f32⟩
  | 98 => ⟨S128, .i32⟩
  | 99 => ⟨S1x128, .i32⟩
  | 100 => ⟨S_, .i32⟩
  | 101 => ⟨S_, .i32⟩
  | 102 => ⟨S1x128, .i32⟩
  | 103 => ⟨S1x128, .i32⟩
  | 104 => ⟨S1x128, .i32⟩
  | 105 => ⟨S_, .i32⟩
  | 106 => ⟨S1x128, .i32⟩
  | 107 => ⟨S1x128, .i1⟩
  | 108 => ⟨S1x128, .i32⟩
  | 109 => ⟨S1x128, .i32⟩
  | 110 => ⟨S_, .i32⟩
  | 111 => ⟨S1x128, .i32⟩
  | 112 => ⟨S1x128, .i1⟩
  | 113 => ⟨S1x128, .i1⟩
  | 114 => ⟨S_, .i32⟩
  | 115 => ⟨S1x128, .i32⟩
  | 116 => ⟨S1x128, .i32⟩
  | 117 => ⟨S1x128, .i32⟩
  | 118 => ⟨S128x1, .i32⟩
  | 119 => ⟨S_, .i32⟩
  | 120 => ⟨S_, .i32⟩
  | 121 => ⟨S128x1, .i32⟩
  | 122 => ⟨S128x1, .i32⟩
  | 123 => ⟨S128x1, .i32⟩
  | 124 => ⟨S_, .i32⟩
  | 125 => ⟨S128x1, .i32⟩
  | 126 => ⟨S128x1, .i1⟩
  | 127 => ⟨S128x1, .i32⟩
  | _ => ⟨S4096x3072, .f32⟩

abbrev hbmTy0_1 (i : Nat) : BufTy := match i % 128 with
  | 0 => ⟨S128x1, .i32⟩
  | 1 => ⟨S_, .i32⟩
  | 2 => ⟨S128x1, .i32⟩
  | 3 => ⟨S128x1, .i1⟩
  | 4 => ⟨S128x1, .i1⟩
  | 5 => ⟨S_, .i32⟩
  | 6 => ⟨S128x1, .i32⟩
  | 7 => ⟨S128x1, .i32⟩
  | 8 => ⟨S128x1, .i32⟩
  | 9 => ⟨S128x128, .i32⟩
  | 10 => ⟨S128x128, .i32⟩
  | 11 => ⟨S128x128, .i1⟩
  | 12 => ⟨S1x128x128, .i1⟩
  | 13 => ⟨S_, .f32⟩
  | 14 => ⟨S_, .f32⟩
  | 15 => ⟨S8x128x128, .i1⟩
  | 16 => ⟨S8x128x128, .f32⟩
  | 17 => ⟨S8x128x128, .f32⟩
  | 18 => ⟨S8x32x128x128, .f32⟩
  | 19 => ⟨S32x128x8x128, .f32⟩
  | 20 => ⟨S128x8, .f32⟩
  | 21 => ⟨S1x128x8x1, .f32⟩
  | 22 => ⟨S32x128x8x128, .f32⟩
  | 23 => ⟨S32x128x8x128, .f32⟩
  | 24 => ⟨S4096x1024, .f32⟩
  | 25 => ⟨S4096x1024, .f32⟩
  | 26 => ⟨S4096x2048, .f32⟩
  | 27 => ⟨S4096x2048, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_call0_cst : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_10 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_c : Ref sig .tc := ⟨.hbm, 110, rfl⟩
abbrev main_call1_v9 : Ref sig .tc := ⟨.hbm, 111, rfl⟩
abbrev main_call1_v10 : Ref sig .tc := ⟨.hbm, 112, rfl⟩
abbrev main_call1_v11 : Ref sig .tc := ⟨.hbm, 113, rfl⟩
abbrev main_call1_c_0 : Ref sig .tc := ⟨.hbm, 114, rfl⟩
abbrev main_call1_v12 : Ref sig .tc := ⟨.hbm, 115, rfl⟩
abbrev main_call1_v13 : Ref sig .tc := ⟨.hbm, 116, rfl⟩
abbrev main_v80 : Ref sig .tc := ⟨.hbm, 117, rfl⟩
abbrev main_v81 : Ref sig .tc := ⟨.hbm, 118, rfl⟩
abbrev main_c_11 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_call2_v5 : Ref sig .tc := ⟨.hbm, 125, rfl⟩
abbrev main_call2_v6 : Ref sig .tc := ⟨.hbm, 126, rfl⟩
abbrev main_call2_v7 : Ref sig .tc := ⟨.hbm, 127, rfl⟩
abbrev main_call2_v8 : Ref sig .tc := ⟨.hbm, 128, rfl⟩
abbrev main_call2_c : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_c_0 : Ref sig .tc := ⟨.hbm, 133, rfl⟩
abbrev main_call2_v12 : Ref sig .tc := ⟨.hbm, 134, rfl⟩
abbrev main_call2_v13 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_12 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩

abbrev nD : Nat := 1
abbrev τ : Topo := Topo.v7x

variable {F : FTy → Type} [FloatOps F]
-- ==== Loss.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S1x1, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x1, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S1x1, .f32⟩
  | .hbm, ⟨69, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.BlockSpec.lean ====
module

public import Idealize.ShloMosaic.Lib.Pipeline.ValueKit
public import Idealize.ShloMosaic.Lib.IdealHost

@[expose] public section

noncomputable section

open Idealize.ShloMosaic

namespace Cert.Block

/-! # The steps of the cross-attention block, over the extended reals

Every step is a function of whole arrays. `p`, `s` number tokens, `m`, `n` memory slots, `h` heads, `j`, `k` features. -/

/-- The shape of an array of `a` rows and `b` columns. -/
abbrev Sh (a b : ℕ) : Shape := ⟨2, ![a, b]⟩

/-- An array of `a` rows and `b` columns. -/
abbrev Arr (a b : ℕ) : Type := (Sh a b).Idx → EReal

/-- The product of two arrays. -/
def mmE {a b c : ℕ} (x : Arr a b) (w : Arr b c) : Arr a c := fun i => ∑ k : Fin b, x (ix2 (i 0) k) * w (ix2 k (i 1))

/-- The product of an array with a transposed one. -/
def mmNTE {a b c : ℕ} (x : Arr a b) (w : Arr c b) : Arr a c := fun i => ∑ k : Fin b, x (ix2 (i 0) k) * w (ix2 (i 1) k)

/-- The product of a transposed array with another one. -/
def mmTNE {a b c : ℕ} (x : Arr b a) (w : Arr b c) : Arr a c := fun i => ∑ s : Fin b, x (ix2 s (i 0)) * w (ix2 s (i 1))

/-- The sum of two arrays. -/
def addE {a b : ℕ} (x y : Arr a b) : Arr a b := fun i => x i + y i

/-- The reciprocal root of a row's mean square. -/
def rmsE {a : ℕ} (x : Arr a 2048) (p : Fin a) : EReal :=
  Ideal.rsqrt (Ideal.div (∑ k : Fin 2048, x (ix2 p k) * x (ix2 p k)) (Ideal.ofBits .f32 0x45000000#32) + Ideal.ofBits .f32 0x358637BD#32)

/-- The normalised rows times the gain. -/
def normE {a : ℕ} (x : Arr a 2048) (g : Arr 1 2048) : Arr a 2048 := fun i => x i * rmsE x (i 0) * g (ix2 0 (i 1))

/-- The gradient of the normalisation at its input, for the gradient `dh` of its result. -/
def normBwdE {a : ℕ} (dh x : Arr a 2048) (g : Arr 1 2048) : Arr a 2048 := fun i =>
  rmsE x (i 0) * (dh i * g (ix2 0 (i 1)) - x i * rmsE x (i 0)
    * Ideal.div (∑ k : Fin 2048, dh (ix2 (i 0) k) * g (ix2 0 k) * (x (ix2 (i 0) k) * rmsE x (i 0))) (Ideal.ofBits .f32 0x45000000#32))

/-- The gradient of the normalisation at its gain. -/
def gainE {a : ℕ} (dh x : Arr a 2048) : Arr 1 2048 := fun i => ∑ s : Fin a, dh (ix2 s (i 1)) * (x (ix2 s (i 1)) * rmsE x s)

/-- Head `h`'s feature `d`. -/
def col (h : Fin 4) (d : Fin 512) : Fin 2048 := ⟨h.val * 512 + d.val, by omega⟩

/-- The head a feature belongs to. -/
def headOf (j : Fin 2048) : Fin 4 := ⟨j.val / 512, by omega⟩

variable {a : ℕ}

/-- The scaled score of token `p` on memory slot `m`. -/
def scoreE (q : Arr a 2048) (k : Arr 256 2048) (h : Fin 4) (p : Fin a) (m : Fin 256) : EReal :=
  (∑ d : Fin 512, q (ix2 p (col h d)) * k (ix2 m (col h d))) * Ideal.ofBits .f32 0x3D3504F3#32

/-- A token's largest score. -/
def maxE (q : Arr a 2048) (k : Arr 256 2048) (h : Fin 4) (p : Fin a) : EReal :=
  Finset.univ.fold max (Ideal.ofBits .f32 0xFF800000#32) fun m : Fin 256 => scoreE q k h p m

/-- The exponential of a score below the largest. -/
def expE (q : Arr a 2048) (k : Arr 256 2048) (h : Fin 4) (p : Fin a) (m : Fin 256) : EReal :=
  Ideal.exp (scoreE q k h p m - maxE q k h p)

/-- The softmax of a token's scores. -/
def probE (q : Arr a 2048) (k : Arr 256 2048) (h : Fin 4) (p : Fin a) (m : Fin 256) : EReal :=
  Ideal.div (expE q k h p m) (∑ n : Fin 256, expE q k h p n)

/-- The attention's result. -/
def attnE (q : Arr a 2048) (k v : Arr 256 2048) : Arr a 2048 :=
  fun i => ∑ m : Fin 256, probE q k (headOf (i 1)) (i 0) m * v (ix2 m (i 1))

/-- The gradient at a softmax entry. -/
def dpE (v : Arr 256 2048) (dy : Arr a 2048) (h : Fin 4) (p : Fin a) (m : Fin 256) : EReal :=
  ∑ d : Fin 512, dy (ix2 p (col h d)) * v (ix2 m (col h d))

/-- The gradient at a score before its scaling. -/
def dsE (q : Arr a 2048) (k v : Arr 256 2048) (dy : Arr a 2048) (h : Fin 4) (p : Fin a) (m : Fin 256) : EReal :=
  probE q k h p m * (dpE v dy h p m - ∑ n : Fin 256, dpE v dy h p n * probE q k h p n) * Ideal.ofBits .f32 0x3D3504F3#32

/-- The gradient at the queries. -/
def dqE (q : Arr a 2048) (k v : Arr 256 2048) (dy : Arr a 2048) : Arr a 2048 :=
  fun i => ∑ m : Fin 256, dsE q k v dy (headOf (i 1)) (i 0) m * k (ix2 m (i 1))

/-- The gradient at the keys. -/
def dkE (q : Arr a 2048) (k v : Arr 256 2048) (dy : Arr a 2048) : Arr 256 2048 :=
  fun i => ∑ s : Fin a, dsE q k v dy (headOf (i 1)) s (i 0) * q (ix2 s (i 1))

/-- The gradient at the values. -/
def dvE (q : Arr a 2048) (k : Arr 256 2048) (dy : Arr a 2048) : Arr 256 2048 :=
  fun i => ∑ s : Fin a, probE q k (headOf (i 1)) s (i 0) * dy (ix2 s (i 1))

end Cert.Block

end
-- ==== Proof.MSpec.lean ====
module

public import proofs.«01_k».proof.Proof.BlockSpec

@[expose] public section

noncomputable section

open Idealize.ShloMosaic Idealize.SL
open Cert.Block

namespace Cert.Mixer

/-! # The mixer, one result entry at a time -/

/-- A three-axis array. -/
abbrev Arr3 (a b c : ℕ) : Type := (⟨3, ![a, b, c]⟩ : Shape).Idx → EReal

variable (p : Arr 4096 3072) (w : Arr3 4 256 256) (s g : Arr 1 1024) (ws : Arr3 8 128 128) (b : Arr 8 128)

/-- The entry `i` rows above row `r`, zero above the first row. -/
def backE (r : Fin 4096) (c : Fin 3072) (i : ℕ) : EReal := if i ≤ r.val then p (ix2 ⟨r.val - i, by omega⟩ c) else 0

/-- The number of rows in a window of `n` rows that ends at row `r`. -/
def countE (n : ℕ) (r : ℕ) : EReal := (((min (r + 1) n : ℕ) : ℝ) : EReal)

/-- The mean over the window that ends at a row, less the row's own entry. -/
def pooledE (n : ℕ) (r : Fin 4096) (c : Fin 3072) : EReal :=
  Ideal.div (∑ i ∈ Finset.range n, backE p r c i) (countE n r.val) - p (ix2 r c)

/-- The window of a group of columns. -/
def winE (o : Fin 4) : ℕ := 2 ^ (o.val + 1)

/-- A pooled entry: the group's pooled row times the group's weight, scaled. -/
def poolE (o : Fin 4) (r : Fin 4096) (q : Fin 256) : EReal :=
  (∑ k : Fin 256, pooledE p (winE o) r ⟨o.val * 256 + k.val, by omega⟩ * w (ix3 o k q)) * s (ix2 0 ⟨o.val * 256 + q.val, by omega⟩)

/-- The normalised value row times the gain. -/
def valE (r : Fin 4096) (q : Fin 1024) : EReal :=
  p (ix2 r ⟨2048 + q.val, by omega⟩)
    * Ideal.rsqrt (Ideal.div (∑ k : Fin 1024, p (ix2 r ⟨2048 + k.val, by omega⟩) * p (ix2 r ⟨2048 + k.val, by omega⟩)) (Ideal.ofBits .f32 0x44800000#32) + Ideal.ofBits .f32 0x358637BD#32)
    * g (ix2 0 q)

/-- The spatial weight, kept where the column's chunk of 64 is not past the row's. -/
def keepE (h : Fin 8) (a c : Fin 128) : EReal := if c.val / 64 ≤ a.val / 64 then ws (ix3 h a c) else 0

/-- A gated entry: the gate times the block's masked mix of the value rows plus the bias. -/
def gateE (h : Fin 8) (r : Fin 4096) (q : Fin 128) : EReal :=
  p (ix2 r ⟨1024 + (h.val * 128 + q.val), by omega⟩)
    * ((∑ k : Fin 128, keepE ws h ⟨r.val % 128, by omega⟩ k * valE p g ⟨r.val / 128 * 128 + k.val, by omega⟩ ⟨h.val * 128 + q.val, by omega⟩)
      + b (ix2 h ⟨r.val % 128, by omega⟩))

/-- The mixer's result. -/
def mixE : Arr 4096 2048 := fun i =>
  if (i 1).val < 1024 then poolE p w s ⟨(i 1).val / 256 % 4, by omega⟩ (i 0) ⟨(i 1).val % 256, by omega⟩
  else gateE p g ws b ⟨((i 1).val - 1024) / 128 % 8, by omega⟩ (i 0) ⟨(i 1).val % 128, by omega⟩

end Cert.Mixer

end
-- ==== Proof.MBlock.lean ====
module

public import proofs.«01_k».proof.Proof.Gen.MixIdeal.Frame
public import Idealize.ShloMosaic.Lib.Pipeline.ValueKit
public import Idealize.ShloMosaic.Lib.Pipeline.ReadBack
public import Idealize.ShloMosaic.Lib.KernelVsHost
public import proofs.«01_k».proof.Proof.MSpec

@[expose] public section

set_option maxRecDepth 16384

noncomputable section

open Idealize.ShloMosaic Idealize.ShloMosaic.TcCoe Idealize.SL Idealize.SL.Sem

namespace Cert.MixIdeal.Value

open Cert.MixIdeal Cert.MixIdeal.Gen Cert.Block Cert.Mixer

/-! # The steps of a block of the mixer -/

/-- The mask keeps an entry where its column's chunk of 64 is not past its row's. -/
theorem mask_eq : k0_pay17 (iota Kind.tc S128x128 32 [0] iota_S128x128_d0_w32) (iota Kind.tc S128x128 32 [1] iota_S128x128_d1_w32) (64#32) k0_pay15 k0_pay16 1#32
    = fun j => if (j 1).val / 64 ≤ (j 0).val / 64 then 1#1 else 0#1 := by
  funext j
  pointwise [k0_pay17, k0_pay15, k0_pay16]
  generalize j 0 = a
  generalize j 1 = b
  revert a b
  decide +kernel

/-- The masked weight of a head. -/
def keepB (w : Vec Ideal S1x128x128 .f32) : S128x128.Idx → EReal := fun j => if (j 1).val / 64 ≤ (j 0).val / 64 then w (ix3 0 (j 0) (j 1)) else 0

/-- The kernel's masked weight. -/
theorem keep_eq (w : Vec Ideal S1x128x128 .f32) : k0_pay25 (fun j => if (j 1).val / 64 ≤ (j 0).val / 64 then 1#1 else 0#1) w = keepB w := by
  funext j
  pointwise [k0_pay25, keepB]
  split <;> rfl

/-- The normalised value rows of a block. -/
def valB (x : Vec Ideal S512x1024 .f32) (g : Vec Ideal S1x1024 .f32) : S512x1024.Idx → EReal := fun j =>
  x j * Ideal.rsqrt (Ideal.div (∑ k : Fin 1024, x (ix2 (j 0) k) * x (ix2 (j 0) k)) (Ideal.ofBits .f32 0x44800000#32) + Ideal.ofBits .f32 0x358637BD#32) * g (ix2 0 (j 1))

/-- The kernel's normalised value rows. -/
theorem val_eq (x : Vec Ideal S512x1024 .f32) (g : Vec Ideal S1x1024 .f32) : k0_pay14 x g = valB x g := by
  funext j
  pointwise [k0_pay14, valB]

/-- A rotation along the rows of a block with its halo. -/
def rotE (s : ℕ) (z : S528x256.Idx → EReal) : S528x256.Idx → EReal := fun j => z (ix2 ⟨((j 0).val + 528 - s % 528) % 528, Nat.mod_lt _ (by decide)⟩ (j 1))

/-- The kernel's rotation. -/
theorem rot_eq (s : BitVec 32) (z : FVec Ideal S528x256 .f32) : dynamicRotate 0 s none z rotates_S528x256_d0 = rotE s.toNat z := by
  funext j
  refine dynamicRotate_apply 0 s z _ j _ fun b => ?_
  match b with
  | ⟨0, _⟩ => rfl
  | ⟨1, _⟩ => rfl

/-- A block under its halo, a group's columns. -/
def extB (x : Vec Ideal S512x1024 .f32) (h : Vec Ideal S16x1024 .f32) (o : Fin 4) : S528x256.Idx → EReal := fun j =>
  if hj : (j 0).val < 16 then h (ix2 ⟨(j 0).val, hj⟩ ⟨o.val * 256 + (j 1).val, by have := o.isLt; have : (j 1).val < 256 := (j 1).isLt; omega⟩)
  else x (ix2 ⟨(j 0).val - 16, by have : (j 0).val < 528 := (j 0).isLt; omega⟩ ⟨o.val * 256 + (j 1).val, by have := o.isLt; have : (j 1).val < 256 := (j 1).isLt; omega⟩)

/-- The first group's columns under their halo. -/
theorem ext0 (x : Vec Ideal S512x1024 .f32) (h : Vec Ideal S16x1024 .f32) :
    concatenate S528x256 0 [⟨S16x256, extractStridedSlice S16x256 ![0, 0] h slices_S16x1024_o0_0_S16x256⟩, ⟨S512x256, extractStridedSlice S512x256 ![0, 0] x slices_S512x1024_o0_0_S512x256⟩] concatenates_S16x256_S512x256_S528x256_d0 = extB x h 0 := by
  funext j
  pointwise [extB]
  blk_ext []

/-- The second group's columns under their halo. -/
theorem ext1 (x : Vec Ideal S512x1024 .f32) (h : Vec Ideal S16x1024 .f32) :
    concatenate S528x256 0 [⟨S16x256, extractStridedSlice S16x256 ![0, 256] h slices_S16x1024_o0_256_S16x256⟩, ⟨S512x256, extractStridedSlice S512x256 ![0, 256] x slices_S512x1024_o0_256_S512x256⟩] concatenates_S16x256_S512x256_S528x256_d0 = extB x h 1 := by
  funext j
  pointwise [extB]
  blk_ext []

/-- The third group's columns under their halo. -/
theorem ext2 (x : Vec Ideal S512x1024 .f32) (h : Vec Ideal S16x1024 .f32) :
    concatenate S528x256 0 [⟨S16x256, extractStridedSlice S16x256 ![0, 512] h slices_S16x1024_o0_512_S16x256⟩, ⟨S512x256, extractStridedSlice S512x256 ![0, 512] x slices_S512x1024_o0_512_S512x256⟩] concatenates_S16x256_S512x256_S528x256_d0 = extB x h 2 := by
  funext j
  pointwise [extB]
  blk_ext []

/-- The fourth group's columns under their halo. -/
theorem ext3 (x : Vec Ideal S512x1024 .f32) (h : Vec Ideal S16x1024 .f32) :
    concatenate S528x256 0 [⟨S16x256, extractStridedSlice S16x256 ![0, 768] h slices_S16x1024_o0_768_S16x256⟩, ⟨S512x256, extractStridedSlice S512x256 ![0, 768] x slices_S512x1024_o0_768_S512x256⟩] concatenates_S16x256_S512x256_S528x256_d0 = extB x h 3 := by
  funext j
  pointwise [extB]
  blk_ext []

/-- Twice the window: a block plus its rotation by the window. -/
def dblE (s : ℕ) (z : S528x256.Idx → EReal) : S528x256.Idx → EReal := fun j => z j + rotE s z j

/-- The kernel's doubling. -/
theorem dbl_eq (s : BitVec 32) (z : FVec Ideal S528x256 .f32) : addf z (dynamicRotate 0 s none z rotates_S528x256_d0) = dblE s.toNat z := by
  rw [rot_eq]; rfl

/-- The sum of the `n` rows of a block with its halo that end at row `r`. -/
def sumB (n : ℕ) (z : S528x256.Idx → EReal) (r : ℕ) (q : Fin 256) : EReal := ∑ i ∈ Finset.range n, z (ix2 ⟨(r - i) % 528, Nat.mod_lt _ (by decide)⟩ q)

/-- Doubling a window. -/
theorem dbl_sum (n : ℕ) (hn : n < 528) (z y : S528x256.Idx → EReal) (h : ∀ (r : ℕ) (hr : r < 528) (q : Fin 256), n ≤ r + 1 → y (ix2 ⟨r, hr⟩ q) = sumB n z r q)
    (r : ℕ) (hr : r < 528) (q : Fin 256) (hl : n + n ≤ r + 1) : dblE n y (ix2 ⟨r, hr⟩ q) = sumB (n + n) z r q := by
  have e : dblE n y (ix2 ⟨r, hr⟩ q) = y (ix2 ⟨r, hr⟩ q) + y (ix2 ⟨r - n, by omega⟩ q) := by
    show _ + y (ix2 ⟨(r + 528 - n % 528) % 528, _⟩ q) = _
    congr 4
    omega
  rw [e, h r hr q (by omega), h (r - n) (by omega) q (by omega), sumB, sumB, sumB, Finset.sum_range_add]
  refine congrArg _ (Finset.sum_congr rfl fun i _ => ?_)
  congr 4
  omega

/-- The sum of one row is the row. -/
theorem sum_one (z : S528x256.Idx → EReal) (r : ℕ) (hr : r < 528) (q : Fin 256) : z (ix2 ⟨r, hr⟩ q) = sumB 1 z r q := by
  rw [sumB, Finset.sum_range_one]
  congr 3
  omega

/-- The window of two rows. -/
theorem sum_two (z : S528x256.Idx → EReal) (r : ℕ) (hr : r < 528) (q : Fin 256) (hl : 2 ≤ r + 1) : dblE 1 z (ix2 ⟨r, hr⟩ q) = sumB 2 z r q :=
  dbl_sum 1 (by decide) z z (fun r hr q _ => sum_one z r hr q) r hr q hl

/-- The window of four rows. -/
theorem sum_four (z : S528x256.Idx → EReal) (r : ℕ) (hr : r < 528) (q : Fin 256) (hl : 4 ≤ r + 1) : dblE 2 (dblE 1 z) (ix2 ⟨r, hr⟩ q) = sumB 4 z r q :=
  dbl_sum 2 (by decide) z _ (sum_two z) r hr q hl

/-- The window of eight rows. -/
theorem sum_eight (z : S528x256.Idx → EReal) (r : ℕ) (hr : r < 528) (q : Fin 256) (hl : 8 ≤ r + 1) : dblE 4 (dblE 2 (dblE 1 z)) (ix2 ⟨r, hr⟩ q) = sumB 8 z r q :=
  dbl_sum 4 (by decide) z _ (sum_four z) r hr q hl

/-- The window of sixteen rows. -/
theorem sum_sixteen (z : S528x256.Idx → EReal) (r : ℕ) (hr : r < 528) (q : Fin 256) (hl : 16 ≤ r + 1) : dblE 8 (dblE 4 (dblE 2 (dblE 1 z))) (ix2 ⟨r, hr⟩ q) = sumB 16 z r q :=
  dbl_sum 8 (by decide) z _ (sum_eight z) r hr q hl

/-- The mean over a window that ends at a row of the block, less the row's own entry. -/
def meanB (n : ℕ) (o : Fin 4) (t : Fin 8) (x : Vec Ideal S512x1024 .f32) (h : Vec Ideal S16x1024 .f32) (a : Fin 512) (k : Fin 256) : EReal :=
  Ideal.div (sumB n (extB x h o) (16 + a.val) k) (countE n (t.val * 512 + a.val)) - x (ix2 a ⟨o.val * 256 + k.val, by omega⟩)

/-- A group's pooled rows times its weight, scaled. -/
def poolB (n : ℕ) (o : Fin 4) (t : Fin 8) (x : Vec Ideal S512x1024 .f32) (h : Vec Ideal S16x1024 .f32) (w : Vec Ideal S1x256x256 .bf16) (s : Vec Ideal S1x256 .f32) : S512x256.Idx → EReal :=
  fun j => (∑ k : Fin 256, meanB n o t x h (j 0) k * w (ix3 0 k (j 1))) * s (ix2 0 (j 1))

end Cert.MixIdeal.Value

end
-- ==== Proof.MPool.lean ====
module

public import proofs.«01_k».proof.Proof.Gen.MixIdeal.Frame
public import Idealize.ShloMosaic.Lib.Pipeline.ValueKit
public import Idealize.ShloMosaic.Lib.Pipeline.ReadBack
public import Idealize.ShloMosaic.Lib.KernelVsHost
public import proofs.«01_k».proof.Proof.MBlock

@[expose] public section

set_option maxRecDepth 16384

noncomputable section

open Idealize.ShloMosaic Idealize.ShloMosaic.TcCoe Idealize.SL Idealize.SL.Sem

namespace Cert.MixIdeal.Value

open Cert.MixIdeal Cert.MixIdeal.Gen Cert.Block Cert.Mixer

/-! # The pooled groups of a block -/

/-- The word a window's count is written as. -/
theorem count_word : ∀ (o : Fin 4) (t : Fin 8) (a : Fin 512), IntOp.minsi (IntOp.addi (IntOp.addi (BitVec.ofNat 32 a.val) (Scalar.muli (BitVec.ofNat 32 t.val) 512#32)) 1#32) (BitVec.ofNat 32 (winE o))
    = BitVec.ofNat 32 (min (t.val * 512 + a.val + 1) (winE o)) := by decide +kernel

/-- The count of a window, as a number. -/
theorem count_eq (o : Fin 4) (t : Fin 8) (a : Fin 512) : (FloatOps.sitofp .f32 (IntOp.minsi (IntOp.addi (IntOp.addi (BitVec.ofNat 32 a.val) (Scalar.muli (BitVec.ofNat 32 t.val) 512#32)) 1#32) (BitVec.ofNat 32 (winE o))) : Ideal .f32)
    = countE (winE o) (t.val * 512 + a.val) := by
  rw [count_word, countE]
  have h : min (t.val * 512 + a.val + 1) (winE o) < 2 ^ 31 := by have := t.isLt; have := a.isLt; omega
  generalize min (t.val * 512 + a.val + 1) (winE o) = n at h
  have e : (BitVec.ofNat 32 n).toInt = (n : ℤ) := by
    have hn : (BitVec.ofNat 32 n).toNat = n := by rw [BitVec.toNat_ofNat]; exact Nat.mod_eq_of_lt (by omega)
    rw [BitVec.toInt_eq_toNat_of_lt (by rw [hn]; omega), hn]
  show (((BitVec.ofNat 32 n).toInt : ℝ) : EReal) = ((n : ℝ) : EReal)
  rw [e]
  norm_cast

/-- A doubling by one row. -/
theorem dbl_by1 (z : FVec Ideal S528x256 .f32) : addf z (dynamicRotate 0 1#32 none z rotates_S528x256_d0) = dblE 1 z := dbl_eq 1#32 z

/-- A doubling by two rows. -/
theorem dbl_by2 (z : FVec Ideal S528x256 .f32) : addf z (dynamicRotate 0 2#32 none z rotates_S528x256_d0) = dblE 2 z := dbl_eq 2#32 z

/-- A doubling by four rows. -/
theorem dbl_by4 (z : FVec Ideal S528x256 .f32) : addf z (dynamicRotate 0 4#32 none z rotates_S528x256_d0) = dblE 4 z := dbl_eq 4#32 z

/-- A doubling by eight rows. -/
theorem dbl_by8 (z : FVec Ideal S528x256 .f32) : addf z (dynamicRotate 0 8#32 none z rotates_S528x256_d0) = dblE 8 z := dbl_eq 8#32 z

/-- The count of a window of 2 rows. -/
theorem count2 (t : Fin 8) (a : Fin 512) : (FloatOps.sitofp .f32 (IntOp.minsi (IntOp.addi (IntOp.addi (BitVec.ofNat 32 a.val) (Scalar.muli (BitVec.ofNat 32 t.val) 512#32)) 1#32) 2#32) : Ideal .f32)
    = countE 2 (t.val * 512 + a.val) := count_eq 0 t a

/-- The count of a window of 4 rows. -/
theorem count4 (t : Fin 8) (a : Fin 512) : (FloatOps.sitofp .f32 (IntOp.minsi (IntOp.addi (IntOp.addi (BitVec.ofNat 32 a.val) (Scalar.muli (BitVec.ofNat 32 t.val) 512#32)) 1#32) 4#32) : Ideal .f32)
    = countE 4 (t.val * 512 + a.val) := count_eq 1 t a

/-- The count of a window of 8 rows. -/
theorem count8 (t : Fin 8) (a : Fin 512) : (FloatOps.sitofp .f32 (IntOp.minsi (IntOp.addi (IntOp.addi (BitVec.ofNat 32 a.val) (Scalar.muli (BitVec.ofNat 32 t.val) 512#32)) 1#32) 8#32) : Ideal .f32)
    = countE 8 (t.val * 512 + a.val) := count_eq 2 t a

/-- The count of a window of 16 rows. -/
theorem count16 (t : Fin 8) (a : Fin 512) : (FloatOps.sitofp .f32 (IntOp.minsi (IntOp.addi (IntOp.addi (BitVec.ofNat 32 a.val) (Scalar.muli (BitVec.ofNat 32 t.val) 512#32)) 1#32) 16#32) : Ideal .f32)
    = countE 16 (t.val * 512 + a.val) := count_eq 3 t a

/-- The first group. -/
theorem pool0 (i : grid0.Coords) (x : Vec Ideal S512x1024 .f32) (h : Vec Ideal S16x1024 .f32) (w : Vec Ideal S1x256x256 .bf16) (s : Vec Ideal S1x256 .f32) :
    k0_pay5 i x h w s = poolB 2 0 (i 0) x (k0_pay4 i h) w s := by
  unfold k0_pay5
  dsimp only
  generalize k0_pay4 i h = h'
  generalize hi : (i 0 : Fin 8) = t
  have hi' : (i 0).val = t.val := congrArg Fin.val hi
  try rw [hi']
  rw [ext0, dbl_by1]
  funext j
  have ha : (j 0).val < 512 := (j 0).isLt
  have hs := fun k => sum_two (extB x h' 0) (16 + (j 0).val) (by omega) k (by omega)
  have hc := count2 t (j 0)
  generalize dblE 1 (extB x h' 0) = D at hs ⊢
  pointwise [poolB]
  refine congrArg (· * _) (Finset.sum_congr rfl fun k _ => congrArg (· * _) ?_)
  exact congrArg₂ (· - ·) ((congrArg (fun z => Ideal.div z _) (hs k)).trans (congrArg (Ideal.div _) hc)) (congrArg (fun q => x (ix2 (j 0) q)) (Fin.ext (by show k.val = 0 * 256 + k.val; omega)))

/-- The second group. -/
theorem pool1 (i : grid0.Coords) (x : Vec Ideal S512x1024 .f32) (h : Vec Ideal S16x1024 .f32) (w : Vec Ideal S1x256x256 .bf16) (s : Vec Ideal S1x256 .f32) :
    k0_pay8 x (Scalar.muli (BitVec.ofNat 32 (i 0).val) 512#32) (k0_pay6 i x h) (k0_pay7 i x h) w s = poolB 4 1 (i 0) x (k0_pay4 i h) w s := by
  unfold k0_pay8 k0_pay7 k0_pay6
  dsimp only
  generalize k0_pay4 i h = h'
  generalize hi : (i 0 : Fin 8) = t
  have hi' : (i 0).val = t.val := congrArg Fin.val hi
  try rw [hi']
  rw [ext1, dbl_by1, dbl_by2]
  funext j
  have ha : (j 0).val < 512 := (j 0).isLt
  have hs := fun k => sum_four (extB x h' 1) (16 + (j 0).val) (by omega) k (by omega)
  have hc := count4 t (j 0)
  generalize dblE 2 (dblE 1 (extB x h' 1)) = D at hs ⊢
  pointwise [poolB]
  refine congrArg (· * _) (Finset.sum_congr rfl fun k _ => congrArg (· * _) ?_)
  exact congrArg (· - _) ((congrArg (fun z => Ideal.div z _) (hs k)).trans (congrArg (Ideal.div _) hc))

/-- The third group. -/
theorem pool2 (i : grid0.Coords) (x : Vec Ideal S512x1024 .f32) (h : Vec Ideal S16x1024 .f32) (w : Vec Ideal S1x256x256 .bf16) (s : Vec Ideal S1x256 .f32) :
    k0_pay11 x (k0_pay9 x (k0_pay4 i h)) (k0_pay10 (BitVec.ofNat 32 (i 0).val)) w s = poolB 8 2 (i 0) x (k0_pay4 i h) w s := by
  unfold k0_pay11 k0_pay10 k0_pay9
  dsimp only
  generalize k0_pay4 i h = h'
  generalize hi : (i 0 : Fin 8) = t
  have hi' : (i 0).val = t.val := congrArg Fin.val hi
  try rw [hi']
  rw [ext2, dbl_by1, dbl_by2, dbl_by4]
  funext j
  have ha : (j 0).val < 512 := (j 0).isLt
  have hs := fun k => sum_eight (extB x h' 2) (16 + (j 0).val) (by omega) k (by omega)
  have hc := count8 t (j 0)
  generalize dblE 4 (dblE 2 (dblE 1 (extB x h' 2))) = D at hs ⊢
  pointwise [poolB]
  refine congrArg (· * _) (Finset.sum_congr rfl fun k _ => congrArg (· * _) ?_)
  exact congrArg (· - _) ((congrArg (fun z => Ideal.div z _) (hs k)).trans (congrArg (Ideal.div _) hc))

/-- The fourth group. -/
theorem pool3 (i : grid0.Coords) (x : Vec Ideal S512x1024 .f32) (h : Vec Ideal S16x1024 .f32) (w : Vec Ideal S1x256x256 .bf16) (s : Vec Ideal S1x256 .f32) :
    k0_pay13 (k0_pay12 (BitVec.ofNat 32 (i 0).val) x (k0_pay4 i h)) w s = poolB 16 3 (i 0) x (k0_pay4 i h) w s := by
  unfold k0_pay13 k0_pay12
  dsimp only
  generalize k0_pay4 i h = h'
  generalize hi : (i 0 : Fin 8) = t
  have hi' : (i 0).val = t.val := congrArg Fin.val hi
  try rw [hi']
  rw [ext3, dbl_by1, dbl_by2, dbl_by4, dbl_by8]
  funext j
  have ha : (j 0).val < 512 := (j 0).isLt
  have hs := fun k => sum_sixteen (extB x h' 3) (16 + (j 0).val) (by omega) k (by omega)
  have hc := count16 t (j 0)
  generalize dblE 8 (dblE 4 (dblE 2 (dblE 1 (extB x h' 3)))) = D at hs ⊢
  pointwise [poolB]
  refine congrArg (· * _) (Finset.sum_congr rfl fun k _ => congrArg (· * _) ?_)
  exact congrArg (· - _) ((congrArg (fun z => Ideal.div z _) (hs k)).trans (congrArg (Ideal.div _) hc))

end Cert.MixIdeal.Value

end
-- ==== Proof.MCalls.lean ====
module

public import proofs.«01_k».proof.Proof.Gen.MixIdeal.Frame
public import Idealize.ShloMosaic.Lib.Pipeline.ValueKit
public import Idealize.ShloMosaic.Lib.Pipeline.ReadBack
public import Idealize.ShloMosaic.Lib.KernelVsHost
public import proofs.«01_k».proof.Proof.MPool

@[expose] public section

set_option maxRecDepth 16384

noncomputable section

open Idealize.ShloMosaic Idealize.ShloMosaic.TcCoe Idealize.SL Idealize.SL.Sem

namespace Cert.MixIdeal.Value

open Cert.MixIdeal Cert.MixIdeal.Gen Cert.Block Cert.Mixer

/-! # The entries of a block of the mixer's result -/

/-- The kernel's masked weight, head by head. -/
theorem keep18 (w : Vec Ideal S1x128x128 .f32) : k0_pay18 (iota Kind.tc S128x128 32 [0] iota_S128x128_d0_w32) (iota Kind.tc S128x128 32 [1] iota_S128x128_d1_w32) (64#32) k0_pay15 k0_pay16 1#32 w = keepB w := by
  rw [← keep_eq, ← mask_eq]; rfl

/-- The masked weight of one more head. -/
theorem keep25 (w : Vec Ideal S1x128x128 .f32) : k0_pay25 (fun j => if (j 1).val / 64 ≤ (j 0).val / 64 then 1#1 else 0#1) w = keepB w := keep_eq w

/-- The masked weight of one more head. -/
theorem keep32 (w : Vec Ideal S1x128x128 .f32) : k0_pay32 (fun j => if (j 1).val / 64 ≤ (j 0).val / 64 then 1#1 else 0#1) w = keepB w := keep_eq w

/-- The masked weight of one more head. -/
theorem keep39 (w : Vec Ideal S1x128x128 .f32) : k0_pay39 (fun j => if (j 1).val / 64 ≤ (j 0).val / 64 then 1#1 else 0#1) w = keepB w := keep_eq w

/-- The masked weight of one more head. -/
theorem keep45 (w : Vec Ideal S1x128x128 .f32) : k0_pay45 (fun j => if (j 1).val / 64 ≤ (j 0).val / 64 then 1#1 else 0#1) w = keepB w := keep_eq w

/-- The masked weight of one more head. -/
theorem keep51 (w : Vec Ideal S1x128x128 .f32) : k0_pay51 (fun j => if (j 1).val / 64 ≤ (j 0).val / 64 then 1#1 else 0#1) w = keepB w := keep_eq w

/-- The masked weight of one more head. -/
theorem keep58 (w : Vec Ideal S1x128x128 .f32) : k0_pay58 (fun j => if (j 1).val / 64 ≤ (j 0).val / 64 then 1#1 else 0#1) w = keepB w := keep_eq w

/-- The masked weight of one more head. -/
theorem keep65 (w : Vec Ideal S1x128x128 .f32) : k0_pay65 (fun j => if (j 1).val / 64 ≤ (j 0).val / 64 then 1#1 else 0#1) w = keepB w := keep_eq w

/-! Group by group, the part of the weight and of the scale that is read. -/

/-- The group's part of the weight. -/
theorem ldw0 (v : Vec Ideal S4x256x256 .bf16) (k q : Fin 256) : View.ld v (Rect.unit ![0, 0, 0] ![1, 256, 256] inb_S4x256x256_S1x256x256_0_0_0) (ix3 0 k q) = v (ix3 0 k q) := by
  refine (View.ld_apply v _ _).trans (congrArg v (funext fun a => Fin.ext ?_))
  match a with
  | ⟨0, _⟩ => rfl
  | ⟨1, _⟩ => show 0 + 1 * k.val = k.val; omega
  | ⟨2, _⟩ => show 0 + 1 * q.val = q.val; omega

/-- The group's part of the scale. -/
theorem lds0 (v : Vec Ideal S1x1024 .f32) (q : Fin 256) : View.ld v (Rect.unit ![0, 0] ![1, 256] inb_S1x1024_S1x256_0_0) (ix2 0 q) = v (ix2 0 ⟨0 + q.val, by omega⟩) := by
  refine (View.ld_apply v _ _).trans (congrArg v (funext fun a => Fin.ext ?_))
  match a with
  | ⟨0, _⟩ => rfl
  | ⟨1, _⟩ => show 0 + 1 * q.val = 0 + q.val; omega

/-- The group's part of the weight. -/
theorem ldw1 (v : Vec Ideal S4x256x256 .bf16) (k q : Fin 256) : View.ld v (Rect.unit ![1, 0, 0] ![1, 256, 256] inb_S4x256x256_S1x256x256_1_0_0) (ix3 0 k q) = v (ix3 1 k q) := by
  refine (View.ld_apply v _ _).trans (congrArg v (funext fun a => Fin.ext ?_))
  match a with
  | ⟨0, _⟩ => rfl
  | ⟨1, _⟩ => show 0 + 1 * k.val = k.val; omega
  | ⟨2, _⟩ => show 0 + 1 * q.val = q.val; omega

/-- The group's part of the scale. -/
theorem lds1 (v : Vec Ideal S1x1024 .f32) (q : Fin 256) : View.ld v (Rect.unit ![0, 256] ![1, 256] inb_S1x1024_S1x256_0_256) (ix2 0 q) = v (ix2 0 ⟨256 + q.val, by omega⟩) := by
  refine (View.ld_apply v _ _).trans (congrArg v (funext fun a => Fin.ext ?_))
  match a with
  | ⟨0, _⟩ => rfl
  | ⟨1, _⟩ => show 256 + 1 * q.val = 256 + q.val; omega

/-- The group's part of the weight. -/
theorem ldw2 (v : Vec Ideal S4x256x256 .bf16) (k q : Fin 256) : View.ld v (Rect.unit ![2, 0, 0] ![1, 256, 256] inb_S4x256x256_S1x256x256_2_0_0) (ix3 0 k q) = v (ix3 2 k q) := by
  refine (View.ld_apply v _ _).trans (congrArg v (funext fun a => Fin.ext ?_))
  match a with
  | ⟨0, _⟩ => rfl
  | ⟨1, _⟩ => show 0 + 1 * k.val = k.val; omega
  | ⟨2, _⟩ => show 0 + 1 * q.val = q.val; omega

/-- The group's part of the scale. -/
theorem lds2 (v : Vec Ideal S1x1024 .f32) (q : Fin 256) : View.ld v (Rect.unit ![0, 512] ![1, 256] inb_S1x1024_S1x256_0_512) (ix2 0 q) = v (ix2 0 ⟨512 + q.val, by omega⟩) := by
  refine (View.ld_apply v _ _).trans (congrArg v (funext fun a => Fin.ext ?_))
  match a with
  | ⟨0, _⟩ => rfl
  | ⟨1, _⟩ => show 512 + 1 * q.val = 512 + q.val; omega

/-- The group's part of the weight. -/
theorem ldw3 (v : Vec Ideal S4x256x256 .bf16) (k q : Fin 256) : View.ld v (Rect.unit ![3, 0, 0] ![1, 256, 256] inb_S4x256x256_S1x256x256_3_0_0) (ix3 0 k q) = v (ix3 3 k q) := by
  refine (View.ld_apply v _ _).trans (congrArg v (funext fun a => Fin.ext ?_))
  match a with
  | ⟨0, _⟩ => rfl
  | ⟨1, _⟩ => show 0 + 1 * k.val = k.val; omega
  | ⟨2, _⟩ => show 0 + 1 * q.val = q.val; omega

/-- The group's part of the scale. -/
theorem lds3 (v : Vec Ideal S1x1024 .f32) (q : Fin 256) : View.ld v (Rect.unit ![0, 768] ![1, 256] inb_S1x1024_S1x256_0_768) (ix2 0 q) = v (ix2 0 ⟨768 + q.val, by omega⟩) := by
  refine (View.ld_apply v _ _).trans (congrArg v (funext fun a => Fin.ext ?_))
  match a with
  | ⟨0, _⟩ => rfl
  | ⟨1, _⟩ => show 768 + 1 * q.val = 768 + q.val; omega

/-- A gated entry of a block. -/
def gateB (x2 x3 : Vec Ideal S512x1024 .f32) (x6 : Vec Ideal S1x1024 .f32) (x7 x8 : Vec Ideal S8x128x128 .f32) (y : S512x2048.Idx) : EReal :=
  x2 (ix2 (y 0) ⟨((y 1).val - 1024) % 1024, Nat.mod_lt _ (by decide)⟩)
    * ((∑ k : Fin 128, keepE x7 ⟨((y 1).val - 1024) / 128 % 8, Nat.mod_lt _ (by decide)⟩ ⟨(y 0).val % 128, Nat.mod_lt _ (by decide)⟩ k
        * valB x3 x6 (ix2 ⟨(y 0).val / 128 * 128 + k.val, by have : (y 0).val < 512 := (y 0).isLt; omega⟩ ⟨((y 1).val - 1024) % 1024, Nat.mod_lt _ (by decide)⟩))
      + x8 (ix3 ⟨((y 1).val - 1024) / 128 % 8, Nat.mod_lt _ (by decide)⟩ ⟨(y 0).val % 128, Nat.mod_lt _ (by decide)⟩ ⟨(y 1).val % 128, Nat.mod_lt _ (by decide)⟩))

/-- A pooled entry of a block. -/
def poolY (t : Fin 8) (x0 : Vec Ideal S512x1024 .f32) (h : Vec Ideal S16x1024 .f32) (x4 : Vec Ideal S4x256x256 .bf16) (x5 : Vec Ideal S1x1024 .f32) (y : S512x2048.Idx) : EReal :=
  (∑ k : Fin 256, meanB (winE ⟨(y 1).val / 256 % 4, Nat.mod_lt _ (by decide)⟩) ⟨(y 1).val / 256 % 4, Nat.mod_lt _ (by decide)⟩ t x0 h (y 0) k
      * x4 (ix3 ⟨(y 1).val / 256 % 4, Nat.mod_lt _ (by decide)⟩ k ⟨(y 1).val % 256, Nat.mod_lt _ (by decide)⟩))
    * x5 (ix2 0 ⟨(y 1).val % 1024, Nat.mod_lt _ (by decide)⟩)

variable (m : (ℓ : Loc nD τ sig) → Buf (Elt Ideal) ℓ)

set_option maxHeartbeats 4000000 in
/-- What a point leaves in its block of the result. -/
theorem out_eq (c : Dev nD) (t : Fin cfg0.N) (y : S512x2048.Idx) : outsAt0 m c t y
    = if (y 1).val < 1024 then poolY (grid0.coords t 0) (iblk m c 0 t) (k0_pay4 (grid0.coords t) (iblk m c 1 t)) (iblk m c 4 t) (iblk m c 5 t) y
      else gateB (iblk m c 2 t) (iblk m c 3 t) (iblk m c 6 t) (iblk m c 7 t) (iblk m c 8 t) y := by
  unfold outsAt0
  frame_out
  canon_tiles x h using (View.cover_of_tiledBy _ ![128, 128] (by sl_kernel_rfl) y)
  all_goals generalize iblk m c 0 t = x0
  all_goals generalize iblk m c 1 t = x1
  all_goals generalize iblk m c 2 t = x2
  all_goals generalize iblk m c 3 t = x3
  all_goals generalize iblk m c 4 t = x4
  all_goals generalize iblk m c 5 t = x5
  all_goals generalize iblk m c 6 t = x6
  all_goals generalize iblk m c 7 t = x7
  all_goals generalize iblk m c 8 t = x8
  case piece32 =>
    rw [pool3, if_pos (by omega)]
    unfold poolB poolY
    have eo : (⟨(y 1).val / 256 % 4, Nat.mod_lt _ (by decide)⟩ : Fin 4) = 3 := Fin.ext (by show (y 1).val / 256 % 4 = 3; omega)
    have e0 : (x 0 : Fin 512) = y 0 := Fin.ext h0.symm
    dsimp only
    rw [eo, e0]
    refine congrArg₂ (· * ·) (Finset.sum_congr rfl fun k _ => congrArg (meanB 16 3 _ _ _ _ k * ·) ?_) ?_
    · exact (ldw3 x4 k (x 1)).trans (congrArg (fun q => x4 (ix3 3 k q)) (Fin.ext (by show (x 1).val = (y 1).val % 256; omega)))
    · exact (lds3 x5 (x 1)).trans (congrArg (fun q => x5 (ix2 0 q)) (Fin.ext (by show 768 + (x 1).val = (y 1).val % 1024; omega)))
  case piece33 =>
    rw [pool2, if_pos (by omega)]
    unfold poolB poolY
    have eo : (⟨(y 1).val / 256 % 4, Nat.mod_lt _ (by decide)⟩ : Fin 4) = 2 := Fin.ext (by show (y 1).val / 256 % 4 = 2; omega)
    have e0 : (x 0 : Fin 512) = y 0 := Fin.ext h0.symm
    dsimp only
    rw [eo, e0]
    refine congrArg₂ (· * ·) (Finset.sum_congr rfl fun k _ => congrArg (meanB 8 2 _ _ _ _ k * ·) ?_) ?_
    · exact (ldw2 x4 k (x 1)).trans (congrArg (fun q => x4 (ix3 2 k q)) (Fin.ext (by show (x 1).val = (y 1).val % 256; omega)))
    · exact (lds2 x5 (x 1)).trans (congrArg (fun q => x5 (ix2 0 q)) (Fin.ext (by show 512 + (x 1).val = (y 1).val % 1024; omega)))
  case piece34 =>
    rw [pool1, if_pos (by omega)]
    unfold poolB poolY
    have eo : (⟨(y 1).val / 256 % 4, Nat.mod_lt _ (by decide)⟩ : Fin 4) = 1 := Fin.ext (by show (y 1).val / 256 % 4 = 1; omega)
    have e0 : (x 0 : Fin 512) = y 0 := Fin.ext h0.symm
    dsimp only
    rw [eo, e0]
    refine congrArg₂ (· * ·) (Finset.sum_congr rfl fun k _ => congrArg (meanB 4 1 _ _ _ _ k * ·) ?_) ?_
    · exact (ldw1 x4 k (x 1)).trans (congrArg (fun q => x4 (ix3 1 k q)) (Fin.ext (by show (x 1).val = (y 1).val % 256; omega)))
    · exact (lds1 x5 (x 1)).trans (congrArg (fun q => x5 (ix2 0 q)) (Fin.ext (by show 256 + (x 1).val = (y 1).val % 1024; omega)))
  case piece35 =>
    rw [pool0, if_pos (by omega)]
    unfold poolB poolY
    have eo : (⟨(y 1).val / 256 % 4, Nat.mod_lt _ (by decide)⟩ : Fin 4) = 0 := Fin.ext (by show (y 1).val / 256 % 4 = 0; omega)
    have e0 : (x 0 : Fin 512) = y 0 := Fin.ext h0.symm
    dsimp only
    rw [eo, e0]
    refine congrArg₂ (· * ·) (Finset.sum_congr rfl fun k _ => congrArg (meanB 2 0 _ _ _ _ k * ·) ?_) ?_
    · exact (ldw0 x4 k (x 1)).trans (congrArg (fun q => x4 (ix3 0 k q)) (Fin.ext (by show (x 1).val = (y 1).val % 256; omega)))
    · exact (lds0 x5 (x 1)).trans (congrArg (fun q => x5 (ix2 0 q)) (Fin.ext (by show 0 + (x 1).val = (y 1).val % 1024; omega)))
  all_goals rw [if_neg (by omega), val_eq]
  all_goals try rw [mask_eq]
  all_goals try rw [keep18]
  all_goals pointwise [k0_pay1, k0_pay2, k0_pay3, k0_pay19, k0_pay20, k0_pay21, k0_pay22, k0_pay23, k0_pay24, k0_pay26, k0_pay27, k0_pay28, k0_pay29, k0_pay30, k0_pay31, k0_pay33, k0_pay34, k0_pay35, k0_pay36, k0_pay37, k0_pay38, k0_pay40, k0_pay41, k0_pay42, k0_pay43, k0_pay44, k0_pay46, k0_pay47, k0_pay48, k0_pay49, k0_pay50, k0_pay52, k0_pay53, k0_pay54, k0_pay55, k0_pay56, k0_pay57, k0_pay59, k0_pay60, k0_pay61, k0_pay62, k0_pay63, k0_pay64, k0_pay66, k0_pay67, k0_pay68, k0_pay69]
  all_goals try simp only [keep25, keep32, keep39, keep45, keep51, keep58, keep65]
  all_goals
    have e0 : (y 0).val % 128 = (x 0).val := by omega
    pointwise [gateB, keepB, keepE]
    refine congrArg₂ (· * ·) ?_ (congrArg₂ (· + ·) (Finset.sum_congr rfl fun k _ => congrArg₂ (· * ·) ?_ ?_) ?_)
    · blk_point []
    · refine if_congr (by rw [e0]) ?_ rfl
      blk_ext []
    · blk_point []
    · blk_point []

end Cert.MixIdeal.Value

end
-- ==== Proof.MGlobal.lean ====
module

public import proofs.«01_k».proof.Proof.MCalls

@[expose] public section

set_option maxRecDepth 16384

noncomputable section

open Idealize.ShloMosaic Idealize.ShloMosaic.TcCoe Idealize.SL.Sem

namespace Cert.MixIdeal.Value

open Cert.MixIdeal Cert.MixIdeal.Gen Cert.Block Cert.Mixer

variable (m : (ℓ : Loc nD τ sig) → Buf (Elt Ideal) ℓ)

/-! # The mixer's result over the whole arrays -/

/-- The blocks of the call, point by point: 512 rows each, and the 16 rows above them. -/
theorem idx0 : ∀ t : Fin cfg0.N, win0_0.index t = ![t.val, 0] ∧ win0_1.index t = ![t.val * 32 - 1, 0] ∧ win0_2.index t = ![t.val, 1] ∧ win0_3.index t = ![t.val, 2] ∧ win0_4.index t = ![0, 0, 0] ∧ win0_5.index t = ![0, 0] ∧ win0_6.index t = ![0, 0] ∧ win0_7.index t = ![0, 0, 0] ∧ win0_8.index t = ![0, 0, 0] ∧ win0_9.index t = ![t.val, 0] :=
  (by decide +kernel : ∀ t : Fin grid0.N, _)

/-- The grid's one coordinate is the point. -/
theorem coord0 : ∀ t : Fin cfg0.N, (grid0.coords t 0).val = t.val := (by decide +kernel : ∀ t : Fin grid0.N, _)

/-- The first block has nothing above it. -/
theorem halo_zero (i : grid0.Coords) (h : (i 0).val = 0) (v : Vec Ideal S16x1024 .f32) (j : S16x1024.Idx) : k0_pay4 i v j = 0 := by
  unfold k0_pay4
  dsimp only
  rw [h]
  exact (show Ideal.ofBits .f32 0#32 = 0 by simp [Ideal.ofBits, Ideal.ieee])

/-- The other blocks have the rows above them. -/
theorem halo_pos (i : grid0.Coords) (h : 0 < (i 0).val) (v : Vec Ideal S16x1024 .f32) : k0_pay4 i v = v := by
  unfold k0_pay4
  dsimp only
  have e : Scalar.cmpi .sgt (BitVec.ofNat 32 (i 0).val) 0#32 = 1#1 := by
    have : (i 0).val < 8 := (i 0).isLt
    generalize (i 0).val = n at *
    interval_cases n <;> first | rfl | decide
  rw [e]
  rfl

/-- The bias, as the host spreads it over the columns. -/
theorem V_bias (c : Dev nD) : V m c main_v1 = fun i => m ((c : Thread nD τ).loc main_arg5) (ix2 (i 0) (i 1)) := by
  show StableHlo.after hostOps0 (StableHlo.launchContents m c) (Proc.devRef .tc main_v1) = _
  entry_read
  funext i
  pointwise []
  blk_ext []

/-- A row of the block's own. -/
theorem own_row (c : Dev nD) (t : Fin cfg0.N) (a : Fin 512) (k : Fin 1024) (r : Fin 4096) (hr : r.val = t.val * 512 + a.val) :
    iblk m c 0 t (ix2 a k) = V m c main_arg0 (ix2 r ⟨k.val, by omega⟩) := by
  blk_ext [iblk, idx0 t]

/-- A row above the block. -/
theorem halo_row (c : Dev nD) (t : Fin cfg0.N) (ht : 0 < t.val) (a : Fin 16) (k : Fin 1024) (r : Fin 4096) (hr : r.val + 16 = t.val * 512 + a.val) :
    iblk m c 1 t (ix2 a k) = V m c main_arg0 (ix2 r ⟨k.val, by omega⟩) := by
  blk_ext [iblk, idx0 t]

/-- The entry some rows above a block's row is the array's. -/
theorem ext_back (c : Dev nD) (t : Fin cfg0.N) (o : Fin 4) (a : Fin 512) (k : Fin 256) (r : Fin 4096) (hr : r.val = t.val * 512 + a.val) (i : ℕ) (hi : i < 16) :
    extB (iblk m c 0 t) (k0_pay4 (grid0.coords t) (iblk m c 1 t)) o (ix2 ⟨(16 + a.val - i) % 528, Nat.mod_lt _ (by decide)⟩ k)
      = backE (V m c main_arg0) r ⟨o.val * 256 + k.val, by omega⟩ i := by
  have ha := a.isLt
  have e := coord0 t
  unfold extB backE
  have em : (16 + a.val - i) % 528 = 16 + a.val - i := Nat.mod_eq_of_lt (by omega)
  by_cases hia : i ≤ a.val
  · rw [dif_neg (by show ¬ (16 + a.val - i) % 528 < 16; omega), if_pos (by omega)]
    exact own_row m c t _ _ _ (by show r.val - i = t.val * 512 + ((16 + a.val - i) % 528 - 16); omega)
  · rw [dif_pos (by show (16 + a.val - i) % 528 < 16; omega)]
    by_cases ht : t.val = 0
    · rw [if_neg (by omega)]
      exact halo_zero _ (e.trans ht) _ _
    · rw [if_pos (by omega), halo_pos _ (by omega)]
      exact halo_row m c t (by omega) _ _ _ (by show r.val - i + 16 = t.val * 512 + (16 + a.val - i) % 528; omega)

/-- The windows of the four groups have at most 16 rows. -/
theorem win_le : ∀ o : Fin 4, winE o ≤ 16 := by decide

/-- A mean of a block's row is the array's. -/
theorem mean_eq (c : Dev nD) (t : Fin cfg0.N) (o : Fin 4) (a : Fin 512) (k : Fin 256) (r : Fin 4096) (hr : r.val = t.val * 512 + a.val) :
    meanB (winE o) o (grid0.coords t 0) (iblk m c 0 t) (k0_pay4 (grid0.coords t) (iblk m c 1 t)) a k
      = pooledE (V m c main_arg0) (winE o) r ⟨o.val * 256 + k.val, by omega⟩ := by
  unfold meanB pooledE
  refine congrArg₂ (· - ·) (congrArg₂ Ideal.div ?_ ?_) (own_row m c t a _ r hr)
  · unfold sumB
    refine Finset.sum_congr rfl fun i hi => ?_
    exact ext_back m c t o a k r hr i (lt_of_lt_of_le (Finset.mem_range.mp hi) (win_le o))
  · rw [hr, coord0 t]

/-- A normalised value row of a block is the array's. -/
theorem val_row (c : Dev nD) (t : Fin cfg0.N) (a : Fin 512) (k : Fin 1024) (r : Fin 4096) (hr : r.val = t.val * 512 + a.val) :
    valB (iblk m c 3 t) (iblk m c 6 t) (ix2 a k) = valE (V m c main_arg0) (V m c main_arg3) r k := by
  unfold valB valE
  blk_point [iblk, idx0 t]

/-- The whole result, with the bias as the kernel reads it. -/
theorem final_9V (c : Dev nD) : (dats m 0 c).arrAt 9 cfg0.N
    = mixE (V m c main_arg0) (V m c main_arg1) (V m c main_arg2) (V m c main_arg3) (V m c main_arg4) (fun i => m ((c : Thread nD τ).loc main_arg5) i) := by
  refine (dats m 0 c).arrAt_eq_of_covers 9 _ (by decide +kernel) fun t hf y => ?_
  blk_simp
  rw [after0_9, out_eq]
  have h0 : ((((cfg0.win 9).blk t).view.emb y) 0).val = t.val * 512 + (y 0).val := by blk_simp [idx0 t]
  have h1 : ((((cfg0.win 9).blk t).view.emb y) 1).val = (y 1).val := by blk_simp [idx0 t]
  generalize ((cfg0.win 9).blk t).view.emb y = z at *
  have hy0 : (y 0).val < 512 := (y 0).isLt
  have hy1 : (y 1).val < 2048 := (y 1).isLt
  unfold mixE
  dsimp only
  by_cases h : (y 1).val < 1024
  · rw [if_pos h, if_pos (by omega)]
    unfold poolY poolE
    have eo : (⟨(y 1).val / 256 % 4, Nat.mod_lt _ (by decide)⟩ : Fin 4) = ⟨(z 1).val / 256 % 4, Nat.mod_lt _ (by decide)⟩ := Fin.ext (by show (y 1).val / 256 % 4 = (z 1).val / 256 % 4; rw [h1])
    have eq' : (⟨(y 1).val % 256, Nat.mod_lt _ (by decide)⟩ : Fin 256) = ⟨(z 1).val % 256, Nat.mod_lt _ (by decide)⟩ := Fin.ext (by show (y 1).val % 256 = (z 1).val % 256; rw [h1])
    rw [eo, eq']
    refine congrArg₂ (· * ·) (Finset.sum_congr rfl fun k _ => congrArg₂ (· * ·) (mean_eq m c t _ (y 0) k (z 0) h0) ?_) ?_
    · blk_ext [iblk, idx0 t]
    · blk_ext [iblk, idx0 t]
  · rw [if_neg h, if_neg (by omega)]
    unfold gateB gateE
    refine congrArg₂ (· * ·) ?_ (congrArg₂ (· + ·) (Finset.sum_congr rfl fun k _ => congrArg₂ (· * ·) ?_ ?_) ?_)
    · blk_ext [iblk, idx0 t]
    · unfold keepE
      refine if_congr (by show k.val / 64 ≤ (y 0).val % 128 / 64 ↔ k.val / 64 ≤ (z 0).val % 128 / 64; rw [h0]; omega) ?_ rfl
      blk_ext [iblk, idx0 t]
    · refine (val_row m c t _ _ ⟨(z 0).val / 128 * 128 + k.val, by have : (z 0).val < 4096 := (z 0).isLt; omega⟩ (by show (z 0).val / 128 * 128 + k.val = t.val * 512 + ((y 0).val / 128 * 128 + k.val); omega)).trans ?_
      exact congrArg (valE _ _ _) (Fin.ext (by show ((y 1).val - 1024) % 1024 = ((z 1).val - 1024) / 128 % 8 * 128 + (z 1).val % 128; omega))
    · have e : iblk m c 8 t = V m c main_v1 := by
        funext i
        blk_ext [iblk, idx0 t]
      rw [e, V_bias]
      refine congrArg (m ((c : Thread nD τ).loc main_arg5)) (funext fun a => ?_)
      match a with
      | ⟨0, _⟩ => exact Fin.ext (by show ((y 1).val - 1024) / 128 % 8 = ((z 1).val - 1024) / 128 % 8; omega)
      | ⟨1, _⟩ => exact Fin.ext (by show (y 0).val % 128 = (z 0).val % 128; omega)

/-- The whole result, over the program's arguments. -/
theorem final_9 (c : Dev nD) : (dats m 0 c).arrAt 9 cfg0.N
    = mixE (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (final_9V m c).trans ?_
  rw [V_main_arg0, V_main_arg1, V_main_arg2, V_main_arg3, V_main_arg4]

end Cert.MixIdeal.Value

end
-- ==== Proof.Scalar.lean ====
module

public import Idealize.ShloMosaic.Lib.Pipeline.ValueKit
public import Idealize.ShloMosaic.Lib.IdealHost
public import Mathlib.Analysis.SpecialFunctions.Trigonometric.DerivHyp

@[expose] public section

set_option maxRecDepth 16384

noncomputable section

open Idealize.ShloMosaic

namespace Cert.Scalar

/-! # The scalar facts of the claim, over the extended reals -/

/-- An extended real that is a real number. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A finite sum of real numbers is a real number. -/
theorem IsReal.sum {n : ℕ} {f : Fin n → EReal} (h : ∀ k, IsReal (f k)) : IsReal (∑ k, f k) :=
  Finset.sum_induction f IsReal (fun _ _ => IsReal.add) ⟨0, EReal.coe_zero.symm⟩ fun k _ => h k

/-- A magnitude below `⊤` is a real number's. -/
theorem isReal_of_abs_lt {x : EReal} (h : max x (-x) < ⊤) : IsReal x := by
  induction x using EReal.rec with
  | bot => simp at h
  | coe r => exact ⟨r, rfl⟩
  | top => simp at h

/-- The f32 pattern of one half. -/
theorem half_eq : Ideal.ofBits FTy.f32 1056964608#32 = ((1 / 2 : ℝ) : EReal) := by
  simp [Ideal.ofBits, Ideal.ieee, -EReal.coe_mul]; norm_num

/-- The sigmoid through the hyperbolic tangent. -/
def sigT (g : EReal) : EReal :=
  Ideal.ofBits FTy.f32 1056964608#32 * Ideal.tanh (Ideal.ofBits FTy.f32 1056964608#32 * g) + Ideal.ofBits FTy.f32 1056964608#32

/-- The sigmoid through the exponential. -/
def sigE (g : EReal) : EReal := Ideal.div 1 (1 + Ideal.exp (-g))

/-- The logistic function by the hyperbolic tangent, over the reals. -/
theorem real_sig (x : ℝ) : (1 / 2 : ℝ) * Real.tanh (1 / 2 * x) + 1 / 2 = 1 * (1 / (1 + Real.exp (-x))) := by
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [h1]
  have hb : 0 < Real.exp (-(1 / 2 * x)) := Real.exp_pos _
  have ha : 0 < Real.exp (1 / 2 * x) := Real.exp_pos _
  generalize Real.exp (-(1 / 2 * x)) = b at *
  generalize Real.exp (1 / 2 * x) = a at *
  have hab : a + b ≠ 0 := by positivity
  have hbb : 1 + b * b ≠ 0 := by positivity
  have e : a = 1 / b := by field_simp; exact h2
  subst e
  field_simp
  ring

/-- The exponential form on a real. -/
theorem sigE_coe (x : ℝ) : sigE (x : EReal) = ((1 * (1 / (1 + Real.exp (-x))) : ℝ) : EReal) := by
  have hpos : (1 : ℝ) + Real.exp (-x) ≠ 0 := by positivity
  rw [sigE, ← EReal.coe_neg, Ideal.exp_coe, ← EReal.coe_one, ← EReal.coe_add, Ideal.div_coe hpos, ← EReal.coe_mul]

/-- The exponential form at plus infinity. -/
theorem sigE_top : sigE ⊤ = 1 := by
  rw [sigE, EReal.neg_top, Ideal.exp_bot, add_zero, ← EReal.coe_one, Ideal.div_coe one_ne_zero, ← EReal.coe_mul]
  norm_num

/-- The exponential form at minus infinity. -/
theorem sigE_bot : sigE ⊥ = 0 := by
  rw [sigE, EReal.neg_bot, Ideal.exp_top, ← EReal.coe_one, EReal.coe_add_top, Ideal.div, if_neg (by simp), EReal.inv_top, mul_zero]

/-- The tangent form on a real. -/
theorem sigT_coe (x : ℝ) : sigT (x : EReal) = (((1 / 2 : ℝ) * Real.tanh (1 / 2 * x) + 1 / 2 : ℝ) : EReal) := by
  rw [sigT, half_eq, ← EReal.coe_mul, Ideal.tanh_coe, ← EReal.coe_mul, ← EReal.coe_add]

/-- The two spellings of the sigmoid agree at every extended real. -/
theorem sigT_eq (g : EReal) : sigT g = sigE g := by
  induction g using EReal.rec with
  | bot =>
    rw [sigE_bot, sigT, half_eq, EReal.coe_mul_bot_of_pos (by norm_num), Ideal.tanh_bot, ← EReal.coe_one, ← EReal.coe_neg,
      ← EReal.coe_mul, ← EReal.coe_add, ← EReal.coe_zero]
    norm_num
  | coe x => rw [sigT_coe, sigE_coe, real_sig]
  | top =>
    rw [sigE_top, sigT, half_eq, EReal.coe_mul_top_of_pos (by norm_num), Ideal.tanh_top, ← EReal.coe_one,
      ← EReal.coe_mul, ← EReal.coe_add]
    norm_num

/-- The gradient through the gate: the kernel's factored form is the product rule's sum of two terms,
    at every gate, as long as the gradient `d` and the up projection `u` are real numbers. -/
theorem dgate_eq (g : EReal) {d u : EReal} (hd : IsReal d) (hu : IsReal u) :
    d * (u * (sigT g * (1 + g * (1 - sigT g)))) = d * u * sigE g + g * (d * u) * (sigE g * (1 - sigE g)) := by
  obtain ⟨a, rfl⟩ := hd; obtain ⟨b, rfl⟩ := hu
  rw [sigT_eq]
  induction g using EReal.rec with
  | bot => rw [sigE_bot]; simp
  | coe x =>
    rw [sigE_coe]
    generalize (1 * (1 / (1 + Real.exp (-x))) : ℝ) = s
    simp only [← EReal.coe_one, ← EReal.coe_sub, ← EReal.coe_mul, ← EReal.coe_add]
    congr 1; ring
  | top =>
    rw [sigE_top]
    have h : (1 : EReal) - 1 = 0 := by rw [← EReal.coe_one, ← EReal.coe_sub]; norm_num
    rw [h]; simp

end Cert.Scalar

end
-- ==== Proof.MPre.lean ====
module

public import proofs.«01_k».proof.Proof.MSpec
public import proofs.«01_k».proof.Proof.Scalar

@[expose] public section

set_option maxRecDepth 16384

noncomputable section

open Idealize.ShloMosaic Idealize.SL
open Cert.Block Cert.Scalar

namespace Cert.Mixer

/-! # Sums over the rows above a row, and their differences -/

variable (p : Arr 4096 3072)

/-- A left fold of sums from zero is the sum. -/
theorem fold_sum {n : ℕ} (g : Fin n → EReal) : (List.finRange n).foldl (fun r i => r + g i) 0 = ∑ i, g i := by
  have h : ∀ (l : List (Fin n)) (z : EReal), l.foldl (fun r i => r + g i) z = z + (l.map g).sum := by
    intro l
    induction l with
    | nil => intro z; simp
    | cons a l ih => intro z; rw [List.foldl_cons, ih, List.map_cons, List.sum_cons, add_assoc]
  rw [h, zero_add, ← List.ofFn_eq_map, List.sum_ofFn]

/-- A position of a column of 4096. -/
theorem col_pos (n : Fin (⟨2, ![4096, 1]⟩ : Shape).numel) :
    ((⟨2, ![4096, 1]⟩ : Shape).rowMajor.symm n 0).val = n.val ∧ ((⟨2, ![4096, 1]⟩ : Shape).rowMajor.symm n 1).val = 0 := by
  have h := Shape.rowMajor_val_two ((⟨2, ![4096, 1]⟩ : Shape).rowMajor.symm n)
  rw [Equiv.apply_symm_apply] at h
  have h1 : ((⟨2, ![4096, 1]⟩ : Shape).rowMajor.symm n 1).val < 1 := ((⟨2, ![4096, 1]⟩ : Shape).rowMajor.symm n 1).isLt
  have h' : n.val = ((⟨2, ![4096, 1]⟩ : Shape).rowMajor.symm n 0).val * 1 + ((⟨2, ![4096, 1]⟩ : Shape).rowMajor.symm n 1).val := h
  omega

/-- The sum of the rows up to a row. -/
theorem prefix_sum (x : Arr 4096 1024) (init : EReal) (h0 : init = 0)
    (h : (⟨2, ![4096, 1024]⟩ : Shape).ReduceWindows ![4096, 1] ![1, 1] ![4095, 0] ![0, 0] ⟨2, ![4096, 1024]⟩) (r : Fin 4096) (c : Fin 1024) :
    Ideal.hostReduceWindowAdd ![4096, 1] ![1, 1] ![4095, 0] ![0, 0] h x init (ix2 r c)
      = ∑ i ∈ Finset.range 4096, if hi : i ≤ r.val then x (ix2 ⟨r.val - i, by omega⟩ c) else 0 := by
  subst h0
  unfold Ideal.hostReduceWindowAdd Host.reduceWindow
  dsimp only
  rw [fold_sum]
  have hN : (⟨2, ![4096, 1]⟩ : Shape).numel = 4096 := by decide
  rw [← Finset.sum_range_reflect, ← Fin.sum_univ_eq_sum_range (fun i => if hi : 4096 - 1 - i ≤ r.val then x (ix2 ⟨r.val - (4096 - 1 - i), by omega⟩ c) else 0)]
  refine Fintype.sum_equiv (finCongr hN) _ _ fun n => ?_
  obtain ⟨e0, e1⟩ := col_pos n
  have hn : n.val < 4096 := lt_of_lt_of_eq n.isLt hN
  have hr := r.isLt
  have hv : ((finCongr hN) n).val = n.val := rfl
  rw [hv]
  by_cases hi : 4096 - 1 - n.val ≤ r.val
  · rw [dif_pos hi]
    rw [dif_pos (fun a => match a with
      | ⟨0, _⟩ => by
        show 4095 ≤ r.val * 1 + ((⟨2, ![4096, 1]⟩ : Shape).rowMajor.symm n 0).val ∧ r.val * 1 + ((⟨2, ![4096, 1]⟩ : Shape).rowMajor.symm n 0).val - 4095 < 4096
        omega
      | ⟨1, _⟩ => by
        show 0 ≤ c.val * 1 + ((⟨2, ![4096, 1]⟩ : Shape).rowMajor.symm n 1).val ∧ c.val * 1 + ((⟨2, ![4096, 1]⟩ : Shape).rowMajor.symm n 1).val - 0 < 1024
        omega)]
    refine congrArg x (funext fun a => Fin.ext ?_)
    match a with
    | ⟨0, _⟩ =>
      show r.val * 1 + ((⟨2, ![4096, 1]⟩ : Shape).rowMajor.symm n 0).val - 4095 = r.val - (4096 - 1 - n.val)
      omega
    | ⟨1, _⟩ =>
      show c.val * 1 + ((⟨2, ![4096, 1]⟩ : Shape).rowMajor.symm n 1).val - 0 = c.val
      omega
  · rw [dif_neg hi]
    refine dif_neg fun hin => ?_
    have := (hin 0).1
    change 4095 ≤ r.val * 1 + ((⟨2, ![4096, 1]⟩ : Shape).rowMajor.symm n 0).val at this
    omega

/-- The sum of a column's entries up to a row. -/
def preE (r : Fin 4096) (c : Fin 3072) : EReal := ∑ i ∈ Finset.range 4096, backE p r c i

/-- The same sum some rows earlier, zero above the first row. -/
def preBackE (n : ℕ) (r : Fin 4096) (c : Fin 3072) : EReal := if h : n ≤ r.val then preE p ⟨r.val - n, by omega⟩ c else 0

/-- The earlier sum, over the rows above the window. -/
theorem preBack_eq (n : ℕ) (r : Fin 4096) (c : Fin 3072) : preBackE p n r c = ∑ i ∈ Finset.range 4096, backE p r c (n + i) := by
  unfold preBackE preE
  split
  · refine Finset.sum_congr rfl fun i _ => ?_
    unfold backE
    by_cases h : i ≤ r.val - n
    · rw [if_pos h, if_pos (by omega)]
      exact congrArg p (congrArg (fun q => ix2 q c) (Fin.ext (by show r.val - n - i = r.val - (n + i); omega)))
    · rw [if_neg h, if_neg (by omega)]
  · refine (Finset.sum_eq_zero fun i _ => ?_).symm
    unfold backE
    rw [if_neg (by omega)]

/-- A sum up to a row splits into the window and the rest. -/
theorem pre_split (n : ℕ) (r : Fin 4096) (c : Fin 3072) : preE p r c = (∑ i ∈ Finset.range n, backE p r c i) + preBackE p n r c := by
  rw [preBack_eq, ← Finset.sum_range_add, Nat.add_comm n, Finset.sum_range_add]
  unfold preE
  rw [Finset.sum_eq_zero (s := Finset.range n) (fun i _ => ?_), add_zero]
  unfold backE
  rw [if_neg (by omega)]

/-- A sum of reals is real. -/
theorem isReal_pre (c : Fin 3072) (hp : ∀ r, IsReal (p (ix2 r c))) (n : ℕ) (r : Fin 4096) : IsReal (preBackE p n r c) := by
  rw [preBack_eq]
  refine Finset.sum_induction _ IsReal (fun _ _ => IsReal.add) ⟨0, EReal.coe_zero.symm⟩ fun i _ => ?_
  unfold backE
  split
  · exact hp _
  · exact ⟨0, EReal.coe_zero.symm⟩

/-- The difference of the two sums is the window's. -/
theorem window_eq (c : Fin 3072) (hp : ∀ r, IsReal (p (ix2 r c))) (n : ℕ) (r : Fin 4096) :
    preE p r c - preBackE p n r c = ∑ i ∈ Finset.range n, backE p r c i := by
  obtain ⟨v, hv⟩ := isReal_pre p c hp n r
  rw [pre_split p n r c, hv]
  exact EReal.add_sub_cancel_right

end Cert.Mixer

end
-- ==== Proof.MRef.lean ====
module

public import proofs.«01_k».proof.Proof.MPre
public import proofs.«01_k».proof.Proof.Gen.MixReferenceIdeal.Run
public import proofs.«01_k».proof.Proof.Gen.MixReferenceIdeal.Read

@[expose] public section

set_option maxRecDepth 16384

noncomputable section

open Idealize.ShloMosaic Idealize.ShloMosaic.TcCoe Idealize.SL.Sem
open Cert.MixReferenceIdeal Cert.MixReferenceIdeal.Gen Cert.MixReferenceIdeal.Read Cert.Scalar Cert.Block

namespace Cert.Mixer

/-! # The reference's values are the kernel's -/

variable (p : Arr 4096 3072) (w : Arr3 4 256 256) (s g : Arr 1 1024) (ws : Arr3 8 128 128) (b : Arr 8 128)

/-- The running sum down the rows, entry by entry. -/
theorem pre_at (r : Fin 4096) (c : Fin 1024) : val_main_v2 (F := Ideal) p (ix2 r c) = preE p r ⟨c.val, by omega⟩ := by
  have hz : val_main_call0_call0_v0 (F := Ideal) (Shape.Idx.first h_S_) = 0 := by
    rw [val_main_call0_call0_v0_apply, val_main_call0_call0_cst_apply]
    exact (show Ideal.ofBits .f32 0#32 = 0 by simp [Ideal.ofBits, Ideal.ieee])
  have h := prefix_sum (val_main_v1 (F := Ideal) p) (val_main_call0_call0_v0 (F := Ideal) (Shape.Idx.first h_S_)) hz reduceWindows_S4096x1024_S4096x1024_w4096s1p4095_0_w1s1p0_0 r c
  refine Eq.trans ?_ (h.trans ?_)
  · unfold val_main_v2 Host.reduceWindowAdd
    rfl
  unfold preE
  refine Finset.sum_congr rfl fun k _ => ?_
  unfold backE
  by_cases h : k ≤ r.val
  · rw [dif_pos h, if_pos h, val_main_v1_apply]
    blk_ext []
  · rw [dif_neg h]
    exact (if_neg h).symm

/-- The running sum down the rows. -/
theorem pre_eq : val_main_v2 (F := Ideal) p = fun i => preE p (i 0) ⟨(i 1).val, by have : (i 1).val < 1024 := (i 1).isLt; omega⟩ := by
  funext i
  refine (congrArg (val_main_v2 (F := Ideal) p) (funext fun a => ?_)).trans (pre_at p (i 0) (i 1))
  match a with
  | ⟨0, _⟩ => rfl
  | ⟨1, _⟩ => rfl

/-- The rows' numbers, as the counts are taken from. -/
theorem pos_eq (r : Fin 4096) : val_main_v7 (F := Ideal) (ix2 r 0) = (((r.val + 1 : ℕ) : ℝ) : EReal) := by
  rw [val_main_v7_apply, val_main_v6_apply, val_main_v5_apply, val_main_v4_apply, val_main_c_apply, val_main_v3_apply]
  have hr := r.isLt
  show (((1#32 + BitVec.ofNat 32 r.val).toInt : ℝ) : EReal) = _
  have e : (1#32 + BitVec.ofNat 32 r.val).toInt = ((r.val + 1 : ℕ) : ℤ) := by
    have hn : (1#32 + BitVec.ofNat 32 r.val).toNat = r.val + 1 := by
      rw [BitVec.toNat_add, BitVec.toNat_ofNat, BitVec.toNat_ofNat]; omega
    rw [BitVec.toInt_eq_toNat_of_lt (by rw [hn]; omega), hn]
  rw [e]
  norm_cast

/-- A count is the smaller of the row's number and the window. -/
theorem min_eq (n r : ℕ) : min (((r + 1 : ℕ) : ℝ) : EReal) (((n : ℕ) : ℝ) : EReal) = countE n r := by
  unfold countE
  rw [Nat.cast_min]
  exact (EReal.coe_strictMono.monotone.map_min).symm

/-- The word of two. -/
theorem f32_two : Ideal.ofBits .f32 0x40000000#32 = (((2 : ℕ) : ℝ) : EReal) := by
  simp [Ideal.ofBits, Ideal.ieee]
  rw [← EReal.coe_mul]
  norm_num

/-- The word of four. -/
theorem f32_four : Ideal.ofBits .f32 0x40800000#32 = (((4 : ℕ) : ℝ) : EReal) := by
  simp [Ideal.ofBits, Ideal.ieee]
  rw [← EReal.coe_mul]
  norm_num

/-- The word of eight. -/
theorem f32_eight : Ideal.ofBits .f32 0x41000000#32 = (((8 : ℕ) : ℝ) : EReal) := by
  simp [Ideal.ofBits, Ideal.ieee]
  rw [← EReal.coe_mul]
  norm_num

/-- The word of sixteen. -/
theorem f32_sixteen : Ideal.ofBits .f32 0x41800000#32 = (((16 : ℕ) : ℝ) : EReal) := by
  simp [Ideal.ofBits, Ideal.ieee]
  rw [← EReal.coe_mul]
  norm_num

/-- The first group's sums two rows earlier. -/
theorem shift0 (r : Fin 4096) (k : Fin 256) : val_main_v11 (F := Ideal) p (ix2 r k) = preBackE p 2 r ⟨0 * 256 + k.val, by omega⟩ := by
  unfold val_main_v11
  rw [show val_main_v10 (F := Ideal) p = fun j => preE p ⟨(j 0).val, by have : (j 0).val < 4094 := (j 0).isLt; omega⟩ ⟨0 * 256 + (j 1).val, by have : (j 1).val < 256 := (j 1).isLt; omega⟩ from by
    funext j; rw [val_main_v10_apply, val_main_v8_apply, pre_eq]; exact congrArg (preE p _) (Fin.ext (by show (j 1).val = 0 * 256 + (j 1).val; omega))]
  rw [show val_main_v9 (F := Ideal) = fun _ => 0 from by
    funext j; rw [val_main_v9_apply, val_main_cst_apply]; exact (show Ideal.ofBits .f32 0#32 = 0 by simp [Ideal.ofBits, Ideal.ieee])]
  unfold preBackE
  generalize preE p = q
  pointwise []
  by_cases h : r.val < 2
  · rw [dif_pos h, dif_neg (by omega)]
  · rw [dif_neg h, dif_pos (by omega)]

/-- The first group's pooled rows. -/
theorem pooled0 (r : Fin 4096) (k : Fin 256) (hp : ∀ r, IsReal (p (ix2 r ⟨0 * 256 + k.val, by omega⟩))) :
    val_main_v18 (F := Ideal) p (ix2 r k) = pooledE p 2 r ⟨0 * 256 + k.val, by omega⟩ := by
  rw [val_main_v18_apply, val_main_v16_apply, val_main_v12_apply, shift0, val_main_v8_apply, pre_eq, val_main_v15_apply, val_main_v14_apply, val_main_v13_apply, val_main_cst_0_apply, val_main_v17_apply, val_main_v1_apply]
  unfold pooledE
  rw [← window_eq p _ hp 2 r, ← min_eq, ← f32_two, ← pos_eq r]
  refine congrArg₂ (· - ·) (congrArg₂ Ideal.div (congrArg (· - _) ?_) ?_) ?_
  · exact congrArg (preE p r) (Fin.ext (by show k.val = 0 * 256 + k.val; omega))
  · refine congrArg (min · _) (congrArg (val_main_v7 (F := Ideal)) (funext fun a => ?_))
    match a with
    | ⟨0, _⟩ => rfl
    | ⟨1, _⟩ => rfl
  · blk_ext []

/-- The second group's sums four rows earlier. -/
theorem shift1 (r : Fin 4096) (k : Fin 256) : val_main_v22 (F := Ideal) p (ix2 r k) = preBackE p 4 r ⟨1 * 256 + k.val, by omega⟩ := by
  unfold val_main_v22
  rw [show val_main_v21 (F := Ideal) p = fun j => preE p ⟨(j 0).val, by have : (j 0).val < 4092 := (j 0).isLt; omega⟩ ⟨1 * 256 + (j 1).val, by have : (j 1).val < 256 := (j 1).isLt; omega⟩ from by
    funext j; rw [val_main_v21_apply, val_main_v19_apply, pre_eq]; rfl]
  rw [show val_main_v20 (F := Ideal) = fun _ => 0 from by
    funext j; rw [val_main_v20_apply, val_main_cst_1_apply]; exact (show Ideal.ofBits .f32 0#32 = 0 by simp [Ideal.ofBits, Ideal.ieee])]
  unfold preBackE
  generalize preE p = q
  pointwise []
  by_cases h : r.val < 4
  · rw [dif_pos h, dif_neg (by omega)]
  · rw [dif_neg h, dif_pos (by omega)]

/-- The second group's pooled rows. -/
theorem pooled1 (r : Fin 4096) (k : Fin 256) (hp : ∀ r, IsReal (p (ix2 r ⟨1 * 256 + k.val, by omega⟩))) :
    val_main_v29 (F := Ideal) p (ix2 r k) = pooledE p 4 r ⟨1 * 256 + k.val, by omega⟩ := by
  rw [val_main_v29_apply, val_main_v27_apply, val_main_v23_apply, shift1, val_main_v19_apply, pre_eq, val_main_v26_apply, val_main_v25_apply, val_main_v24_apply, val_main_cst_2_apply, val_main_v28_apply, val_main_v1_apply]
  unfold pooledE
  rw [← window_eq p _ hp 4 r, ← min_eq, ← f32_four, ← pos_eq r]
  refine congrArg₂ (· - ·) (congrArg₂ Ideal.div (congrArg (· - _) ?_) ?_) ?_
  · exact congrArg (preE p r) (Fin.ext (by show 256 + k.val = 1 * 256 + k.val; omega))
  · refine congrArg (min · _) (congrArg (val_main_v7 (F := Ideal)) (funext fun a => ?_))
    match a with
    | ⟨0, _⟩ => rfl
    | ⟨1, _⟩ => rfl
  · blk_ext []

/-- The third group's sums eight rows earlier. -/
theorem shift2 (r : Fin 4096) (k : Fin 256) : val_main_v33 (F := Ideal) p (ix2 r k) = preBackE p 8 r ⟨2 * 256 + k.val, by omega⟩ := by
  unfold val_main_v33
  rw [show val_main_v32 (F := Ideal) p = fun j => preE p ⟨(j 0).val, by have : (j 0).val < 4088 := (j 0).isLt; omega⟩ ⟨2 * 256 + (j 1).val, by have : (j 1).val < 256 := (j 1).isLt; omega⟩ from by
    funext j; rw [val_main_v32_apply, val_main_v30_apply, pre_eq]; rfl]
  rw [show val_main_v31 (F := Ideal) = fun _ => 0 from by
    funext j; rw [val_main_v31_apply, val_main_cst_3_apply]; exact (show Ideal.ofBits .f32 0#32 = 0 by simp [Ideal.ofBits, Ideal.ieee])]
  unfold preBackE
  generalize preE p = q
  pointwise []
  by_cases h : r.val < 8
  · rw [dif_pos h, dif_neg (by omega)]
  · rw [dif_neg h, dif_pos (by omega)]

/-- The third group's pooled rows. -/
theorem pooled2 (r : Fin 4096) (k : Fin 256) (hp : ∀ r, IsReal (p (ix2 r ⟨2 * 256 + k.val, by omega⟩))) :
    val_main_v40 (F := Ideal) p (ix2 r k) = pooledE p 8 r ⟨2 * 256 + k.val, by omega⟩ := by
  rw [val_main_v40_apply, val_main_v38_apply, val_main_v34_apply, shift2, val_main_v30_apply, pre_eq, val_main_v37_apply, val_main_v36_apply, val_main_v35_apply, val_main_cst_4_apply, val_main_v39_apply, val_main_v1_apply]
  unfold pooledE
  rw [← window_eq p _ hp 8 r, ← min_eq, ← f32_eight, ← pos_eq r]
  refine congrArg₂ (· - ·) (congrArg₂ Ideal.div (congrArg (· - _) ?_) ?_) ?_
  · exact congrArg (preE p r) (Fin.ext (by show 512 + k.val = 2 * 256 + k.val; omega))
  · refine congrArg (min · _) (congrArg (val_main_v7 (F := Ideal)) (funext fun a => ?_))
    match a with
    | ⟨0, _⟩ => rfl
    | ⟨1, _⟩ => rfl
  · blk_ext []

/-- The fourth group's sums sixteen rows earlier. -/
theorem shift3 (r : Fin 4096) (k : Fin 256) : val_main_v44 (F := Ideal) p (ix2 r k) = preBackE p 16 r ⟨3 * 256 + k.val, by omega⟩ := by
  unfold val_main_v44
  rw [show val_main_v43 (F := Ideal) p = fun j => preE p ⟨(j 0).val, by have : (j 0).val < 4080 := (j 0).isLt; omega⟩ ⟨3 * 256 + (j 1).val, by have : (j 1).val < 256 := (j 1).isLt; omega⟩ from by
    funext j; rw [val_main_v43_apply, val_main_v41_apply, pre_eq]; rfl]
  rw [show val_main_v42 (F := Ideal) = fun _ => 0 from by
    funext j; rw [val_main_v42_apply, val_main_cst_5_apply]; exact (show Ideal.ofBits .f32 0#32 = 0 by simp [Ideal.ofBits, Ideal.ieee])]
  unfold preBackE
  generalize preE p = q
  pointwise []
  by_cases h : r.val < 16
  · rw [dif_pos h, dif_neg (by omega)]
  · rw [dif_neg h, dif_pos (by omega)]

/-- The fourth group's pooled rows. -/
theorem pooled3 (r : Fin 4096) (k : Fin 256) (hp : ∀ r, IsReal (p (ix2 r ⟨3 * 256 + k.val, by omega⟩))) :
    val_main_v51 (F := Ideal) p (ix2 r k) = pooledE p 16 r ⟨3 * 256 + k.val, by omega⟩ := by
  rw [val_main_v51_apply, val_main_v49_apply, val_main_v45_apply, shift3, val_main_v41_apply, pre_eq, val_main_v48_apply, val_main_v47_apply, val_main_v46_apply, val_main_cst_6_apply, val_main_v50_apply, val_main_v1_apply]
  unfold pooledE
  rw [← window_eq p _ hp 16 r, ← min_eq, ← f32_sixteen, ← pos_eq r]
  refine congrArg₂ (· - ·) (congrArg₂ Ideal.div (congrArg (· - _) ?_) ?_) ?_
  · exact congrArg (preE p r) (Fin.ext (by show 768 + k.val = 3 * 256 + k.val; omega))
  · refine congrArg (min · _) (congrArg (val_main_v7 (F := Ideal)) (funext fun a => ?_))
    match a with
    | ⟨0, _⟩ => rfl
    | ⟨1, _⟩ => rfl
  · blk_ext []

/-- The four groups' pooled rows, stacked. -/
theorem stack_eq (hp : ∀ (r : Fin 4096) (c : Fin 1024), IsReal (p (ix2 r ⟨c.val, by omega⟩))) (r : Fin 4096) (o : Fin 4) (k : Fin 256) :
    val_main_v56 (F := Ideal) p (ix3 r o k) = pooledE p (winE o) r ⟨o.val * 256 + k.val, by omega⟩ := by
  have q0 := pooled0 p r k (fun r => hp r ⟨0 * 256 + k.val, by omega⟩)
  have q1 := pooled1 p r k (fun r => hp r ⟨1 * 256 + k.val, by omega⟩)
  have q2 := pooled2 p r k (fun r => hp r ⟨2 * 256 + k.val, by omega⟩)
  have q3 := pooled3 p r k (fun r => hp r ⟨3 * 256 + k.val, by omega⟩)
  unfold val_main_v56
  fin_cases o
  · refine Eq.trans ?_ q0
    pointwise [val_main_v52]
    try blk_ext []
  · refine Eq.trans ?_ q1
    pointwise [val_main_v53]
    try blk_ext []
  · refine Eq.trans ?_ q2
    pointwise [val_main_v54]
    try blk_ext []
  · refine Eq.trans ?_ q3
    pointwise [val_main_v55]
    try blk_ext []

end Cert.Mixer

end
-- ==== Proof.MRefOut.lean ====
module

public import proofs.«01_k».proof.Proof.MRef

@[expose] public section

set_option maxRecDepth 16384

noncomputable section

open Idealize.ShloMosaic Idealize.ShloMosaic.TcCoe Idealize.SL.Sem
open Cert.MixReferenceIdeal Cert.MixReferenceIdeal.Gen Cert.MixReferenceIdeal.Read Cert.Scalar Cert.Block

namespace Cert.Mixer

/-! # The reference's result -/

variable (p : Arr 4096 3072) (w : Arr3 4 256 256) (s g : Arr 1 1024) (ws : Arr3 8 128 128) (b : Arr 8 128)

/-- The pooled half. -/
theorem pool_eq (hp : ∀ (r : Fin 4096) (c : Fin 1024), IsReal (p (ix2 r ⟨c.val, by omega⟩))) (r : Fin 4096) (q : Fin 1024) :
    val_main_v61 (F := Ideal) p w s (ix2 r q) = poolE p w s ⟨q.val / 256 % 4, by omega⟩ r ⟨q.val % 256, by omega⟩ := by
  unfold poolE
  pointwise [val_main_v61, val_main_v60, val_main_v59, val_main_v58, val_main_v57, val_main_v0]
  refine congrArg₂ (· * ·) (Finset.sum_congr rfl fun k _ => ?_) ?_
  · rw [mul_comm, ← stack_eq p hp]
    refine congrArg₂ (· * ·) ?_ ?_
    · generalize val_main_v56 (F := Ideal) p = z
      blk_ext []
    · blk_ext []
  · blk_ext []

/-- The normalised value rows times the gain. -/
theorem val_ref (r : Fin 4096) (q : Fin 1024) : val_main_v76 (F := Ideal) p g (ix2 r q) = valE p g r q := by
  unfold valE
  pointwise [val_main_v76, val_main_v75, val_main_v74, val_main_v73, val_main_v72, val_main_v71, val_main_v70, val_main_v69, val_main_v68, val_main_v67, val_main_v66, val_main_v65, val_main_v64, val_main_v62, val_main_cst_7, val_main_cst_8, val_main_cst_9]
  try blk_point []

/-- The chunk of a column. -/
theorem chunk_col : ∀ k : Fin 128, val_main_v80 (F := Ideal) (ix2 0 k) = BitVec.ofNat 32 (k.val / 64) := by
  intro k
  rw [val_main_v80_apply, val_main_call1_v11_apply, val_main_call1_v13_apply, val_main_call1_v12_apply, val_main_call1_c_0_apply, val_main_call1_v10_apply, val_main_call1_v9_apply, val_main_call1_c_apply, val_main_call1_v8_apply, val_main_call1_v7_apply, val_main_call1_v6_apply, val_main_call1_v5_apply, val_main_call1_v2_apply, val_main_call1_v1_apply]
  revert k
  decide +kernel

/-- The chunk of a row. -/
theorem chunk_row : ∀ k : Fin 128, val_main_v82 (F := Ideal) (ix2 k 0) = BitVec.ofNat 32 (k.val / 64) := by
  intro k
  rw [val_main_v82_apply, val_main_call2_v11_apply, val_main_call2_v13_apply, val_main_call2_v12_apply, val_main_call2_c_0_apply, val_main_call2_v10_apply, val_main_call2_v9_apply, val_main_call2_c_apply, val_main_call2_v8_apply, val_main_call2_v7_apply, val_main_call2_v6_apply, val_main_call2_v5_apply, val_main_call2_v2_apply, val_main_call2_v1_apply]
  revert k
  decide +kernel

/-- Comparing two chunks. -/
theorem chunk_le : ∀ a k : Fin 128, IntOp.cmpi .sle (BitVec.ofNat 32 (k.val / 64)) (BitVec.ofNat 32 (a.val / 64)) = if k.val / 64 ≤ a.val / 64 then 1#1 else 0#1 := by
  decide +kernel

/-- The masked weight. -/
theorem keep_ref (h : Fin 8) (a k : Fin 128) : val_main_v87 (F := Ideal) ws (ix3 h a k) = keepE ws h a k := by
  rw [val_main_v87_apply, val_main_call3_v1_apply, val_main_v86_apply, val_main_v85_apply, val_main_v84_apply, val_main_v83_apply]
  have e : IntOp.cmpi .sle (val_main_v80 (F := Ideal) (ix2 0 k)) (val_main_v82 (F := Ideal) (ix2 a 0)) = if k.val / 64 ≤ a.val / 64 then 1#1 else 0#1 := by
    rw [chunk_col, chunk_row, chunk_le]
  have z : val_main_call3_v2 (F := Ideal) (ix3 h a k) = 0 := by
    rw [val_main_call3_v2_apply]
    exact (show Ideal.ofBits .f32 0#32 = 0 by simp [Ideal.ofBits, Ideal.ieee])
  rw [z]
  unfold keepE
  refine (congrArg (fun x => Scalar.select x (ws (ix3 h a k)) 0) (?_ : _ = if k.val / 64 ≤ a.val / 64 then 1#1 else 0#1)).trans ?_
  · refine Eq.trans (congrArg₂ (IntOp.cmpi .sle) (congrArg _ (funext fun x => ?_)) (congrArg _ (funext fun x => ?_))) e
    · match x with
      | ⟨0, _⟩ => rfl
      | ⟨1, _⟩ => rfl
    · match x with
      | ⟨0, _⟩ => rfl
      | ⟨1, _⟩ => rfl
  · split <;> rfl

/-- The gated half. -/
theorem gate_eq (r : Fin 4096) (q : Fin 1024) :
    val_main_v95 (F := Ideal) p g ws b (ix2 r q) = gateE p g ws b ⟨q.val / 128 % 8, by omega⟩ r ⟨q.val % 128, by omega⟩ := by
  unfold gateE
  pointwise [val_main_v95, val_main_v94, val_main_v93, val_main_v92, val_main_v91, val_main_v90, val_main_v89, val_main_v88, val_main_v77, val_main_v63, val_main_v62]
  refine congrArg₂ (· * ·) ?_ (congrArg₂ (· + ·) (Finset.sum_congr rfl fun k _ => ?_) ?_)
  · blk_ext []
  · rw [← keep_ref, ← val_ref]
    refine (mul_comm _ _).trans (congrArg₂ (· * ·) ?_ ?_)
    · generalize val_main_v87 (F := Ideal) ws = z
      blk_ext []
    · generalize val_main_v76 (F := Ideal) p g = z
      blk_ext []
  · blk_ext []

/-- The reference's whole result. -/
theorem result_eq (hp : ∀ (r : Fin 4096) (c : Fin 1024), IsReal (p (ix2 r ⟨c.val, by omega⟩))) :
    val_main_v97 (F := Ideal) p w s g ws b = mixE p w s g ws b := by
  funext i
  rw [val_main_v97_apply]
  unfold val_main_v96 mixE
  rw [show val_main_v61 (F := Ideal) p w s = fun j => poolE p w s ⟨(j 1).val / 256 % 4, by omega⟩ (j 0) ⟨(j 1).val % 256, by omega⟩ from by
    funext j
    refine (congrArg (val_main_v61 (F := Ideal) p w s) (funext fun a => ?_)).trans (pool_eq p w s hp (j 0) (j 1))
    match a with
    | ⟨0, _⟩ => rfl
    | ⟨1, _⟩ => rfl]
  rw [show val_main_v95 (F := Ideal) p g ws b = fun j => gateE p g ws b ⟨(j 1).val / 128 % 8, by omega⟩ (j 0) ⟨(j 1).val % 128, by omega⟩ from by
    funext j
    refine (congrArg (val_main_v95 (F := Ideal) p g ws b) (funext fun a => ?_)).trans (gate_eq p g ws b (j 0) (j 1))
    match a with
    | ⟨0, _⟩ => rfl
    | ⟨1, _⟩ => rfl]
  pointwise []
  by_cases h : (i 1).val < 1024
  · rw [dif_pos h, if_pos h]
  · rw [dif_neg h, if_neg h]
    congr 1
    exact Fin.ext (by show ((i 1).val - 1024) % 128 = (i 1).val % 128; omega)

end Cert.Mixer

end
-- ==== Proof.Finite.lean ====
module

public import proofs.«01_k».proof.Defs
public import proofs.«01_k».proof.Proof.Scalar
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem Cert.Scalar

namespace Cert.Scalar

/-! # What the precondition says of the arguments -/

/-- The bf16 word of infinity. -/
theorem bf16_top : Ideal.ofBits FTy.bf16 32640#16 = (⊤ : EReal) := by simp [Ideal.ofBits, Ideal.ieee]

/-- A magnitude compared below infinity is a real number's. -/
theorem isReal_of_cmp {x : EReal}
    (h : FloatOps.cmpf (F := Ideal) (φ := .bf16) .olt (FloatOps.hostAbsf (F := Ideal) (φ := .bf16) x) (Ideal.ofBits FTy.bf16 32640#16) = 1#1) : IsReal x := by
  rw [bf16_top] at h
  refine isReal_of_abs_lt ?_
  by_contra hn
  have : FloatOps.cmpf (F := Ideal) (φ := .bf16) .olt (FloatOps.hostAbsf (F := Ideal) (φ := .bf16) x) (⊤ : EReal) = 0#1 := by
    show BitVec.ofBool (decide (max x (-x) < ⊤)) = 0#1
    rw [decide_eq_false hn]; rfl
  rw [this] at h
  exact absurd h (by decide)

end Cert.Scalar

namespace Cert.Pre_finite

variable [Cert.Pre_finite.Facts] {a0 : FVec Ideal S4096x2048 .f32} {a1 : FVec Ideal S4096x2048 .bf16} {a2 a3 : FVec Ideal S2048x5632 .bf16}
  {a4 : FVec Ideal S5632x2048 .bf16} {a5 : FVec Ideal S4096x2048 .bf16}

/-- A conjunction of bits holds of both. -/
theorem and_one {a b : BitVec 1} (h : a &&& b = 1#1) : a = 1#1 ∧ b = 1#1 := by
  revert a b; decide

instance : Subsingleton S_.Idx := ⟨fun a b => funext fun k => k.elim0⟩

/-- The precondition makes the block's input, the up and down projections and the incoming gradient real. -/
theorem finite (h : fn (F := Ideal) a0 a1 a2 a3 a4 a5 = fun _ => 1#1) :
    (∀ i, IsReal (a1 i)) ∧ (∀ i, IsReal (a3 i)) ∧ (∀ i, IsReal (a4 i)) ∧ ∀ i, IsReal (a5 i) := by
  have h := congrFun h (fun k => k.elim0)
  dsimp only [fn, fn_part1] at h
  obtain ⟨h, h5⟩ := and_one h
  obtain ⟨h, h4⟩ := and_one h
  obtain ⟨h1, h3⟩ := and_one h
  exact ⟨fun i => isReal_of_cmp (Host.reduce_andi_all _ _ _ _ _ h1 i), fun i => isReal_of_cmp (Host.reduce_andi_all _ _ _ _ _ h3 i),
    fun i => isReal_of_cmp (Host.reduce_andi_all _ _ _ _ _ h4 i), fun i => isReal_of_cmp (Host.reduce_andi_all _ _ _ _ _ h5 i)⟩

end Cert.Pre_finite

end
-- ==== Proof.XFinite.lean ====
module

public import proofs.«01_k».proof.Defs
public import proofs.«01_k».proof.Proof.Scalar
public import proofs.«01_k».proof.Proof.Finite
public import proofs.«01_k».proof.Proof.Gen.Pre_finite_xattn
public import Idealize.ShloMosaic.Lib.ReduceAll

@[expose] public section

set_option maxRecDepth 16384

noncomputable section

open Idealize.ShloMosaic Idealize.ShloMosaic.TcCoe Idealize.SL.Sem Cert.Scalar

namespace Cert.Scalar

/-! # What the attention block's precondition says of its arguments -/

/-- The f32 word of infinity. -/
theorem f32_top : Ideal.ofBits FTy.f32 2139095040#32 = (⊤ : EReal) := by simp [Ideal.ofBits, Ideal.ieee]

/-- A magnitude compared below the word of infinity is a real number's. -/
theorem isReal_of_cmp_f32 {x : EReal}
    (h : FloatOps.cmpf (F := Ideal) (φ := .f32) .olt (FloatOps.hostAbsf (F := Ideal) (φ := .f32) x) (Ideal.ofBits FTy.f32 2139095040#32) = 1#1) : IsReal x := by
  rw [f32_top] at h
  refine isReal_of_abs_lt ?_
  by_contra hn
  have : FloatOps.cmpf (F := Ideal) (φ := .f32) .olt (FloatOps.hostAbsf (F := Ideal) (φ := .f32) x) (⊤ : EReal) = 0#1 := by
    show BitVec.ofBool (decide (max x (-x) < ⊤)) = 0#1
    rw [decide_eq_false hn]; rfl
  rw [this] at h
  exact absurd h (by decide)

end Cert.Scalar

namespace Cert.Pre_finite_xattn

variable [Cert.Pre_finite_xattn.Facts] {a0 : FVec Ideal S4096x2048 .bf16} {a1 : FVec Ideal S4096x2048 .f32} {a2 : FVec Ideal S256x2048 .f32}
  {a3 a4 a5 : FVec Ideal S1x2048 .f32} {a6 a7 a8 a9 a10 : FVec Ideal S2048x2048 .bf16} {a11 a12 : FVec Ideal S4096x2048 .f32}

/-- A conjunction of bits holds of both. -/
theorem both {a b : BitVec 1} (h : a &&& b = 1#1) : a = 1#1 ∧ b = 1#1 := by
  revert a b; decide

instance : Subsingleton S_.Idx := ⟨fun a b => funext fun k => k.elim0⟩

/-- The precondition makes every argument real. -/
theorem finite (h : fn (F := Ideal) a0 a1 a2 a3 a4 a5 a6 a7 a8 a9 a10 a11 a12 = fun _ => 1#1) :
    ((∀ i, IsReal (a0 i)) ∧ (∀ i, IsReal (a1 i)) ∧ (∀ i, IsReal (a2 i)) ∧ (∀ i, IsReal (a3 i)) ∧ (∀ i, IsReal (a4 i)) ∧ (∀ i, IsReal (a5 i)))
      ∧ ((∀ i, IsReal (a6 i)) ∧ (∀ i, IsReal (a7 i)) ∧ (∀ i, IsReal (a8 i)) ∧ (∀ i, IsReal (a9 i)) ∧ (∀ i, IsReal (a10 i)))
      ∧ (∀ i, IsReal (a11 i)) ∧ (∀ i, IsReal (a12 i)) := by
  have h := congrFun h (fun k => k.elim0)
  dsimp only [fn, fn_part1, fn_part2, fn_part3] at h
  obtain ⟨h, h12⟩ := both h
  obtain ⟨h, h11⟩ := both h
  obtain ⟨h, h10⟩ := both h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨⟨fun i => isReal_of_cmp (Host.reduce_andi_all _ _ _ _ _ h0 i), fun i => isReal_of_cmp_f32 (Host.reduce_andi_all _ _ _ _ _ h1 i),
      fun i => isReal_of_cmp_f32 (Host.reduce_andi_all _ _ _ _ _ h2 i), fun i => isReal_of_cmp_f32 (Host.reduce_andi_all _ _ _ _ _ h3 i),
      fun i => isReal_of_cmp_f32 (Host.reduce_andi_all _ _ _ _ _ h4 i), fun i => isReal_of_cmp_f32 (Host.reduce_andi_all _ _ _ _ _ h5 i)⟩,
    ⟨fun i => isReal_of_cmp (Host.reduce_andi_all _ _ _ _ _ h6 i), fun i => isReal_of_cmp (Host.reduce_andi_all _ _ _ _ _ h7 i),
      fun i => isReal_of_cmp (Host.reduce_andi_all _ _ _ _ _ h8 i), fun i => isReal_of_cmp (Host.reduce_andi_all _ _ _ _ _ h9 i),
      fun i => isReal_of_cmp (Host.reduce_andi_all _ _ _ _ _ h10 i)⟩,
    fun i => isReal_of_cmp_f32 (Host.reduce_andi_all _ _ _ _ _ h11 i), fun i => isReal_of_cmp_f32 (Host.reduce_andi_all _ _ _ _ _ h12 i)⟩

end Cert.Pre_finite_xattn

end
-- ==== Proof.MFinite.lean ====
module

public import proofs.«01_k».proof.Defs
public import proofs.«01_k».proof.Proof.XFinite
public import proofs.«01_k».proof.Proof.MSpec
public import proofs.«01_k».proof.Proof.Gen.Pre_finite_mix

@[expose] public section

set_option maxRecDepth 16384

noncomputable section

open Idealize.ShloMosaic Idealize.ShloMosaic.TcCoe Idealize.SL.Sem Cert.Scalar Cert.Block

namespace Cert.Pre_finite_mix

/-! # What the mixer's precondition says of its argument -/

variable [Cert.Pre_finite_mix.Facts] {a0 : FVec Ideal S4096x3072 .f32} {a1 : FVec Ideal S4x256x256 .bf16} {a2 a3 : FVec Ideal S1x1024 .f32}
  {a4 : FVec Ideal S8x128x128 .f32} {a5 : FVec Ideal S8x128 .f32}

instance : Subsingleton S_.Idx := ⟨fun a b => funext fun k => k.elim0⟩

/-- The precondition makes the pooled columns real. -/
theorem finite (h : fn (F := Ideal) a0 a1 a2 a3 a4 a5 = fun _ => 1#1) (r : Fin 4096) (c : Fin 1024) : IsReal (a0 (ix2 r ⟨c.val, by omega⟩)) := by
  have h := congrFun h (fun k => k.elim0)
  dsimp only [fn] at h
  have e := isReal_of_cmp_f32 (Host.reduce_andi_all _ _ _ _ _ h (ix2 r c))
  have hx := extractStridedSlice_apply ![0, 0] a0 Facts.slices_S4096x3072_S4096x1024_0_0 (ix2 r c) (ix2 r ⟨c.val, by omega⟩) (fun a => match a with
    | ⟨0, _⟩ => by show r.val = 0 + r.val; omega
    | ⟨1, _⟩ => by show c.val = 0 + c.val; omega)
  rw [← hx]
  exact e

end Cert.Pre_finite_mix

end
-- ==== Proof.Run.lean ====
module

public import proofs.«01_k».proof.Proof.Gen.KernelIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

namespace Cert.KernelIdeal.Value

open Cert.KernelIdeal Cert.KernelIdeal.Gen

variable {F : FTy → Type} [FloatOps F]

/-- The resources the run is proved over. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each of the launch's arrays holding what the last segment's state says, and with
    every semaphore counter at zero. -/
theorem run_state : θ_run defs (onTc (τ := τ) (main (F := F))) ⟨m, fun _ => 0, ρ⟩
    (fun r => (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      have held : (unscopedBufs c (fun b => m ((c : Thread nD τ).loc b)) : sProp 𝕄)
          = StableHlo.held (c : Thread nD τ) (Pipeline.ucRefs τ sig) (W0 m ρ c) := Pipeline.unscopedBufs_held c (W0 m ρ c)
      rw [held]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.KernelIdeal.Value

end
-- ==== Proof.Calls.lean ====
module

public import proofs.«01_k».proof.Proof.Gen.KernelIdeal.Frame
public import Idealize.ShloMosaic.Lib.Pipeline.ValueKit
public import proofs.«01_k».proof.Proof.Scalar

@[expose] public section

set_option maxRecDepth 16384

noncomputable section

open Idealize.ShloMosaic Idealize.ShloMosaic.TcCoe Idealize.SL Idealize.SL.Sem
open Idealize.ShloMosaic.Pipeline (Dat)

namespace Cert.KernelIdeal.Value

open Cert.KernelIdeal Cert.KernelIdeal.Gen Cert.Scalar

variable (V : (c : Dev nD) → (b : Ref sig .tc) → Buf (Elt Ideal) ((c : Thread nD τ).loc b))

/-! # What each kernel call of the feed-forward block leaves in its result arrays

Every statement is over arbitrary contents `V` of the arrays the call finds. -/

/-- A projection by a weight kept as four column slabs: at `(s, f)` the sum over `k` of `h s k` times
    the weight's entry `(k, f)`, found in slab `f / 1408` at column `f % 1408`. -/
def proj (h : FVec Ideal S4096x2048 .bf16) (w : FVec Ideal S4x2048x1408 .bf16) : FVec Ideal S4096x5632 .f32 :=
  fun i => ∑ k : Fin 2048, h (ix2 (i 0) k) * w (ix3 ⟨(i 1).val / 1408, by have := (i 1).isLt; change _ < 5632 at this; omega⟩ k
    ⟨(i 1).val % 1408, Nat.mod_lt _ (by decide)⟩)

/-- The activation `silu gate * up`. -/
def actV (g u : FVec Ideal S4096x5632 .f32) : FVec Ideal S4096x5632 .bf16 := fun i => g i * sigT (g i) * u i

/-- The activation's derivative by the gate. -/
def actByGate (g u : FVec Ideal S4096x5632 .f32) : FVec Ideal S4096x5632 .bf16 :=
  fun i => u i * (sigT (g i) * (1 + g i * (1 - sigT (g i))))

/-- The activation's derivative by the up projection. -/
def actByUp (g : FVec Ideal S4096x5632 .f32) : FVec Ideal S4096x5632 .bf16 := fun i => g i * sigT (g i)

/-- The block's result: the residual plus the down projection. -/
def downV (act : FVec Ideal S4096x5632 .bf16) (wd : FVec Ideal S5632x2048 .bf16) (x : FVec Ideal S4096x2048 .f32) :
    FVec Ideal S4096x2048 .f32 :=
  fun i => x i + ∑ f : Fin 5632, act (ix2 (i 0) f) * wd (ix2 f (i 1))

/-- The gradient at the activation times one of the activation's derivatives `a`. -/
def dactTimes (dy : FVec Ideal S4096x2048 .bf16) (wd : FVec Ideal S5632x2048 .bf16) (a : FVec Ideal S4096x5632 .bf16) :
    FVec Ideal S4096x5632 .bf16 :=
  fun i => (∑ k : Fin 2048, dy (ix2 (i 0) k) * wd (ix2 (i 1) k)) * a i

/-- The gradient of the down projection: at `(f, d)` the sum over the rows `s` of `act s f * dy s d`. -/
def gradDown (act : FVec Ideal S4096x5632 .bf16) (dy : FVec Ideal S4096x2048 .bf16) : FVec Ideal S5632x2048 .bf16 :=
  fun i => ∑ s : Fin 4096, act (ix2 s (i 0)) * dy (ix2 s (i 1))

/-- The gradient of a projection's weight, as four column slabs: at `(b, d, e)` the sum over the rows `s` of
    `h s d * g s (1408 b + e)`. -/
def gradProj (h : FVec Ideal S4096x2048 .bf16) (g : FVec Ideal S4096x5632 .bf16) : FVec Ideal S4x2048x1408 .bf16 :=
  fun i => ∑ s : Fin 4096, h (ix2 s (i 1)) * g (ix2 s ⟨(i 0).val * 1408 + (i 2).val, by
    have h0 := (i 0).isLt; have h2 := (i 2).isLt; change _ < 4 at h0; change _ < 1408 at h2; omega⟩)

/-- The gradient at the block's normalised input: slab by slab, both projections' contributions. -/
def gradIn (dg du : FVec Ideal S4096x5632 .bf16) (wg wu : FVec Ideal S4x2048x1408 .bf16) : FVec Ideal S4096x2048 .f32 :=
  fun i => ∑ b : Fin 4,
    ((∑ e : Fin 1408, dg (ix2 (i 0) ⟨b.val * 1408 + e.val, by omega⟩) * wg (ix3 b (i 1) e))
      + ∑ e : Fin 1408, du (ix2 (i 0) ⟨b.val * 1408 + e.val, by omega⟩) * wu (ix3 b (i 1) e))

/-! ## The blocks' places, decided over the grids -/

/-- The blocks call 0 takes at each grid step. -/
theorem idx0 : ∀ t : Fin cfg0.N, win0_0.index t = ![t.val / 4, 0] ∧ win0_1.index t = ![t.val % 4, 0, 0]
    ∧ win0_2.index t = ![t.val % 4, 0, 0]
    ∧ win0_3.index t = ![t.val / 4, t.val % 4] ∧ win0_4.index t = ![t.val / 4, t.val % 4] ∧ win0_5.index t = ![t.val / 4, t.val % 4]
    ∧ t.val / 4 < 8 :=
  (by decide +kernel : ∀ t : Fin grid0.N, _)

/-- The blocks call 1 takes at each grid step. -/
theorem idx1 : ∀ t : Fin cfg1.N, win1_0.index t = ![t.val / 2, 0] ∧ win1_1.index t = ![0, t.val % 2]
    ∧ win1_2.index t = ![t.val / 2, t.val % 2] ∧ win1_3.index t = ![t.val / 2, t.val % 2] :=
  (by decide +kernel : ∀ t : Fin grid1.N, _)

/-- The blocks call 2 takes at each grid step. -/
theorem idx2 : ∀ t : Fin cfg2.N, win2_0.index t = ![t.val / 4, 0] ∧ win2_1.index t = ![t.val % 4, 0]
    ∧ win2_2.index t = ![t.val / 4, t.val % 4] ∧ win2_3.index t = ![t.val / 4, t.val % 4]
    ∧ win2_4.index t = ![t.val / 4, t.val % 4] ∧ win2_5.index t = ![t.val / 4, t.val % 4] :=
  (by decide +kernel : ∀ t : Fin grid2.N, _)

/-- The blocks call 3 takes at each grid step. -/
theorem idx3 : ∀ t : Fin cfg3.N, win3_0.index t = ![0, t.val / 2] ∧ win3_1.index t = ![0, t.val % 2]
    ∧ win3_2.index t = ![t.val / 2, t.val % 2] :=
  (by decide +kernel : ∀ t : Fin grid3.N, _)

/-- The blocks call 4 takes at each grid step. -/
theorem idx4 : ∀ t : Fin cfg4.N, win4_0.index t = ![0, t.val / 4] ∧ win4_1.index t = ![0, t.val % 4]
    ∧ win4_2.index t = ![t.val % 4, t.val / 4, 0] :=
  (by decide +kernel : ∀ t : Fin grid4.N, _)

/-- The blocks call 5 takes at each grid step. -/
theorem idx5 : ∀ t : Fin cfg5.N, win5_0.index t = ![0, t.val / 4] ∧ win5_1.index t = ![0, t.val % 4]
    ∧ win5_2.index t = ![t.val % 4, t.val / 4, 0] :=
  (by decide +kernel : ∀ t : Fin grid5.N, _)

/-- The blocks call 6 takes at each grid step. -/
theorem idx6 : ∀ t : Fin cfg6.N, win6_0.index t = ![t.val / 8, t.val % 4] ∧ win6_1.index t = ![t.val / 8, t.val % 4]
    ∧ win6_2.index t = ![t.val % 4, t.val / 4 % 2, 0] ∧ win6_3.index t = ![t.val % 4, t.val / 4 % 2, 0]
    ∧ win6_4.index t = ![t.val / 8, t.val / 4 % 2] :=
  (by decide +kernel : ∀ t : Fin grid6.N, _)

/-! ## The calls -/

/-- A gate block is the projection at the block's place. -/
theorem gate_blk (c : Dev nD) (t : Fin cfg0.N) (y : S512x1408.Idx) (i : S4096x5632.Idx)
    (h0 : (i 0).val = t.val / 4 * 512 + (y 0).val) (h1 : (i 1).val = t.val % 4 * 1408 + (y 1).val) :
    k0_pay1 (F := Ideal) (iblk0 V c 0 t) (iblk0 V c 1 t) y = proj (V c main_arg1) (V c main_v1) i := by
  pointwise [k0_pay1, proj]
  blk_point [iblk0, idx0 t]

/-- An up block is the projection at the block's place. -/
theorem up_blk (c : Dev nD) (t : Fin cfg0.N) (y : S512x1408.Idx) (i : S4096x5632.Idx)
    (h0 : (i 0).val = t.val / 4 * 512 + (y 0).val) (h1 : (i 1).val = t.val % 4 * 1408 + (y 1).val) :
    k0_pay2 (F := Ideal) (iblk0 V c 0 t) (iblk0 V c 2 t) y = proj (V c main_arg1) (V c main_v3) i := by
  pointwise [k0_pay2, proj]
  blk_point [iblk0, idx0 t]

/-- The first call's activation array. -/
theorem final0_3 (c : Dev nD) : (dat0 V c).arrAt 3 cfg0.N
    = actV (proj (V c main_arg1) (V c main_v1)) (proj (V c main_arg1) (V c main_v3)) := by
  refine (dat0 V c).arrAt_eq_of_covers 3 _ (by decide +kernel) fun t _ y => ?_
  blk_simp
  rw [after0_3]; frame_out
  have hg := gate_blk V c t y (((cfg0.win 3).blk t).view.emb y) (by blk_simp [idx0 t]) (by blk_simp [idx0 t])
  have hu := up_blk V c t y (((cfg0.win 3).blk t).view.emb y) (by blk_simp [idx0 t]) (by blk_simp [idx0 t])
  pointwise [k0_pay5, k0_pay4, k0_pay3]
  rw [hg, hu]; rfl

/-- The first call's derivative by the gate. -/
theorem final0_4 (c : Dev nD) : (dat0 V c).arrAt 4 cfg0.N
    = actByGate (proj (V c main_arg1) (V c main_v1)) (proj (V c main_arg1) (V c main_v3)) := by
  refine (dat0 V c).arrAt_eq_of_covers 4 _ (by decide +kernel) fun t _ y => ?_
  blk_simp
  rw [after0_4]; frame_out
  have hg := gate_blk V c t y (((cfg0.win 4).blk t).view.emb y) (by blk_simp [idx0 t]) (by blk_simp [idx0 t])
  have hu := up_blk V c t y (((cfg0.win 4).blk t).view.emb y) (by blk_simp [idx0 t]) (by blk_simp [idx0 t])
  pointwise [k0_pay6, k0_pay3]
  rw [hg, hu]; rfl

/-- The first call's derivative by the up projection. -/
theorem final0_5 (c : Dev nD) : (dat0 V c).arrAt 5 cfg0.N = actByUp (proj (V c main_arg1) (V c main_v1)) := by
  refine (dat0 V c).arrAt_eq_of_covers 5 _ (by decide +kernel) fun t _ y => ?_
  blk_simp
  rw [after0_5]; frame_out
  have hg := gate_blk V c t y (((cfg0.win 5).blk t).view.emb y) (by blk_simp [idx0 t]) (by blk_simp [idx0 t])
  pointwise [k0_pay7, k0_pay4, k0_pay3]
  rw [hg]; rfl

/-- The block's result. -/
theorem final1 (c : Dev nD) : (dat1 V c).arrAt 3 cfg1.N = downV (V c main_v4_0) (V c main_arg4) (V c main_arg0) := by
  refine (dat1 V c).arrAt_eq_of_covers 3 _ (by decide +kernel) fun t _ y => ?_
  blk_simp
  rw [after1_3]; frame_out
  pointwise [k1_pay1, downV]
  blk_point [iblk1, idx1 t]

/-- The gradient at the gate. -/
theorem final2_4 (c : Dev nD) : (dat2 V c).arrAt 4 cfg2.N = dactTimes (V c main_arg5) (V c main_arg4) (V c main_v4_1) := by
  refine (dat2 V c).arrAt_eq_of_covers 4 _ (by decide +kernel) fun t _ y => ?_
  blk_simp
  rw [after2_4]; frame_out
  pointwise [k2_pay2, k2_pay1, dactTimes]
  blk_point [iblk2, idx2 t]

/-- The gradient at the up projection. -/
theorem final2_5 (c : Dev nD) : (dat2 V c).arrAt 5 cfg2.N = dactTimes (V c main_arg5) (V c main_arg4) (V c main_v4_2) := by
  refine (dat2 V c).arrAt_eq_of_covers 5 _ (by decide +kernel) fun t _ y => ?_
  blk_simp
  rw [after2_5]; frame_out
  pointwise [k2_pay3, k2_pay1, dactTimes]
  blk_point [iblk2, idx2 t]

/-- The gradient of the down projection. -/
theorem final3 (c : Dev nD) : (dat3 V c).arrAt 2 cfg3.N = gradDown (V c main_v4_0) (V c main_arg5) := by
  refine (dat3 V c).arrAt_eq_of_covers 2 _ (by decide +kernel) fun t _ y => ?_
  blk_simp
  rw [after3_2]; frame_out
  pointwise [k3_pay1, gradDown]
  blk_point [iblk3, idx3 t]

/-- The gradient of the gate projection. -/
theorem final4 (c : Dev nD) : (dat4 V c).arrAt 2 cfg4.N = gradProj (V c main_arg1) (V c main_v6_0) := by
  refine (dat4 V c).arrAt_eq_of_covers 2 _ (by decide +kernel) fun t _ y => ?_
  blk_simp
  rw [after4_2]; frame_out
  pointwise [k4_pay1, gradProj]
  blk_point [iblk4, idx4 t]

/-- The gradient of the up projection. -/
theorem final5 (c : Dev nD) : (dat5 V c).arrAt 2 cfg5.N = gradProj (V c main_arg1) (V c main_v6_1) := by
  refine (dat5 V c).arrAt_eq_of_covers 2 _ (by decide +kernel) fun t _ y => ?_
  blk_simp
  rw [after5_2]; frame_out
  pointwise [k5_pay1, gradProj]
  blk_point [iblk5, idx5 t]

end Cert.KernelIdeal.Value

end
-- ==== Proof.CallIn.lean ====
module

public import proofs.«01_k».proof.Proof.Calls

@[expose] public section

set_option maxRecDepth 16384

noncomputable section

open Idealize.ShloMosaic Idealize.ShloMosaic.TcCoe Idealize.SL Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The accumulator starts at zero. -/
theorem zero6 (j : S1024x1024.Idx) : k6_pay1 (F := Ideal) j = 0 := by pointwise [k6_pay1]

/-- One point adds one slab's two products to the accumulator. -/
theorem step6 (a0 : Vec Ideal S1024x1408 .bf16) (a2 : Vec Ideal S1x1024x1408 .bf16) (a1 : Vec Ideal S1024x1408 .bf16)
    (a3 : Vec Ideal S1x1024x1408 .bf16) (acc : Vec Ideal S1024x1024 .f32) (j : S1024x1024.Idx) :
    k6_pay2 (F := Ideal) a0 a2 a1 a3 acc j = acc j + ((∑ e : Fin 1408, a0 (ix2 (j 0) e) * a2 (ix3 0 (j 1) e))
      + ∑ e : Fin 1408, a1 (ix2 (j 0) e) * a3 (ix3 0 (j 1) e)) := by
  pointwise [k6_pay2]

/-- The gradient at the block's normalised input. -/
theorem final6 (c : Dev nD) : (dat6 V c).arrAt 4 cfg6.N
    = gradIn (V c main_v6_0) (V c main_v6_1) (V c main_v1) (V c main_v3) := by
  refine (dat6 V c).arrAt_eq_of_covers 4 _ (by decide +kernel) fun t hf y => ?_
  blk_simp
  rw [after6_4, Pipeline.eq_sum_fin_of_reset_step_apply_of_flush (fun n h => outsAt6 V c n h) 4 (fun _ => 0) _
    (fun t h j => by rw [outsAt6_A V c t h]; frame_out; rw [step6, zero6])
    (fun t h j => by rw [outsAt6_B V c t h]; frame_out; rw [step6])
    t ((flush6_4 t).mp hf) _, zero_add]
  unfold gradIn
  refine Fin.sum_fin_congr fun b => ?_
  blk_point [iblk6, idx6 t, idx6 ⟨_, Pipeline.run_point_lt_of_flush t ((flush6_4 t).mp hf) b⟩]

end Cert.KernelIdeal.Value

end
-- ==== Proof.Chain.lean ====
module

public import proofs.«01_k».proof.Proof.CallIn

@[expose] public section

set_option maxRecDepth 16384

noncomputable section

open Idealize.ShloMosaic Idealize.ShloMosaic.TcCoe Idealize.SL Idealize.SL.Sem
open Idealize.ShloMosaic.Pipeline (Dat)

namespace Cert.KernelIdeal.Value

open Cert.KernelIdeal Cert.KernelIdeal.Gen

/-! # What the program's results hold, over its arguments -/

variable (m : (ℓ : Loc nD τ sig) → Buf (Elt Ideal) ℓ) (ρ : Dev nD → PrngReg)

/-- A weight's four column slabs: slab `b`'s entry `(k, e)` is the weight's entry `(k, 1408 b + e)`. -/
def slabs (w : FVec Ideal S2048x5632 .bf16) : FVec Ideal S4x2048x1408 .bf16 :=
  fun i => w (ix2 (i 1) ⟨(i 0).val * 1408 + (i 2).val, by
    have h0 := (i 0).isLt; have h2 := (i 2).isLt; change _ < 4 at h0; change _ < 1408 at h2; omega⟩)

/-- The gate weight's slabs, as the host lays them out. -/
theorem W1_v1 (c : Dev nD) : W1 m ρ c (Proc.devRef .tc main_v1) = slabs (m ((c : Thread nD τ).loc main_arg2)) := by
  show StableHlo.after hostOps0 (W0 m ρ c) (Proc.devRef .tc main_v1) = _
  entry_read
  funext i
  pointwise [slabs]
  blk_ext []

/-- The up weight's slabs, as the host lays them out. -/
theorem W1_v3 (c : Dev nD) : W1 m ρ c (Proc.devRef .tc main_v3) = slabs (m ((c : Thread nD τ).loc main_arg3)) := by
  show StableHlo.after hostOps0 (W0 m ρ c) (Proc.devRef .tc main_v3) = _
  entry_read
  funext i
  pointwise [slabs]
  blk_ext []

/-! ## The arrays between the calls -/

/-- The gate projection of the launched arguments. -/
abbrev gateM (c : Dev nD) : FVec Ideal S4096x5632 .f32 :=
  proj (m ((c : Thread nD τ).loc main_arg1)) (slabs (m ((c : Thread nD τ).loc main_arg2)))

/-- The up projection of the launched arguments. -/
abbrev upM (c : Dev nD) : FVec Ideal S4096x5632 .f32 :=
  proj (m ((c : Thread nD τ).loc main_arg1)) (slabs (m ((c : Thread nD τ).loc main_arg3)))

/-- The gradient at the gate. -/
abbrev dgateM (c : Dev nD) : FVec Ideal S4096x5632 .bf16 :=
  dactTimes (m ((c : Thread nD τ).loc main_arg5)) (m ((c : Thread nD τ).loc main_arg4)) (actByGate (gateM m c) (upM m c))

/-- The gradient at the up projection. -/
abbrev dupM (c : Dev nD) : FVec Ideal S4096x5632 .bf16 :=
  dactTimes (m ((c : Thread nD τ).loc main_arg5)) (m ((c : Thread nD τ).loc main_arg4)) (actByUp (gateM m c))

/-- What `main_v4_0` holds in the state `W2`. -/
theorem W2_v4_0 (c : Dev nD) : W2 m ρ c (Proc.devRef .tc main_v4_0) = actV (gateM m c) (upM m c) := by
  unfold gateM upM
  rw [← W1_v1 m ρ c, ← W1_v3 m ρ c, ← W1_args m ρ c main_arg1 (by decide)]
  exact (W2_arr m ρ c 3).trans (final0_3 (V1 m ρ) c)

/-- What `main_v4_1` holds in the state `W2`. -/
theorem W2_v4_1 (c : Dev nD) : W2 m ρ c (Proc.devRef .tc main_v4_1) = actByGate (gateM m c) (upM m c) := by
  unfold gateM upM
  rw [← W1_v1 m ρ c, ← W1_v3 m ρ c, ← W1_args m ρ c main_arg1 (by decide)]
  exact (W2_arr m ρ c 4).trans (final0_4 (V1 m ρ) c)

/-- What `main_v4_2` holds in the state `W2`. -/
theorem W2_v4_2 (c : Dev nD) : W2 m ρ c (Proc.devRef .tc main_v4_2) = actByUp (gateM m c) := by
  unfold gateM
  rw [← W1_v1 m ρ c, ← W1_args m ρ c main_arg1 (by decide)]
  exact (W2_arr m ρ c 5).trans (final0_5 (V1 m ρ) c)

/-- What `main_v4_1` holds in the state `W3`. -/
theorem W3_v4_1 (c : Dev nD) : W3 m ρ c (Proc.devRef .tc main_v4_1) = actByGate (gateM m c) (upM m c) :=
  (W3_of m ρ c main_v4_1 (by decide +kernel)).trans (W2_v4_1 m ρ c)

/-- What `main_v4_2` holds in the state `W3`. -/
theorem W3_v4_2 (c : Dev nD) : W3 m ρ c (Proc.devRef .tc main_v4_2) = actByUp (gateM m c) :=
  (W3_of m ρ c main_v4_2 (by decide +kernel)).trans (W2_v4_2 m ρ c)

/-- What `main_v4_0` holds in the state `W4`. -/
theorem W4_v4_0 (c : Dev nD) : W4 m ρ c (Proc.devRef .tc main_v4_0) = actV (gateM m c) (upM m c) :=
  (W4_of m ρ c main_v4_0 (by decide +kernel)).trans
    ((W3_of m ρ c main_v4_0 (by decide +kernel)).trans (W2_v4_0 m ρ c))

/-- What `main_v6_0` holds in the state `W4`. -/
theorem W4_v6_0 (c : Dev nD) : W4 m ρ c (Proc.devRef .tc main_v6_0) = dgateM m c := by
  unfold dgateM
  rw [← W3_v4_1 m ρ c, ← W3_args m ρ c main_arg4 (by decide), ← W3_args m ρ c main_arg5 (by decide)]
  exact (W4_arr m ρ c 4).trans (final2_4 (V3 m ρ) c)

/-- What `main_v6_1` holds in the state `W4`. -/
theorem W4_v6_1 (c : Dev nD) : W4 m ρ c (Proc.devRef .tc main_v6_1) = dupM m c := by
  unfold dupM
  rw [← W3_v4_2 m ρ c, ← W3_args m ρ c main_arg4 (by decide), ← W3_args m ρ c main_arg5 (by decide)]
  exact (W4_arr m ρ c 5).trans (final2_5 (V3 m ρ) c)

/-- What `main_v6_0` holds in the state `W5`. -/
theorem W5_v6_0 (c : Dev nD) : W5 m ρ c (Proc.devRef .tc main_v6_0) = dgateM m c :=
  (W5_of m ρ c main_v6_0 (by decide +kernel)).trans (W4_v6_0 m ρ c)

/-- What `main_v6_1` holds in the state `W6`. -/
theorem W6_v6_1 (c : Dev nD) : W6 m ρ c (Proc.devRef .tc main_v6_1) = dupM m c :=
  (W6_of m ρ c main_v6_1 (by decide +kernel)).trans
    ((W5_of m ρ c main_v6_1 (by decide +kernel)).trans (W4_v6_1 m ρ c))

/-- What `main_v6_0` holds in the state `W7`. -/
theorem W7_v6_0 (c : Dev nD) : W7 m ρ c (Proc.devRef .tc main_v6_0) = dgateM m c :=
  (W7_of m ρ c main_v6_0 (by decide +kernel)).trans
    ((W6_of m ρ c main_v6_0 (by decide +kernel)).trans (W5_v6_0 m ρ c))

/-- What `main_v6_1` holds in the state `W7`. -/
theorem W7_v6_1 (c : Dev nD) : W7 m ρ c (Proc.devRef .tc main_v6_1) = dupM m c :=
  (W7_of m ρ c main_v6_1 (by decide +kernel)).trans (W6_v6_1 m ρ c)

/-- A reference that none of the first six calls writes holds at the last call what the first found. -/
theorem W7_of_W1 (c : Dev nD) (r : Ref sig .tc)
    (h0 : ∀ w : Fin cfg0.W, Pipeline.arrRef spec0 w = r → (cfg0.win w).isOut = false)
    (h1 : ∀ w : Fin cfg1.W, Pipeline.arrRef spec1 w = r → (cfg1.win w).isOut = false)
    (h2 : ∀ w : Fin cfg2.W, Pipeline.arrRef spec2 w = r → (cfg2.win w).isOut = false)
    (h3 : ∀ w : Fin cfg3.W, Pipeline.arrRef spec3 w = r → (cfg3.win w).isOut = false)
    (h4 : ∀ w : Fin cfg4.W, Pipeline.arrRef spec4 w = r → (cfg4.win w).isOut = false)
    (h5 : ∀ w : Fin cfg5.W, Pipeline.arrRef spec5 w = r → (cfg5.win w).isOut = false) :
    W7 m ρ c (Proc.devRef .tc r) = W1 m ρ c (Proc.devRef .tc r) :=
  (W7_of m ρ c r h5).trans ((W6_of m ρ c r h4).trans ((W5_of m ρ c r h3).trans
    ((W4_of m ρ c r h2).trans ((W3_of m ρ c r h1).trans (W2_of m ρ c r h0)))))

/-- What `main_v1` holds in the state `W7`. -/
theorem W7_v1 (c : Dev nD) : W7 m ρ c (Proc.devRef .tc main_v1) = slabs (m ((c : Thread nD τ).loc main_arg2)) :=
  (W7_of_W1 m ρ c main_v1 (by decide +kernel) (by decide +kernel) (by decide +kernel) (by decide +kernel)
    (by decide +kernel) (by decide +kernel)).trans (W1_v1 m ρ c)

/-- What `main_v3` holds in the state `W7`. -/
theorem W7_v3 (c : Dev nD) : W7 m ρ c (Proc.devRef .tc main_v3) = slabs (m ((c : Thread nD τ).loc main_arg3)) :=
  (W7_of_W1 m ρ c main_v3 (by decide +kernel) (by decide +kernel) (by decide +kernel) (by decide +kernel)
    (by decide +kernel) (by decide +kernel)).trans (W1_v3 m ρ c)

/-! ## The results -/

/-- The block's result. -/
theorem W8_v5 (c : Dev nD) : W8 m ρ c (Proc.devRef .tc main_v5)
    = downV (actV (gateM m c) (upM m c)) (m ((c : Thread nD τ).loc main_arg4)) (m ((c : Thread nD τ).loc main_arg0)) := by
  rw [W8_of m ρ c main_v5 (by decide +kernel), W7_of m ρ c main_v5 (by decide +kernel), W6_of m ρ c main_v5 (by decide +kernel),
    W5_of m ρ c main_v5 (by decide +kernel), W4_of m ρ c main_v5 (by decide +kernel),
    ← W2_v4_0 m ρ c, ← W2_args m ρ c main_arg4 (by decide), ← W2_args m ρ c main_arg0 (by decide)]
  exact (W3_arr m ρ c 3).trans (final1 (V2 m ρ) c)

/-- The gradient of the down projection. -/
theorem W8_v7 (c : Dev nD) : W8 m ρ c (Proc.devRef .tc main_v7)
    = gradDown (actV (gateM m c) (upM m c)) (m ((c : Thread nD τ).loc main_arg5)) := by
  rw [W8_of m ρ c main_v7 (by decide +kernel), W7_of m ρ c main_v7 (by decide +kernel), W6_of m ρ c main_v7 (by decide +kernel),
    ← W4_v4_0 m ρ c, ← W4_args m ρ c main_arg5 (by decide)]
  exact (W5_arr m ρ c 2).trans (final3 (V4 m ρ) c)

/-- The gradient of the gate projection. -/
theorem W8_v8 (c : Dev nD) : W8 m ρ c (Proc.devRef .tc main_v8)
    = gradProj (m ((c : Thread nD τ).loc main_arg1)) (dgateM m c) := by
  rw [W8_of m ρ c main_v8 (by decide +kernel), W7_of m ρ c main_v8 (by decide +kernel),
    ← W5_v6_0 m ρ c, ← W5_args m ρ c main_arg1 (by decide)]
  exact (W6_arr m ρ c 2).trans (final4 (V5 m ρ) c)

/-- The gradient of the up projection. -/
theorem W8_v9 (c : Dev nD) : W8 m ρ c (Proc.devRef .tc main_v9)
    = gradProj (m ((c : Thread nD τ).loc main_arg1)) (dupM m c) := by
  rw [W8_of m ρ c main_v9 (by decide +kernel),
    ← W6_v6_1 m ρ c, ← W6_args m ρ c main_arg1 (by decide)]
  exact (W7_arr m ρ c 2).trans (final5 (V6 m ρ) c)

/-- The gradient at the block's input. -/
theorem W8_v10 (c : Dev nD) : W8 m ρ c (Proc.devRef .tc main_v10)
    = gradIn (dgateM m c) (dupM m c) (slabs (m ((c : Thread nD τ).loc main_arg2))) (slabs (m ((c : Thread nD τ).loc main_arg3))) := by
  rw [← W7_v6_0 m ρ c, ← W7_v6_1 m ρ c, ← W7_v1 m ρ c, ← W7_v3 m ρ c]
  exact (W8_arr m ρ c 4).trans (final6 (V7 m ρ) c)

end Cert.KernelIdeal.Value

end
-- ==== Proof.RefRead.lean ====
module

public import proofs.«01_k».proof.Proof.Chain
public import proofs.«01_k».proof.Proof.Gen.ReferenceIdeal.Read

@[expose] public section

set_option maxRecDepth 16384

noncomputable section

open Idealize.ShloMosaic Idealize.ShloMosaic.TcCoe Idealize.SL.Sem
open Cert.KernelIdeal Cert.KernelIdeal.Value Cert.ReferenceIdeal.Read Cert.Scalar

namespace Cert.FeedForward

/-! # The reference's values are the kernel's

Each theorem reads one value of the reference, at an index, as the term the kernel's calls leave. -/

variable (x : FVec Ideal S4096x2048 .f32) (h : FVec Ideal S4096x2048 .bf16) (wg wu : FVec Ideal S2048x5632 .bf16)
  (wd : FVec Ideal S5632x2048 .bf16) (dy : FVec Ideal S4096x2048 .bf16)

/-- Column `f` of a weight is column `f % 1408` of its slab `f / 1408`. -/
theorem slabs_split (w : FVec Ideal S2048x5632 .bf16) (k : Fin 2048) (f : Fin 5632) (h0 : f.val / 1408 < 4) (h1 : f.val % 1408 < 1408) :
    slabs w (ix3 ⟨f.val / 1408, h0⟩ k ⟨f.val % 1408, h1⟩) = w (ix2 k f) := by
  show w (ix2 k ⟨f.val / 1408 * 1408 + f.val % 1408, _⟩) = _
  congr 2
  exact Fin.ext (by show f.val / 1408 * 1408 + f.val % 1408 = f.val; omega)

/-- A projection through the slabs is the plain matrix product. -/
theorem proj_slabs (w : FVec Ideal S2048x5632 .bf16) (i : S4096x5632.Idx) :
    proj h (slabs w) i = ∑ k : Fin 2048, h (ix2 (i 0) k) * w (ix2 k (i 1)) :=
  Finset.sum_congr rfl fun k _ => congrArg (h (ix2 (i 0) k) * ·) (slabs_split w k (i 1) _ _)

/-- The reference's gate projection. -/
theorem gate_eq (i : S4096x5632.Idx) : val_main_v5 (F := Ideal) h wg i = proj h (slabs wg) i := by
  rw [val_main_v5_apply, proj_slabs]
  refine Finset.sum_congr rfl fun k _ => ?_
  rw [val_main_v0_apply, val_main_v1_apply]
  show h _ * wg _ = h _ * wg _
  congr 2 <;> (funext a; match a with | ⟨0, _⟩ => rfl | ⟨1, _⟩ => rfl)

/-- The reference's up projection. -/
theorem up_eq (i : S4096x5632.Idx) : val_main_v7 (F := Ideal) h wu i = proj h (slabs wu) i := by
  rw [val_main_v7_apply, proj_slabs]
  refine Finset.sum_congr rfl fun k _ => ?_
  rw [val_main_v0_apply, val_main_v2_apply]
  show h _ * wu _ = h _ * wu _
  congr 2 <;> (funext a; match a with | ⟨0, _⟩ => rfl | ⟨1, _⟩ => rfl)

/-- The reference's sigmoid of the gate. -/
theorem sig_eq (i : S4096x5632.Idx) : val_main_v6_2 (F := Ideal) h wg i = sigE (proj h (slabs wg) i) := by
  rw [val_main_v6_2_apply, val_main_call0_v4_apply, val_main_call0_v3_apply, val_main_call0_v2_apply, val_main_call0_v1_apply,
    val_main_call0_v0_apply, gate_eq, val_main_call0_cst_apply, val_main_call0_cst_0_apply]
  show Ideal.div (Ideal.ofBits .f32 _) (Ideal.ofBits .f32 _ + Ideal.exp (-_)) = _
  rw [Ideal.ofBits_one_f32]; rfl

/-- The reference's activation. -/
theorem act_eq (i : S4096x5632.Idx) :
    val_main_v8 (F := Ideal) h wg wu i = actV (proj h (slabs wg)) (proj h (slabs wu)) i := by
  rw [val_main_v8_apply, val_main_v6_0_apply, up_eq, gate_eq, sig_eq, ← sigT_eq]; rfl

/-- The block's result. -/
theorem y_eq : val_main_v23 (F := Ideal) x h wg wu wd = downV (actV (proj h (slabs wg)) (proj h (slabs wu))) wd x := by
  funext i
  rw [val_main_v23_apply, val_main_v9_apply]
  show x i + _ = x i + _
  congr 1
  refine Finset.sum_congr rfl fun k _ => ?_
  rw [val_main_v3_apply, act_eq]
  show _ * wd _ = _ * wd _
  congr 2 <;> (funext a; match a with | ⟨0, _⟩ => rfl | ⟨1, _⟩ => rfl)

/-- The gradient of the down projection. -/
theorem gradDown_eq : val_main_v30 (F := Ideal) h wg wu dy = gradDown (actV (proj h (slabs wg)) (proj h (slabs wu))) dy := by
  funext i
  rw [val_main_v30_apply, val_main_v11_apply, val_main_v10_apply]
  refine Finset.sum_congr rfl fun k _ => ?_
  rw [val_main_v4_apply, act_eq]
  refine (EReal.mul_comm _ _).trans ?_
  show _ * dy _ = _ * dy _
  congr 2 <;> (funext a; match a with | ⟨0, _⟩ => rfl | ⟨1, _⟩ => rfl)

/-- The reference's gradient at the activation. -/
theorem dact_eq (i : S4096x5632.Idx) :
    val_main_v12 (F := Ideal) wd dy i = ∑ k : Fin 2048, dy (ix2 (i 0) k) * wd (ix2 (i 1) k) := by
  rw [val_main_v12_apply]
  refine Finset.sum_congr rfl fun k _ => ?_
  rw [val_main_v4_apply, val_main_v3_apply]
  show dy _ * wd _ = dy _ * wd _
  congr 2 <;> (funext a; match a with | ⟨0, _⟩ => rfl | ⟨1, _⟩ => rfl)

/-- The gradient at the up projection. -/
theorem dup_eq (i : S4096x5632.Idx) :
    val_main_v13 (F := Ideal) h wg wd dy i = dactTimes dy wd (actByUp (proj h (slabs wg))) i := by
  rw [val_main_v13_apply, val_main_v6_0_apply, gate_eq, sig_eq, dact_eq, ← sigT_eq]
  exact EReal.mul_comm _ _

/-- The gradient at the gate, where the gradient at the activation and the up projection are real numbers. -/
theorem dgate_ref_eq (hh : ∀ i, IsReal (h i)) (hu : ∀ i, IsReal (wu i)) (hd : ∀ i, IsReal (wd i)) (hy : ∀ i, IsReal (dy i))
    (i : S4096x5632.Idx) :
    val_main_v18 (F := Ideal) h wg wu wd dy i = dactTimes dy wd (actByGate (proj h (slabs wg)) (proj h (slabs wu))) i := by
  rw [val_main_v18_apply, val_main_call1_v1_apply, val_main_call1_v2_apply, val_main_call1_v0_apply, val_main_v14_apply,
    val_main_v6_1_apply, val_main_call0_v7_apply, val_main_call0_v6_apply, val_main_call0_cst_1_apply,
    gate_eq, up_eq, sig_eq, dact_eq]
  have e := dgate_eq (proj h (slabs wg) i)
    (IsReal.sum fun k : Fin 2048 => (hy (ix2 (i 0) k)).mul (hd (ix2 (i 1) k)))
    (show IsReal (proj h (slabs wu) i) from by
      rw [proj_slabs]; exact IsReal.sum fun k : Fin 2048 => (hh (ix2 (i 0) k)).mul (hu (ix2 k (i 1))))
  refine Eq.trans ?_ e.symm
  show _ * _ * _ + _ * (_ * _) * (_ * (Ideal.ofBits .f32 _ - _)) = _
  rw [Ideal.ofBits_one_f32]

/-- The gradient of the up weight. -/
theorem gradUp_eq : val_main_v29 (F := Ideal) h wg wd dy = gradProj h (dactTimes dy wd (actByUp (proj h (slabs wg)))) := by
  funext i
  rw [val_main_v29_apply, val_main_v28_apply, val_main_v27_apply, val_main_v16_apply, val_main_v15_apply]
  refine Finset.sum_congr rfl fun k _ => ?_
  rw [val_main_v0_apply, dup_eq]
  refine (EReal.mul_comm _ _).trans ?_
  show h _ * _ = h _ * _
  have h0 : (i 0).val < 4 := (i 0).isLt
  have h1 : (i 1).val < 2048 := (i 1).isLt
  have h2 : (i 2).val < 1408 := (i 2).isLt
  congr 2 <;> (funext a; match a with | ⟨0, _⟩ => exact Fin.ext (by simp; try omega) | ⟨1, _⟩ => exact Fin.ext (by simp; try omega))

/-- The gradient of the gate weight. -/
theorem gradGate_eq (hh : ∀ i, IsReal (h i)) (hu : ∀ i, IsReal (wu i)) (hd : ∀ i, IsReal (wd i)) (hy : ∀ i, IsReal (dy i)) :
    val_main_v26 (F := Ideal) h wg wu wd dy
      = gradProj h (dactTimes dy wd (actByGate (proj h (slabs wg)) (proj h (slabs wu)))) := by
  funext i
  rw [val_main_v26_apply, val_main_v25_apply, val_main_v24_apply, val_main_v20_apply, val_main_v19_apply]
  refine Finset.sum_congr rfl fun k _ => ?_
  rw [val_main_v0_apply, dgate_ref_eq h wg wu wd dy hh hu hd hy]
  refine (EReal.mul_comm _ _).trans ?_
  show h _ * _ = h _ * _
  have h0 : (i 0).val < 4 := (i 0).isLt
  have h1 : (i 1).val < 2048 := (i 1).isLt
  have h2 : (i 2).val < 1408 := (i 2).isLt
  congr 2 <;> (funext a; match a with | ⟨0, _⟩ => exact Fin.ext (by simp; try omega) | ⟨1, _⟩ => exact Fin.ext (by simp; try omega))

/-- The slab-by-slab sums of both contributions are the two whole sums. -/
theorem gradIn_eq (dg du : FVec Ideal S4096x5632 .bf16) (i : S4096x2048.Idx) :
    gradIn dg du (slabs wg) (slabs wu) i
      = (∑ f : Fin 5632, du (ix2 (i 0) f) * wu (ix2 (i 1) f)) + ∑ f : Fin 5632, dg (ix2 (i 0) f) * wg (ix2 (i 1) f) := by
  unfold gradIn
  rw [Finset.sum_add_distrib, add_comm]
  congr 1
  · exact Fin.sum_mul_add_congr fun _ _ _ => rfl
  · exact Fin.sum_mul_add_congr fun _ _ _ => rfl

/-- The gradient at the block's normalised input. -/
theorem dh_eq (hh : ∀ i, IsReal (h i)) (hu : ∀ i, IsReal (wu i)) (hd : ∀ i, IsReal (wd i)) (hy : ∀ i, IsReal (dy i)) :
    val_main_v22 (F := Ideal) h wg wu wd dy
      = gradIn (dactTimes dy wd (actByGate (proj h (slabs wg)) (proj h (slabs wu)))) (dactTimes dy wd (actByUp (proj h (slabs wg))))
          (slabs wg) (slabs wu) := by
  funext i
  rw [val_main_v22_apply, gradIn_eq, val_main_v17_apply, val_main_v21_apply]
  show _ + _ = _
  congr 1 <;> refine Finset.sum_congr rfl fun k _ => ?_
  · rw [dup_eq, val_main_v2_apply]
    show _ * wu _ = _ * wu _
    congr 2 <;> (funext a; match a with | ⟨0, _⟩ => rfl | ⟨1, _⟩ => rfl)
  · rw [dgate_ref_eq h wg wu wd dy hh hu hd hy, val_main_v1_apply]
    show _ * wg _ = _ * wg _
    congr 2 <;> (funext a; match a with | ⟨0, _⟩ => rfl | ⟨1, _⟩ => rfl)

end Cert.FeedForward

end
-- ==== Proof.XRun.lean ====
module

public import proofs.«01_k».proof.Proof.Gen.XattnIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

namespace Cert.XattnIdeal.Value

open Cert.XattnIdeal Cert.XattnIdeal.Gen

variable {F : FTy → Type} [FloatOps F]

/-- The resources the run is proved over. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each of the launch's arrays holding what the last segment's state says, and with
    every semaphore counter at zero. -/
theorem run_state : θ_run defs (onTc (τ := τ) (main (F := F))) ⟨m, fun _ => 0, ρ⟩
    (fun r => (∀ c : Dev nD, ∀ b ∈ Pipeline.ucRefs τ sig, r.2.mem (((c : Thread nD τ)).1, b) = W18 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      have held : (unscopedBufs c (fun b => m ((c : Thread nD τ).loc b)) : sProp 𝕄)
          = StableHlo.held (c : Thread nD τ) (Pipeline.ucRefs τ sig) (W0 m ρ c) := Pipeline.unscopedBufs_held c (W0 m ρ c)
      rw [held]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨h, funext fun g => hz g (.inr (no_unscoped g.2))⟩)

end Cert.XattnIdeal.Value

end
-- ==== Proof.XProducts.lean ====
module

public import proofs.«01_k».proof.Proof.Gen.XattnIdeal.Frame.Region2
public import proofs.«01_k».proof.Proof.Gen.XattnIdeal.Frame.Region3
public import proofs.«01_k».proof.Proof.Gen.XattnIdeal.Frame.Region4
public import proofs.«01_k».proof.Proof.Gen.XattnIdeal.Frame.Region8
public import proofs.«01_k».proof.Proof.Gen.XattnIdeal.Frame.Region9
public import proofs.«01_k».proof.Proof.Gen.XattnIdeal.Frame.Region11
public import proofs.«01_k».proof.Proof.Gen.XattnIdeal.Frame.Region13
public import proofs.«01_k».proof.Proof.Gen.XattnIdeal.Frame.Region14
public import proofs.«01_k».proof.Proof.Gen.XattnIdeal.Frame.Region16
public import proofs.«01_k».proof.Proof.Gen.XattnIdeal.Frame.Region17
public import Idealize.ShloMosaic.Lib.Pipeline.ValueKit
public import proofs.«01_k».proof.Proof.BlockSpec

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # What the products of the cross-attention block leave in their result arrays

Every statement is over arbitrary contents `V` of the arrays the call finds. -/

/-- The blocks of call 2, point by point. -/
theorem idx2 : ∀ t : Fin cfg2.N, win2_0.index t = ![t.val / 2, 0] ∧ win2_1.index t = ![0, t.val % 2] ∧ win2_2.index t = ![t.val / 2, t.val % 2] :=
  (by decide +kernel : ∀ t : Fin grid2.N, _)

/-- The blocks of call 3, point by point. -/
theorem idx3 : ∀ t : Fin cfg3.N, win3_0.index t = ![0, 0] ∧ win3_1.index t = ![0, t.val] ∧ win3_2.index t = ![0, t.val] :=
  (by decide +kernel : ∀ t : Fin grid3.N, _)

/-- The blocks of call 4, point by point. -/
theorem idx4 : ∀ t : Fin cfg4.N, win4_0.index t = ![0, 0] ∧ win4_1.index t = ![0, t.val] ∧ win4_2.index t = ![0, t.val] :=
  (by decide +kernel : ∀ t : Fin grid4.N, _)

/-- The blocks of call 8, point by point. -/
theorem idx8 : ∀ t : Fin cfg8.N, win8_0.index t = ![t.val / 2, 0] ∧ win8_1.index t = ![t.val % 2, 0] ∧ win8_2.index t = ![t.val / 2, t.val % 2] :=
  (by decide +kernel : ∀ t : Fin grid8.N, _)

/-- The blocks of call 9, point by point. -/
theorem idx9 : ∀ t : Fin cfg9.N, win9_0.index t = ![0, t.val / 2] ∧ win9_1.index t = ![0, t.val % 2] ∧ win9_2.index t = ![t.val / 2, t.val % 2] :=
  (by decide +kernel : ∀ t : Fin grid9.N, _)

/-- The blocks of call 11, point by point. -/
theorem idx11 : ∀ t : Fin cfg11.N, win11_0.index t = ![0, t.val / 2] ∧ win11_1.index t = ![0, t.val % 2] ∧ win11_2.index t = ![t.val / 2, t.val % 2] :=
  (by decide +kernel : ∀ t : Fin grid11.N, _)

/-- The blocks of call 16, point by point. -/
theorem idx16 : ∀ t : Fin cfg16.N, win16_0.index t = ![0, t.val / 2] ∧ win16_1.index t = ![0, t.val % 2] ∧ win16_2.index t = ![t.val / 2, t.val % 2] :=
  (by decide +kernel : ∀ t : Fin grid16.N, _)

/-- The blocks of call 17, point by point. -/
theorem idx17 : ∀ t : Fin cfg17.N, win17_0.index t = ![t.val / 2, 0] ∧ win17_1.index t = ![t.val % 2, 0] ∧ win17_2.index t = ![t.val / 2, t.val % 2] :=
  (by decide +kernel : ∀ t : Fin grid17.N, _)

/-- The blocks of call 13, point by point. -/
theorem idx13 : ∀ t : Fin cfg13.N, win13_0.index t = ![0, t.val / 2] ∧ win13_1.index t = ![0, t.val % 2] ∧ win13_2.index t = ![0, t.val % 2] ∧ win13_3.index t = ![t.val / 2, t.val % 2] ∧ win13_4.index t = ![t.val / 2, t.val % 2] :=
  (by decide +kernel : ∀ t : Fin grid13.N, _)

/-- The blocks of call 14, point by point. -/
theorem idx14 : ∀ t : Fin cfg14.N, win14_0.index t = ![0, 0] ∧ win14_1.index t = ![0, 0] ∧ win14_2.index t = ![t.val, 0] ∧ win14_3.index t = ![t.val, 0] ∧ win14_4.index t = ![0, t.val] :=
  (by decide +kernel : ∀ t : Fin grid14.N, _)

/-- The queries. -/
theorem final2_2 (c : Dev nD) : (dat2 V c).arrAt 2 cfg2.N = mmE (V c main_v1_1) (V c main_arg7) := by
  refine (dat2 V c).arrAt_eq_of_covers 2 _ (by decide +kernel) fun t _ y => ?_
  blk_simp
  rw [after2_2]; frame_out
  pointwise [k2_pay1, mmE]
  blk_point [iblk2, idx2 t]

/-- The keys. -/
theorem final3_2 (c : Dev nD) : (dat3 V c).arrAt 2 cfg3.N = mmE (V c main_v0) (V c main_arg8) := by
  refine (dat3 V c).arrAt_eq_of_covers 2 _ (by decide +kernel) fun t _ y => ?_
  blk_simp
  rw [after3_2]; frame_out
  pointwise [k3_pay1, mmE]
  blk_point [iblk3, idx3 t]

/-- The values. -/
theorem final4_2 (c : Dev nD) : (dat4 V c).arrAt 2 cfg4.N = mmE (V c main_v0) (V c main_arg9) := by
  refine (dat4 V c).arrAt_eq_of_covers 2 _ (by decide +kernel) fun t _ y => ?_
  blk_simp
  rw [after4_2]; frame_out
  pointwise [k4_pay1, mmE]
  blk_point [iblk4, idx4 t]

/-- The gradient at the attention's result. -/
theorem final8_2 (c : Dev nD) : (dat8 V c).arrAt 2 cfg8.N = mmNTE (V c main_v7_1) (V c main_arg10) := by
  refine (dat8 V c).arrAt_eq_of_covers 2 _ (by decide +kernel) fun t _ y => ?_
  blk_simp
  rw [after8_2]; frame_out
  pointwise [k8_pay1, mmNTE]
  blk_point [iblk8, idx8 t]

/-- The gradient of the output projection. -/
theorem final9_2 (c : Dev nD) : (dat9 V c).arrAt 2 cfg9.N = mmTNE (V c main_v5) (V c main_v7_1) := by
  refine (dat9 V c).arrAt_eq_of_covers 2 _ (by decide +kernel) fun t _ y => ?_
  blk_simp
  rw [after9_2]; frame_out
  pointwise [k9_pay1, mmTNE]
  blk_point [iblk9, idx9 t]

/-- The gradient of the query projection. -/
theorem final11_2 (c : Dev nD) : (dat11 V c).arrAt 2 cfg11.N = mmTNE (V c main_v1_1) (V c main_v10_0) := by
  refine (dat11 V c).arrAt_eq_of_covers 2 _ (by decide +kernel) fun t _ y => ?_
  blk_simp
  rw [after11_2]; frame_out
  pointwise [k11_pay1, mmTNE]
  blk_point [iblk11, idx11 t]

/-- The gradient of the key projection. -/
theorem final13_3 (c : Dev nD) : (dat13 V c).arrAt 3 cfg13.N = mmTNE (V c main_v0) (V c main_v10_1) := by
  refine (dat13 V c).arrAt_eq_of_covers 3 _ (by decide +kernel) fun t _ y => ?_
  blk_simp
  rw [after13_3]; frame_out
  pointwise [k13_pay2, k13_pay1, mmTNE]
  blk_point [iblk13, idx13 t]

/-- The gradient of the value projection. -/
theorem final13_4 (c : Dev nD) : (dat13 V c).arrAt 4 cfg13.N = mmTNE (V c main_v0) (V c main_v10_2) := by
  refine (dat13 V c).arrAt_eq_of_covers 4 _ (by decide +kernel) fun t _ y => ?_
  blk_simp
  rw [after13_4]; frame_out
  pointwise [k13_pay3, k13_pay1, mmTNE]
  blk_point [iblk13, idx13 t]

/-- The gradient at the normalised memory. -/
theorem final14_4 (c : Dev nD) : (dat14 V c).arrAt 4 cfg14.N = addE (mmNTE (V c main_v10_1) (V c main_arg8)) (mmNTE (V c main_v10_2) (V c main_arg9)) := by
  refine (dat14 V c).arrAt_eq_of_covers 4 _ (by decide +kernel) fun t _ y => ?_
  blk_simp
  rw [after14_4]; frame_out
  pointwise [k14_pay1, addE, mmNTE]
  blk_point [iblk14, idx14 t]

/-- The gradient of the mixer's output projection. -/
theorem final16_2 (c : Dev nD) : (dat16 V c).arrAt 2 cfg16.N = mmTNE (V c main_arg0) (V c main_v12_1) := by
  refine (dat16 V c).arrAt_eq_of_covers 2 _ (by decide +kernel) fun t _ y => ?_
  blk_simp
  rw [after16_2]; frame_out
  pointwise [k16_pay1, mmTNE]
  blk_point [iblk16, idx16 t]

/-- The gradient at the mixer's result. -/
theorem final17_2 (c : Dev nD) : (dat17 V c).arrAt 2 cfg17.N = mmNTE (V c main_v12_1) (V c main_arg6) := by
  refine (dat17 V c).arrAt_eq_of_covers 2 _ (by decide +kernel) fun t _ y => ?_
  blk_simp
  rw [after17_2]; frame_out
  pointwise [k17_pay1, mmNTE]
  blk_point [iblk17, idx17 t]

end Cert.XattnIdeal.Value

end
-- ==== Proof.XNorms.lean ====
module

public import proofs.«01_k».proof.Proof.Gen.XattnIdeal.Frame.Region0
public import proofs.«01_k».proof.Proof.Gen.XattnIdeal.Frame.Region1
public import proofs.«01_k».proof.Proof.Gen.XattnIdeal.Frame.Region6
public import proofs.«01_k».proof.Proof.Gen.XattnIdeal.Frame.Region15
public import Idealize.ShloMosaic.Lib.Pipeline.ValueKit
public import proofs.«01_k».proof.Proof.BlockSpec

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # What the normalisations of the cross-attention block leave in their result arrays

Every statement is over arbitrary contents `V` of the arrays the call finds. -/

/-- The blocks of call 0, point by point. -/
theorem idx0 : ∀ t : Fin cfg0.N, win0_0.index t = ![0, 0] ∧ win0_1.index t = ![0, 0] ∧ win0_2.index t = ![0, 0] :=
  (by decide +kernel : ∀ t : Fin grid0.N, _)

/-- The blocks of call 1, point by point. -/
theorem idx1 : ∀ t : Fin cfg1.N, win1_0.index t = ![t.val, 0] ∧ win1_1.index t = ![0, 0] ∧ win1_2.index t = ![t.val, 0] ∧ win1_3.index t = ![0, 0] ∧ win1_4.index t = ![t.val, 0] ∧ win1_5.index t = ![t.val, 0] :=
  (by decide +kernel : ∀ t : Fin grid1.N, _)

/-- The blocks of call 6, point by point. -/
theorem idx6 : ∀ t : Fin cfg6.N, win6_0.index t = ![t.val, 0] ∧ win6_1.index t = ![0, 0] ∧ win6_2.index t = ![t.val, 0] ∧ win6_3.index t = ![0, 0] ∧ win6_4.index t = ![t.val, 0] ∧ win6_5.index t = ![t.val, 0] :=
  (by decide +kernel : ∀ t : Fin grid6.N, _)

/-- The blocks of call 15, point by point. -/
theorem idx15 : ∀ t : Fin cfg15.N, win15_0.index t = ![0, 0] ∧ win15_1.index t = ![0, 0] ∧ win15_2.index t = ![0, 0] ∧ win15_3.index t = ![0, 0] :=
  (by decide +kernel : ∀ t : Fin grid15.N, _)

/-- The normalised memory. -/
theorem final0_2 (c : Dev nD) : (dat0 V c).arrAt 2 cfg0.N = normE (V c main_arg2) (V c main_arg4) := by
  refine (dat0 V c).arrAt_eq_of_covers 2 _ (by decide +kernel) fun t _ y => ?_
  blk_simp
  rw [after0_2]; frame_out
  pointwise [k0_pay1, normE, rmsE]
  blk_point [iblk0, idx0 t]

/-- The residual stream with the mixer's result added. -/
theorem final1_4 (c : Dev nD) : (dat1 V c).arrAt 4 cfg1.N = addE (V c main_arg1) (mmE (V c main_arg0) (V c main_arg6)) := by
  refine (dat1 V c).arrAt_eq_of_covers 4 _ (by decide +kernel) fun t _ y => ?_
  blk_simp
  rw [after1_4]; frame_out
  pointwise [k1_pay1, addE, mmE]
  blk_point [iblk1, idx1 t]

/-- Its normalisation. -/
theorem final1_5 (c : Dev nD) : (dat1 V c).arrAt 5 cfg1.N = normE (addE (V c main_arg1) (mmE (V c main_arg0) (V c main_arg6))) (V c main_arg3) := by
  refine (dat1 V c).arrAt_eq_of_covers 5 _ (by decide +kernel) fun t _ y => ?_
  blk_simp
  rw [after1_5]; frame_out
  pointwise [k1_pay2, k1_pay1, normE, rmsE, addE, mmE]
  blk_point [iblk1, idx1 t]

/-- The residual stream with the attention's result added. -/
theorem final6_4 (c : Dev nD) : (dat6 V c).arrAt 4 cfg6.N = addE (V c main_v1_0) (mmE (V c main_v5) (V c main_arg10)) := by
  refine (dat6 V c).arrAt_eq_of_covers 4 _ (by decide +kernel) fun t _ y => ?_
  blk_simp
  rw [after6_4]; frame_out
  pointwise [k6_pay1, addE, mmE]
  blk_point [iblk6, idx6 t]

/-- Its normalisation. -/
theorem final6_5 (c : Dev nD) : (dat6 V c).arrAt 5 cfg6.N = normE (addE (V c main_v1_0) (mmE (V c main_v5) (V c main_arg10))) (V c main_arg5) := by
  refine (dat6 V c).arrAt_eq_of_covers 5 _ (by decide +kernel) fun t _ y => ?_
  blk_simp
  rw [after6_5]; frame_out
  pointwise [k6_pay2, k6_pay1, normE, rmsE, addE, mmE]
  blk_point [iblk6, idx6 t]

/-- The gradient of the memory's gain. -/
theorem final15_3 (c : Dev nD) : (dat15 V c).arrAt 3 cfg15.N = gainE (V c main_v14) (V c main_arg2) := by
  refine (dat15 V c).arrAt_eq_of_covers 3 _ (by decide +kernel) fun t _ y => ?_
  blk_simp
  rw [after15_3]; unfold outsAt15; frame_out
  pointwise [k15_pay1, k15_pay2, gainE, rmsE]
  blk_point [iblk15, idx15 t]

end Cert.XattnIdeal.Value

end
-- ==== Proof.XNormsBack.lean ====
module

public import proofs.«01_k».proof.Proof.Gen.XattnIdeal.Frame.Region7
public import Idealize.ShloMosaic.Lib.Pipeline.ValueKit
public import proofs.«01_k».proof.Proof.BlockSpec

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # What the backward normalisations of the cross-attention block leave in their result arrays

Every statement is over arbitrary contents `V` of the arrays the call finds. -/

/-- The blocks of call 7, point by point. -/
theorem idx7 : ∀ t : Fin cfg7.N, win7_0.index t = ![t.val, 0] ∧ win7_1.index t = ![t.val, 0] ∧ win7_2.index t = ![0, 0] ∧ win7_3.index t = ![t.val, 0] ∧ win7_4.index t = ![t.val, 0] ∧ win7_5.index t = ![t.val, 0] ∧ win7_6.index t = ![0, 0] :=
  (by decide +kernel : ∀ t : Fin grid7.N, _)

/-- The gradient at the residual stream, at the feed-forward normalisation. -/
theorem final7_4 (c : Dev nD) : (dat7 V c).arrAt 4 cfg7.N = addE (normBwdE (V c main_arg12) (V c main_v6_0) (V c main_arg5)) (V c main_arg11) := by
  refine (dat7 V c).arrAt_eq_of_covers 4 _ (by decide +kernel) fun t _ y => ?_
  blk_simp
  rw [after7_4]
  by_cases h : t.val % 16 = 0
  · rw [outsAt7_A V c t h]; frame_out
    pointwise [k7_pay3, k7_pay4, k7_pay5, k7_pay7, addE, normBwdE, rmsE]
    blk_point [iblk7, idx7 t]
  · rw [outsAt7_B V c t h]; frame_out
    pointwise [k7_pay3, k7_pay4, k7_pay5, k7_pay7, addE, normBwdE, rmsE]
    blk_point [iblk7, idx7 t]

/-- The same, as the products read it. -/
theorem final7_5 (c : Dev nD) : (dat7 V c).arrAt 5 cfg7.N = addE (normBwdE (V c main_arg12) (V c main_v6_0) (V c main_arg5)) (V c main_arg11) := by
  refine (dat7 V c).arrAt_eq_of_covers 5 _ (by decide +kernel) fun t _ y => ?_
  blk_simp
  rw [after7_5]
  by_cases h : t.val % 16 = 0
  · rw [outsAt7_A V c t h]; frame_out
    pointwise [k7_pay8, k7_pay3, k7_pay4, k7_pay5, k7_pay7, addE, normBwdE, rmsE]
    blk_point [iblk7, idx7 t]
  · rw [outsAt7_B V c t h]; frame_out
    pointwise [k7_pay8, k7_pay3, k7_pay4, k7_pay5, k7_pay7, addE, normBwdE, rmsE]
    blk_point [iblk7, idx7 t]

/-- The gain's gradient starts at zero. -/
theorem zero7 (j) : k7_pay1 (F := Ideal) j = 0 := by pointwise [k7_pay1]

/-- One step of the gain's gradient. -/
theorem step7 (b acc j) : k7_pay2 (F := Ideal) b acc j = acc j + b j := by pointwise [k7_pay2]

/-- The gradient of the feed-forward gain. -/
theorem final7_6 (c : Dev nD) : (dat7 V c).arrAt 6 cfg7.N = gainE (V c main_arg12) (V c main_v6_0) := by
  refine (dat7 V c).arrAt_eq_of_covers 6 _ (by decide +kernel) fun t hf y => ?_
  blk_simp
  rw [after7_6, Pipeline.eq_sum_fin_of_reset_step_apply_of_flush (fun n h => (outsAt7 V c n h).2.2) 16 (fun _ => 0) _
    (fun t h j => by rw [outsAt7_A V c t h]; frame_out; rw [step7, zero7])
    (fun t h j => by rw [outsAt7_B V c t h]; frame_out; rw [step7])
    t ((flush7_6 t).mp hf) _, zero_add]
  pointwise [k7_pay6, k7_pay3, k7_pay4, k7_pay5, gainE, rmsE]
  refine Fin.sum_mul_add_congr fun s k hl => ?_
  blk_point [iblk7, idx7 t, idx7 ⟨_, Pipeline.run_point_lt_of_flush t ((flush7_6 t).mp hf) s⟩]

end Cert.XattnIdeal.Value

end
-- ==== Proof.XNormsDown.lean ====
module

public import proofs.«01_k».proof.Proof.Gen.XattnIdeal.Frame.Region12
public import Idealize.ShloMosaic.Lib.Pipeline.ValueKit
public import proofs.«01_k».proof.Proof.BlockSpec

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # What the backward normalisations of the cross-attention block leave in their result arrays

Every statement is over arbitrary contents `V` of the arrays the call finds. -/

/-- The blocks of call 12, point by point. -/
theorem idx12 : ∀ t : Fin cfg12.N, win12_0.index t = ![t.val, 0] ∧ win12_1.index t = ![0, 0] ∧ win12_2.index t = ![t.val, 0] ∧ win12_3.index t = ![0, 0] ∧ win12_4.index t = ![t.val, 0] ∧ win12_5.index t = ![t.val, 0] ∧ win12_6.index t = ![t.val, 0] ∧ win12_7.index t = ![0, 0] :=
  (by decide +kernel : ∀ t : Fin grid12.N, _)

/-- The gradient at the residual stream, at the attention normalisation. -/
theorem final12_5 (c : Dev nD) : (dat12 V c).arrAt 5 cfg12.N = addE (normBwdE (mmNTE (V c main_v10_0) (V c main_arg7)) (V c main_v1_0) (V c main_arg3)) (V c main_v7_0) := by
  refine (dat12 V c).arrAt_eq_of_covers 5 _ (by decide +kernel) fun t _ y => ?_
  blk_simp
  rw [after12_5]
  by_cases h : t.val % 8 = 0
  · rw [outsAt12_A V c t h]; frame_out
    pointwise [k12_pay3, k12_pay4, k12_pay5, k12_pay6, k12_pay8, addE, normBwdE, rmsE, mmNTE]
    blk_point [iblk12, idx12 t]
  · rw [outsAt12_B V c t h]; frame_out
    pointwise [k12_pay3, k12_pay4, k12_pay5, k12_pay6, k12_pay8, addE, normBwdE, rmsE, mmNTE]
    blk_point [iblk12, idx12 t]

/-- The same, as the products read it. -/
theorem final12_6 (c : Dev nD) : (dat12 V c).arrAt 6 cfg12.N = addE (normBwdE (mmNTE (V c main_v10_0) (V c main_arg7)) (V c main_v1_0) (V c main_arg3)) (V c main_v7_0) := by
  refine (dat12 V c).arrAt_eq_of_covers 6 _ (by decide +kernel) fun t _ y => ?_
  blk_simp
  rw [after12_6]
  by_cases h : t.val % 8 = 0
  · rw [outsAt12_A V c t h]; frame_out
    pointwise [k12_pay9, k12_pay3, k12_pay4, k12_pay5, k12_pay6, k12_pay8, addE, normBwdE, rmsE, mmNTE]
    blk_point [iblk12, idx12 t]
  · rw [outsAt12_B V c t h]; frame_out
    pointwise [k12_pay9, k12_pay3, k12_pay4, k12_pay5, k12_pay6, k12_pay8, addE, normBwdE, rmsE, mmNTE]
    blk_point [iblk12, idx12 t]

/-- The gain's gradient starts at zero. -/
theorem zero12 (j) : k12_pay1 (F := Ideal) j = 0 := by pointwise [k12_pay1]

/-- One step of the gain's gradient. -/
theorem step12 (b acc j) : k12_pay2 (F := Ideal) b acc j = acc j + b j := by pointwise [k12_pay2]

/-- The gradient of the attention gain. -/
theorem final12_7 (c : Dev nD) : (dat12 V c).arrAt 7 cfg12.N = gainE (mmNTE (V c main_v10_0) (V c main_arg7)) (V c main_v1_0) := by
  refine (dat12 V c).arrAt_eq_of_covers 7 _ (by decide +kernel) fun t hf y => ?_
  blk_simp
  rw [after12_7, Pipeline.eq_sum_fin_of_reset_step_apply_of_flush (fun n h => (outsAt12 V c n h).2.2) 8 (fun _ => 0) _
    (fun t h j => by rw [outsAt12_A V c t h]; frame_out; rw [step12, zero12])
    (fun t h j => by rw [outsAt12_B V c t h]; frame_out; rw [step12])
    t ((flush12_7 t).mp hf) _, zero_add]
  pointwise [k12_pay7, k12_pay3, k12_pay4, k12_pay5, k12_pay6, gainE, rmsE, mmNTE]
  refine Fin.sum_mul_add_congr fun s k hl => ?_
  blk_point [iblk12, idx12 t, idx12 ⟨_, Pipeline.run_point_lt_of_flush t ((flush12_7 t).mp hf) s⟩]

end Cert.XattnIdeal.Value

end
-- ==== Proof.XAttn.lean ====
module

public import proofs.«01_k».proof.Proof.Gen.XattnIdeal.Frame.Region5
public import Idealize.ShloMosaic.Lib.Pipeline.ValueKit
public import proofs.«01_k».proof.Proof.BlockSpec

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # What the attention leaves in its result array

The statement is over arbitrary contents `V` of the arrays the call finds. -/

/-- The blocks of call 5, point by point. -/
theorem idx5 : ∀ t : Fin cfg5.N, win5_0.index t = ![t.val, 0] ∧ win5_1.index t = ![0, 0] ∧ win5_2.index t = ![0, 0] ∧ win5_3.index t = ![t.val, 0] :=
  (by decide +kernel : ∀ t : Fin grid5.N, _)

/-- The attention's result. -/
theorem final5_3 (c : Dev nD) : (dat5 V c).arrAt 3 cfg5.N = attnE (V c main_v2) (V c main_v3) (V c main_v4) := by
  refine (dat5 V c).arrAt_eq_of_covers 3 _ (by decide +kernel) fun t _ y => ?_
  blk_simp
  rw [after5_3]
  unfold out5_3
  canon_tiles x h
  all_goals (open_payloads; pointwise [attnE, probE, expE, maxE, scoreE]; blk_point [iblk5, idx5 t, headOf, col])

end Cert.XattnIdeal.Value

end
-- ==== Proof.XTiles.lean ====
module

public import proofs.«01_k».proof.Proof.Gen.XattnIdeal.Frame.Region10
public import Idealize.ShloMosaic.Lib.Pipeline.ValueKit
public import proofs.«01_k».proof.Proof.BlockSpec

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

/-- The blocks of the attention's backward call, point by point. -/
theorem idx10 : ∀ t : Fin cfg10.N, win10_0.index t = ![t.val, 0] ∧ win10_1.index t = ![0, 0] ∧ win10_2.index t = ![0, 0] ∧ win10_3.index t = ![t.val, 0] ∧ win10_4.index t = ![t.val, 0] ∧ win10_5.index t = ![0, 0] ∧ win10_6.index t = ![0, 0] :=
  (by decide +kernel : ∀ t : Fin grid10.N, _)

/-- Stores that reach an index hide every earlier one there. -/
theorem canon_hide {Val : EltTy → Type} {s : Shape} {e : EltTy} [∀ e, Nonempty (Val e)] (L' : List (View.Piece Val s e)) :
    ∀ (L : List (View.Piece Val s e)) (y : s.Idx) (_ : ∃ p ∈ L, y ∈ p.1.set), View.canon (L ++ L') y = View.canon L y
  | [], _, hy => by obtain ⟨p, hp, _⟩ := hy; simp at hp
  | p :: L, y, hy => by
    by_cases h : y ∈ p.1.set
    · obtain ⟨x, rfl⟩ : ∃ x, p.1.emb x = y := p.1.exists_idx_of_mem h
      exact (View.canon_cons_emb p.1 p.2 (L ++ L') x).trans (View.canon_cons_emb p.1 p.2 L x).symm
    · rw [List.cons_append, View.canon_cons_of_not_mem p (L ++ L') h, View.canon_cons_of_not_mem p L h]
      refine canon_hide L' L y ?_
      obtain ⟨q, hq, hyq⟩ := hy
      rcases List.mem_cons.mp hq with rfl | hq
      · exact absurd hyq h
      · exact ⟨q, hq, hyq⟩

end Cert.XattnIdeal.Value

end
-- ==== Proof.XAttnQueries.lean ====
module

public import proofs.«01_k».proof.Proof.Gen.XattnIdeal.Frame.Region10
public import Idealize.ShloMosaic.Lib.Pipeline.ReadBack
public import Idealize.ShloMosaic.Lib.Pipeline.ValueKit
public import proofs.«01_k».proof.Proof.BlockSpec
public import proofs.«01_k».proof.Proof.XTiles

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # The attention's gradient at its queries -/

/-- The gradient at the queries. -/
theorem final10_4 (c : Dev nD) : (dat10 V c).arrAt 4 cfg10.N = dqE (V c main_v2) (V c main_v3) (V c main_v4) (V c main_v8) := by
  refine (dat10 V c).arrAt_eq_of_covers 4 _ (by decide +kernel) fun t _ y => ?_
  blk_simp
  rw [after10_4]
  by_cases hr : t.val % 4 = 0
  · rw [outsAt10_A V c t hr]; frame_out
    canon_tiles x h
    all_goals (open_payloads; pointwise [dqE, dsE, dpE, probE, expE, maxE, scoreE]; blk_point [iblk10, idx10 t, headOf, col])
  · rw [outsAt10_B V c t hr]; frame_out
    canon_tiles x h
    all_goals (open_payloads; pointwise [dqE, dsE, dpE, probE, expE, maxE, scoreE]; blk_point [iblk10, idx10 t, headOf, col])

end Cert.XattnIdeal.Value

end
-- ==== Proof.XAttnKeys.lean ====
module

public import proofs.«01_k».proof.Proof.Gen.XattnIdeal.Frame.Region10
public import Idealize.ShloMosaic.Lib.Pipeline.ReadBack
public import Idealize.ShloMosaic.Lib.Pipeline.ValueKit
public import proofs.«01_k».proof.Proof.BlockSpec
public import proofs.«01_k».proof.Proof.XTiles

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # The attention's gradient at its keys -/

/-- The first row block's part. -/
theorem keys_first (c : Dev nD) (t : Fin cfg10.N) (h : t.val % 4 = 0) (j) :
    (outsAt10 V c t.val t.isLt).2.1 j = 0 + dkE (iblk10 V c 0 t) (iblk10 V c 1 t) (iblk10 V c 2 t) (iblk10 V c 3 t) j := by
  rw [outsAt10_A V c t h]; frame_out
  simp (disch := decide) only [↓View.readCov_skip, ↓View.readCov_fill]
  refine (canon_hide [_] [_, _, _, _] j (View.cover_of_tiled [_, _, _, _] ![256, 512] (by rfl) j)).trans ?_
  canon_tiles x h
  all_goals (open_payloads; pointwise [k10_pay2, dkE, dsE, dpE, probE, expE, maxE, scoreE]; blk_point [headOf, col])

/-- A later row block's part. -/
theorem keys_next (c : Dev nD) (t : Fin cfg10.N) (h : ¬ t.val % 4 = 0) (j) :
    (outsAt10 V c t.val t.isLt).2.1 j = (outsAt10 V c (t.val - 1) (Nat.lt_of_le_of_lt (Nat.sub_le _ _) t.isLt)).2.1 j + dkE (iblk10 V c 0 t) (iblk10 V c 1 t) (iblk10 V c 2 t) (iblk10 V c 3 t) j := by
  rw [outsAt10_B V c t h]; frame_out
  canon_tiles x h
  all_goals (open_payloads; pointwise [dkE, dsE, dpE, probE, expE, maxE, scoreE]; blk_point [headOf, col])

/-- The gradient at the keys. -/
theorem final10_5 (c : Dev nD) : (dat10 V c).arrAt 5 cfg10.N = dkE (V c main_v2) (V c main_v3) (V c main_v4) (V c main_v8) := by
  refine (dat10 V c).arrAt_eq_of_covers 5 _ (by decide +kernel) fun t hf y => ?_
  blk_simp
  rw [after10_5, Pipeline.eq_sum_fin_of_reset_step_apply_of_flush (fun n h => (outsAt10 V c n h).2.1) 4 (fun _ => 0)
    (fun t j => dkE (iblk10 V c 0 t) (iblk10 V c 1 t) (iblk10 V c 2 t) (iblk10 V c 3 t) j) (fun t h j => keys_first V c t h j) (fun t h j => keys_next V c t h j) t ((flush10_5 t).mp hf) _, zero_add]
  pointwise [dkE, dsE, dpE, probE, expE, maxE, scoreE]
  refine Fin.sum_mul_add_congr fun s k hl => ?_
  blk_point [iblk10, idx10 t, idx10 ⟨_, Pipeline.run_point_lt_of_flush t ((flush10_5 t).mp hf) s⟩, headOf, col]

end Cert.XattnIdeal.Value

end
-- ==== Proof.XAttnValues.lean ====
module

public import proofs.«01_k».proof.Proof.Gen.XattnIdeal.Frame.Region10
public import Idealize.ShloMosaic.Lib.Pipeline.ReadBack
public import Idealize.ShloMosaic.Lib.Pipeline.ValueKit
public import proofs.«01_k».proof.Proof.BlockSpec
public import proofs.«01_k».proof.Proof.XTiles

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

variable (V : (c : Dev nD) → (b : Ref sig .tc) → Buf (Elt Ideal) ((c : Thread nD τ).loc b))

/-! # The attention's gradient at its values -/

/-- The first row block's part. -/
theorem values_first (c : Dev nD) (t : Fin cfg10.N) (h : t.val % 4 = 0) (j) :
    (outsAt10 V c t.val t.isLt).2.2 j = 0 + dvE (iblk10 V c 0 t) (iblk10 V c 1 t) (iblk10 V c 3 t) j := by
  rw [outsAt10_A V c t h]; frame_out
  simp (disch := decide) only [↓View.readCov_skip, ↓View.readCov_fill]
  refine (canon_hide [_] [_, _, _, _] j (View.cover_of_tiled [_, _, _, _] ![256, 512] (by rfl) j)).trans ?_
  canon_tiles x h
  all_goals (open_payloads; pointwise [k10_pay3, dvE, probE, expE, maxE, scoreE]; blk_point [headOf, col])

/-- A later row block's part. -/
theorem values_next (c : Dev nD) (t : Fin cfg10.N) (h : ¬ t.val % 4 = 0) (j) :
    (outsAt10 V c t.val t.isLt).2.2 j = (outsAt10 V c (t.val - 1) (Nat.lt_of_le_of_lt (Nat.sub_le _ _) t.isLt)).2.2 j + dvE (iblk10 V c 0 t) (iblk10 V c 1 t) (iblk10 V c 3 t) j := by
  rw [outsAt10_B V c t h]; frame_out
  canon_tiles x h
  all_goals (open_payloads; pointwise [dvE, probE, expE, maxE, scoreE]; blk_point [headOf, col])

/-- The gradient at the values. -/
theorem final10_6 (c : Dev nD) : (dat10 V c).arrAt 6 cfg10.N = dvE (V c main_v2) (V c main_v3) (V c main_v8) := by
  refine (dat10 V c).arrAt_eq_of_covers 6 _ (by decide +kernel) fun t hf y => ?_
  blk_simp
  rw [after10_6, Pipeline.eq_sum_fin_of_reset_step_apply_of_flush (fun n h => (outsAt10 V c n h).2.2) 4 (fun _ => 0)
    (fun t j => dvE (iblk10 V c 0 t) (iblk10 V c 1 t) (iblk10 V c 3 t) j) (fun t h j => values_first V c t h j) (fun t h j => values_next V c t h j) t ((flush10_6 t).mp hf) _, zero_add]
  pointwise [dvE, probE, expE, maxE, scoreE]
  refine Fin.sum_mul_add_congr fun s k hl => ?_
  blk_point [iblk10, idx10 t, idx10 ⟨_, Pipeline.run_point_lt_of_flush t ((flush10_6 t).mp hf) s⟩, headOf, col]

end Cert.XattnIdeal.Value

end
-- ==== Proof.BlockArgs.lean ====
module

public import proofs.«01_k».proof.Proof.BlockSpec
public import proofs.«01_k».proof.Proof.Scalar

@[expose] public section

noncomputable section

open Idealize.ShloMosaic

namespace Cert.Block

/-! # The cross-attention block, forward and backward, as functions of its arguments -/

/-- The block's arguments: the mixer's result, the residual stream, the memory, three gains, five weights, and the two
    gradients that reach the block from above. -/
structure Args where
  z : Arr 4096 2048
  xs : Arr 4096 2048
  mems : Arr 256 2048
  gAttn : Arr 1 2048
  gMem : Arr 1 2048
  gFfn : Arr 1 2048
  wMix : Arr 2048 2048
  wQ : Arr 2048 2048
  wK : Arr 2048 2048
  wV : Arr 2048 2048
  wO : Arr 2048 2048
  dRes : Arr 4096 2048
  dHid : Arr 4096 2048

namespace Args

variable (A : Args)

/-- The normalised memory. -/
def memN : Arr 256 2048 := normE A.mems A.gMem
/-- The residual stream that enters the attention. -/
def x1 : Arr 4096 2048 := addE A.xs (mmE A.z A.wMix)
/-- Its normalisation. -/
def h2 : Arr 4096 2048 := normE A.x1 A.gAttn
/-- The queries. -/
def q : Arr 4096 2048 := mmE A.h2 A.wQ
/-- The keys. -/
def k : Arr 256 2048 := mmE A.memN A.wK
/-- The values. -/
def v : Arr 256 2048 := mmE A.memN A.wV
/-- The attention's result. -/
def o : Arr 4096 2048 := attnE A.q A.k A.v
/-- The residual stream that leaves the attention. -/
def x2 : Arr 4096 2048 := addE A.x1 (mmE A.o A.wO)
/-- Its normalisation. -/
def h3 : Arr 4096 2048 := normE A.x2 A.gFfn
/-- The gradient at `x2`. -/
def dx2 : Arr 4096 2048 := addE (normBwdE A.dHid A.x2 A.gFfn) A.dRes
/-- The gradient at the feed-forward gain. -/
def dgFfn : Arr 1 2048 := gainE A.dHid A.x2
/-- The gradient at the attention's result. -/
def dO : Arr 4096 2048 := mmNTE A.dx2 A.wO
/-- The gradient of the output projection. -/
def dWo : Arr 2048 2048 := mmTNE A.o A.dx2
/-- The gradient at the queries. -/
def dq : Arr 4096 2048 := dqE A.q A.k A.v A.dO
/-- The gradient at the keys. -/
def dk : Arr 256 2048 := dkE A.q A.k A.v A.dO
/-- The gradient at the values. -/
def dv : Arr 256 2048 := dvE A.q A.k A.dO
/-- The gradient of the query projection. -/
def dWq : Arr 2048 2048 := mmTNE A.h2 A.dq
/-- The gradient at `h2`. -/
def dh2 : Arr 4096 2048 := mmNTE A.dq A.wQ
/-- The gradient at `x1`. -/
def dx1 : Arr 4096 2048 := addE (normBwdE A.dh2 A.x1 A.gAttn) A.dx2
/-- The gradient at the attention gain. -/
def dgAttn : Arr 1 2048 := gainE A.dh2 A.x1
/-- The gradient of the key projection. -/
def dWk : Arr 2048 2048 := mmTNE A.memN A.dk
/-- The gradient of the value projection. -/
def dWv : Arr 2048 2048 := mmTNE A.memN A.dv
/-- The gradient at the normalised memory. -/
def dMemN : Arr 256 2048 := addE (mmNTE A.dk A.wK) (mmNTE A.dv A.wV)
/-- The gradient at the memory gain. -/
def dgMem : Arr 1 2048 := gainE A.dMemN A.mems
/-- The gradient of the mixer's output projection. -/
def dWmix : Arr 2048 2048 := mmTNE A.z A.dx1
/-- The gradient at the mixer's result. -/
def dz : Arr 4096 2048 := mmNTE A.dx1 A.wMix

end Args

end Cert.Block

end
-- ==== Proof.XChain.lean ====
module

public import proofs.«01_k».proof.Proof.Gen.XattnIdeal.Frame
public import Idealize.ShloMosaic.Lib.Pipeline.ValueKit
public import proofs.«01_k».proof.Proof.XProducts
public import proofs.«01_k».proof.Proof.XNorms
public import proofs.«01_k».proof.Proof.XNormsBack
public import proofs.«01_k».proof.Proof.XNormsDown
public import proofs.«01_k».proof.Proof.XAttn
public import proofs.«01_k».proof.Proof.XAttnQueries
public import proofs.«01_k».proof.Proof.XAttnKeys
public import proofs.«01_k».proof.Proof.XAttnValues
public import proofs.«01_k».proof.Proof.BlockArgs

@[expose] public section

set_option maxRecDepth 16384

noncomputable section

open Idealize.ShloMosaic Idealize.ShloMosaic.TcCoe Idealize.SL Idealize.SL.Sem
open Idealize.ShloMosaic.Pipeline (Dat)

namespace Cert.XattnIdeal.Value

open Cert.XattnIdeal Cert.XattnIdeal.Gen Cert.Block

/-! # What the program's results hold, over its arguments -/

variable (m : (ℓ : Loc nD τ sig) → Buf (Elt Ideal) ℓ) (ρ : Dev nD → PrngReg)

/-- The launched arguments on a device. -/
def args (c : Dev nD) : Args where
  z := m ((c : Thread nD τ).loc main_arg0)
  xs := m ((c : Thread nD τ).loc main_arg1)
  mems := m ((c : Thread nD τ).loc main_arg2)
  gAttn := m ((c : Thread nD τ).loc main_arg3)
  gMem := m ((c : Thread nD τ).loc main_arg4)
  gFfn := m ((c : Thread nD τ).loc main_arg5)
  wMix := m ((c : Thread nD τ).loc main_arg6)
  wQ := m ((c : Thread nD τ).loc main_arg7)
  wK := m ((c : Thread nD τ).loc main_arg8)
  wV := m ((c : Thread nD τ).loc main_arg9)
  wO := m ((c : Thread nD τ).loc main_arg10)
  dRes := m ((c : Thread nD τ).loc main_arg11)
  dHid := m ((c : Thread nD τ).loc main_arg12)

/-- The call that writes `main_v0` leaves the step `memN` of the arguments in it. -/
theorem at_v0 (c : Dev nD) : W1 m ρ c (Proc.devRef .tc main_v0) = (args m c).memN :=
  (W1_arr m ρ c 2).trans ((final0_2 (V0 m ρ) c).trans (by
    rw [show V0 m ρ c main_arg2 = m ((c : Thread nD τ).loc main_arg2) from rfl,
      show V0 m ρ c main_arg4 = m ((c : Thread nD τ).loc main_arg4) from rfl]
    rfl))

/-- The call that writes `main_v1_0` leaves the step `x1` of the arguments in it. -/
theorem at_v1_0 (c : Dev nD) : W2 m ρ c (Proc.devRef .tc main_v1_0) = (args m c).x1 :=
  (W2_arr m ρ c 4).trans ((final1_4 (V1 m ρ) c).trans (by
    rw [show V1 m ρ c main_arg1 = m ((c : Thread nD τ).loc main_arg1) from W1_args m ρ c main_arg1 (by decide),
      show V1 m ρ c main_arg0 = m ((c : Thread nD τ).loc main_arg0) from W1_args m ρ c main_arg0 (by decide),
      show V1 m ρ c main_arg6 = m ((c : Thread nD τ).loc main_arg6) from W1_args m ρ c main_arg6 (by decide)]
    rfl))

/-- The call that writes `main_v1_1` leaves the step `h2` of the arguments in it. -/
theorem at_v1_1 (c : Dev nD) : W2 m ρ c (Proc.devRef .tc main_v1_1) = (args m c).h2 :=
  (W2_arr m ρ c 5).trans ((final1_5 (V1 m ρ) c).trans (by
    rw [show V1 m ρ c main_arg1 = m ((c : Thread nD τ).loc main_arg1) from W1_args m ρ c main_arg1 (by decide),
      show V1 m ρ c main_arg0 = m ((c : Thread nD τ).loc main_arg0) from W1_args m ρ c main_arg0 (by decide),
      show V1 m ρ c main_arg6 = m ((c : Thread nD τ).loc main_arg6) from W1_args m ρ c main_arg6 (by decide),
      show V1 m ρ c main_arg3 = m ((c : Thread nD τ).loc main_arg3) from W1_args m ρ c main_arg3 (by decide)]
    rfl))

/-- The call that writes `main_v2` leaves the step `q` of the arguments in it. -/
theorem at_v2 (c : Dev nD) : W3 m ρ c (Proc.devRef .tc main_v2) = (args m c).q :=
  (W3_arr m ρ c 2).trans ((final2_2 (V2 m ρ) c).trans (by
    rw [show V2 m ρ c main_v1_1 = (args m c).h2 from at_v1_1 m ρ c,
      show V2 m ρ c main_arg7 = m ((c : Thread nD τ).loc main_arg7) from W2_args m ρ c main_arg7 (by decide)]
    rfl))

/-- `main_v0` still holds `memN` in the state before call 2. -/
theorem at2_v0 (c : Dev nD) : W2 m ρ c (Proc.devRef .tc main_v0) = (args m c).memN :=
  (W2_of m ρ c main_v0 (by decide +kernel)).trans (at_v0 m ρ c)

/-- `main_v0` still holds `memN` in the state before call 3. -/
theorem at3_v0 (c : Dev nD) : W3 m ρ c (Proc.devRef .tc main_v0) = (args m c).memN :=
  (W3_of m ρ c main_v0 (by decide +kernel)).trans (at2_v0 m ρ c)

/-- The call that writes `main_v3` leaves the step `k` of the arguments in it. -/
theorem at_v3 (c : Dev nD) : W4 m ρ c (Proc.devRef .tc main_v3) = (args m c).k :=
  (W4_arr m ρ c 2).trans ((final3_2 (V3 m ρ) c).trans (by
    rw [show V3 m ρ c main_v0 = (args m c).memN from at3_v0 m ρ c,
      show V3 m ρ c main_arg8 = m ((c : Thread nD τ).loc main_arg8) from W3_args m ρ c main_arg8 (by decide)]
    rfl))

/-- `main_v0` still holds `memN` in the state before call 4. -/
theorem at4_v0 (c : Dev nD) : W4 m ρ c (Proc.devRef .tc main_v0) = (args m c).memN :=
  (W4_of m ρ c main_v0 (by decide +kernel)).trans (at3_v0 m ρ c)

/-- The call that writes `main_v4` leaves the step `v` of the arguments in it. -/
theorem at_v4 (c : Dev nD) : W5 m ρ c (Proc.devRef .tc main_v4) = (args m c).v :=
  (W5_arr m ρ c 2).trans ((final4_2 (V4 m ρ) c).trans (by
    rw [show V4 m ρ c main_v0 = (args m c).memN from at4_v0 m ρ c,
      show V4 m ρ c main_arg9 = m ((c : Thread nD τ).loc main_arg9) from W4_args m ρ c main_arg9 (by decide)]
    rfl))

/-- `main_v2` still holds `q` in the state before call 4. -/
theorem at4_v2 (c : Dev nD) : W4 m ρ c (Proc.devRef .tc main_v2) = (args m c).q :=
  (W4_of m ρ c main_v2 (by decide +kernel)).trans (at_v2 m ρ c)

/-- `main_v2` still holds `q` in the state before call 5. -/
theorem at5_v2 (c : Dev nD) : W5 m ρ c (Proc.devRef .tc main_v2) = (args m c).q :=
  (W5_of m ρ c main_v2 (by decide +kernel)).trans (at4_v2 m ρ c)

/-- `main_v3` still holds `k` in the state before call 5. -/
theorem at5_v3 (c : Dev nD) : W5 m ρ c (Proc.devRef .tc main_v3) = (args m c).k :=
  (W5_of m ρ c main_v3 (by decide +kernel)).trans (at_v3 m ρ c)

/-- The call that writes `main_v5` leaves the step `o` of the arguments in it. -/
theorem at_v5 (c : Dev nD) : W6 m ρ c (Proc.devRef .tc main_v5) = (args m c).o :=
  (W6_arr m ρ c 3).trans ((final5_3 (V5 m ρ) c).trans (by
    rw [show V5 m ρ c main_v2 = (args m c).q from at5_v2 m ρ c,
      show V5 m ρ c main_v3 = (args m c).k from at5_v3 m ρ c,
      show V5 m ρ c main_v4 = (args m c).v from at_v4 m ρ c]
    rfl))

/-- `main_v1_0` still holds `x1` in the state before call 3. -/
theorem at3_v1_0 (c : Dev nD) : W3 m ρ c (Proc.devRef .tc main_v1_0) = (args m c).x1 :=
  (W3_of m ρ c main_v1_0 (by decide +kernel)).trans (at_v1_0 m ρ c)

/-- `main_v1_0` still holds `x1` in the state before call 4. -/
theorem at4_v1_0 (c : Dev nD) : W4 m ρ c (Proc.devRef .tc main_v1_0) = (args m c).x1 :=
  (W4_of m ρ c main_v1_0 (by decide +kernel)).trans (at3_v1_0 m ρ c)

/-- `main_v1_0` still holds `x1` in the state before call 5. -/
theorem at5_v1_0 (c : Dev nD) : W5 m ρ c (Proc.devRef .tc main_v1_0) = (args m c).x1 :=
  (W5_of m ρ c main_v1_0 (by decide +kernel)).trans (at4_v1_0 m ρ c)

/-- `main_v1_0` still holds `x1` in the state before call 6. -/
theorem at6_v1_0 (c : Dev nD) : W6 m ρ c (Proc.devRef .tc main_v1_0) = (args m c).x1 :=
  (W6_of m ρ c main_v1_0 (by decide +kernel)).trans (at5_v1_0 m ρ c)

/-- The call that writes `main_v6_0` leaves the step `x2` of the arguments in it. -/
theorem at_v6_0 (c : Dev nD) : W7 m ρ c (Proc.devRef .tc main_v6_0) = (args m c).x2 :=
  (W7_arr m ρ c 4).trans ((final6_4 (V6 m ρ) c).trans (by
    rw [show V6 m ρ c main_v1_0 = (args m c).x1 from at6_v1_0 m ρ c,
      show V6 m ρ c main_v5 = (args m c).o from at_v5 m ρ c,
      show V6 m ρ c main_arg10 = m ((c : Thread nD τ).loc main_arg10) from W6_args m ρ c main_arg10 (by decide)]
    rfl))

/-- The call that writes `main_v6_1` leaves the step `h3` of the arguments in it. -/
theorem at_v6_1 (c : Dev nD) : W7 m ρ c (Proc.devRef .tc main_v6_1) = (args m c).h3 :=
  (W7_arr m ρ c 5).trans ((final6_5 (V6 m ρ) c).trans (by
    rw [show V6 m ρ c main_v1_0 = (args m c).x1 from at6_v1_0 m ρ c,
      show V6 m ρ c main_v5 = (args m c).o from at_v5 m ρ c,
      show V6 m ρ c main_arg10 = m ((c : Thread nD τ).loc main_arg10) from W6_args m ρ c main_arg10 (by decide),
      show V6 m ρ c main_arg5 = m ((c : Thread nD τ).loc main_arg5) from W6_args m ρ c main_arg5 (by decide)]
    rfl))

/-- The call that writes `main_v7_0` leaves the step `dx2` of the arguments in it. -/
theorem at_v7_0 (c : Dev nD) : W8 m ρ c (Proc.devRef .tc main_v7_0) = (args m c).dx2 :=
  (W8_arr m ρ c 4).trans ((final7_4 (V7 m ρ) c).trans (by
    rw [show V7 m ρ c main_arg12 = m ((c : Thread nD τ).loc main_arg12) from W7_args m ρ c main_arg12 (by decide),
      show V7 m ρ c main_v6_0 = (args m c).x2 from at_v6_0 m ρ c,
      show V7 m ρ c main_arg5 = m ((c : Thread nD τ).loc main_arg5) from W7_args m ρ c main_arg5 (by decide),
      show V7 m ρ c main_arg11 = m ((c : Thread nD τ).loc main_arg11) from W7_args m ρ c main_arg11 (by decide)]
    rfl))

/-- The call that writes `main_v7_1` leaves the step `dx2` of the arguments in it. -/
theorem at_v7_1 (c : Dev nD) : W8 m ρ c (Proc.devRef .tc main_v7_1) = (args m c).dx2 :=
  (W8_arr m ρ c 5).trans ((final7_5 (V7 m ρ) c).trans (by
    rw [show V7 m ρ c main_arg12 = m ((c : Thread nD τ).loc main_arg12) from W7_args m ρ c main_arg12 (by decide),
      show V7 m ρ c main_v6_0 = (args m c).x2 from at_v6_0 m ρ c,
      show V7 m ρ c main_arg5 = m ((c : Thread nD τ).loc main_arg5) from W7_args m ρ c main_arg5 (by decide),
      show V7 m ρ c main_arg11 = m ((c : Thread nD τ).loc main_arg11) from W7_args m ρ c main_arg11 (by decide)]
    rfl))

/-- The call that writes `main_v7_2` leaves the step `dgFfn` of the arguments in it. -/
theorem at_v7_2 (c : Dev nD) : W8 m ρ c (Proc.devRef .tc main_v7_2) = (args m c).dgFfn :=
  (W8_arr m ρ c 6).trans ((final7_6 (V7 m ρ) c).trans (by
    rw [show V7 m ρ c main_arg12 = m ((c : Thread nD τ).loc main_arg12) from W7_args m ρ c main_arg12 (by decide),
      show V7 m ρ c main_v6_0 = (args m c).x2 from at_v6_0 m ρ c]
    rfl))

/-- The call that writes `main_v8` leaves the step `dO` of the arguments in it. -/
theorem at_v8 (c : Dev nD) : W9 m ρ c (Proc.devRef .tc main_v8) = (args m c).dO :=
  (W9_arr m ρ c 2).trans ((final8_2 (V8 m ρ) c).trans (by
    rw [show V8 m ρ c main_v7_1 = (args m c).dx2 from at_v7_1 m ρ c,
      show V8 m ρ c main_arg10 = m ((c : Thread nD τ).loc main_arg10) from W8_args m ρ c main_arg10 (by decide)]
    rfl))

/-- `main_v5` still holds `o` in the state before call 7. -/
theorem at7_v5 (c : Dev nD) : W7 m ρ c (Proc.devRef .tc main_v5) = (args m c).o :=
  (W7_of m ρ c main_v5 (by decide +kernel)).trans (at_v5 m ρ c)

/-- `main_v5` still holds `o` in the state before call 8. -/
theorem at8_v5 (c : Dev nD) : W8 m ρ c (Proc.devRef .tc main_v5) = (args m c).o :=
  (W8_of m ρ c main_v5 (by decide +kernel)).trans (at7_v5 m ρ c)

/-- `main_v5` still holds `o` in the state before call 9. -/
theorem at9_v5 (c : Dev nD) : W9 m ρ c (Proc.devRef .tc main_v5) = (args m c).o :=
  (W9_of m ρ c main_v5 (by decide +kernel)).trans (at8_v5 m ρ c)

/-- `main_v7_1` still holds `dx2` in the state before call 9. -/
theorem at9_v7_1 (c : Dev nD) : W9 m ρ c (Proc.devRef .tc main_v7_1) = (args m c).dx2 :=
  (W9_of m ρ c main_v7_1 (by decide +kernel)).trans (at_v7_1 m ρ c)

/-- The call that writes `main_v9` leaves the step `dWo` of the arguments in it. -/
theorem at_v9 (c : Dev nD) : W10 m ρ c (Proc.devRef .tc main_v9) = (args m c).dWo :=
  (W10_arr m ρ c 2).trans ((final9_2 (V9 m ρ) c).trans (by
    rw [show V9 m ρ c main_v5 = (args m c).o from at9_v5 m ρ c,
      show V9 m ρ c main_v7_1 = (args m c).dx2 from at9_v7_1 m ρ c]
    rfl))

/-- `main_v2` still holds `q` in the state before call 6. -/
theorem at6_v2 (c : Dev nD) : W6 m ρ c (Proc.devRef .tc main_v2) = (args m c).q :=
  (W6_of m ρ c main_v2 (by decide +kernel)).trans (at5_v2 m ρ c)

/-- `main_v2` still holds `q` in the state before call 7. -/
theorem at7_v2 (c : Dev nD) : W7 m ρ c (Proc.devRef .tc main_v2) = (args m c).q :=
  (W7_of m ρ c main_v2 (by decide +kernel)).trans (at6_v2 m ρ c)

/-- `main_v2` still holds `q` in the state before call 8. -/
theorem at8_v2 (c : Dev nD) : W8 m ρ c (Proc.devRef .tc main_v2) = (args m c).q :=
  (W8_of m ρ c main_v2 (by decide +kernel)).trans (at7_v2 m ρ c)

/-- `main_v2` still holds `q` in the state before call 9. -/
theorem at9_v2 (c : Dev nD) : W9 m ρ c (Proc.devRef .tc main_v2) = (args m c).q :=
  (W9_of m ρ c main_v2 (by decide +kernel)).trans (at8_v2 m ρ c)

/-- `main_v2` still holds `q` in the state before call 10. -/
theorem at10_v2 (c : Dev nD) : W10 m ρ c (Proc.devRef .tc main_v2) = (args m c).q :=
  (W10_of m ρ c main_v2 (by decide +kernel)).trans (at9_v2 m ρ c)

/-- `main_v3` still holds `k` in the state before call 6. -/
theorem at6_v3 (c : Dev nD) : W6 m ρ c (Proc.devRef .tc main_v3) = (args m c).k :=
  (W6_of m ρ c main_v3 (by decide +kernel)).trans (at5_v3 m ρ c)

/-- `main_v3` still holds `k` in the state before call 7. -/
theorem at7_v3 (c : Dev nD) : W7 m ρ c (Proc.devRef .tc main_v3) = (args m c).k :=
  (W7_of m ρ c main_v3 (by decide +kernel)).trans (at6_v3 m ρ c)

/-- `main_v3` still holds `k` in the state before call 8. -/
theorem at8_v3 (c : Dev nD) : W8 m ρ c (Proc.devRef .tc main_v3) = (args m c).k :=
  (W8_of m ρ c main_v3 (by decide +kernel)).trans (at7_v3 m ρ c)

/-- `main_v3` still holds `k` in the state before call 9. -/
theorem at9_v3 (c : Dev nD) : W9 m ρ c (Proc.devRef .tc main_v3) = (args m c).k :=
  (W9_of m ρ c main_v3 (by decide +kernel)).trans (at8_v3 m ρ c)

/-- `main_v3` still holds `k` in the state before call 10. -/
theorem at10_v3 (c : Dev nD) : W10 m ρ c (Proc.devRef .tc main_v3) = (args m c).k :=
  (W10_of m ρ c main_v3 (by decide +kernel)).trans (at9_v3 m ρ c)

/-- `main_v4` still holds `v` in the state before call 6. -/
theorem at6_v4 (c : Dev nD) : W6 m ρ c (Proc.devRef .tc main_v4) = (args m c).v :=
  (W6_of m ρ c main_v4 (by decide +kernel)).trans (at_v4 m ρ c)

/-- `main_v4` still holds `v` in the state before call 7. -/
theorem at7_v4 (c : Dev nD) : W7 m ρ c (Proc.devRef .tc main_v4) = (args m c).v :=
  (W7_of m ρ c main_v4 (by decide +kernel)).trans (at6_v4 m ρ c)

/-- `main_v4` still holds `v` in the state before call 8. -/
theorem at8_v4 (c : Dev nD) : W8 m ρ c (Proc.devRef .tc main_v4) = (args m c).v :=
  (W8_of m ρ c main_v4 (by decide +kernel)).trans (at7_v4 m ρ c)

/-- `main_v4` still holds `v` in the state before call 9. -/
theorem at9_v4 (c : Dev nD) : W9 m ρ c (Proc.devRef .tc main_v4) = (args m c).v :=
  (W9_of m ρ c main_v4 (by decide +kernel)).trans (at8_v4 m ρ c)

/-- `main_v4` still holds `v` in the state before call 10. -/
theorem at10_v4 (c : Dev nD) : W10 m ρ c (Proc.devRef .tc main_v4) = (args m c).v :=
  (W10_of m ρ c main_v4 (by decide +kernel)).trans (at9_v4 m ρ c)

/-- `main_v8` still holds `dO` in the state before call 10. -/
theorem at10_v8 (c : Dev nD) : W10 m ρ c (Proc.devRef .tc main_v8) = (args m c).dO :=
  (W10_of m ρ c main_v8 (by decide +kernel)).trans (at_v8 m ρ c)

/-- The call that writes `main_v10_0` leaves the step `dq` of the arguments in it. -/
theorem at_v10_0 (c : Dev nD) : W11 m ρ c (Proc.devRef .tc main_v10_0) = (args m c).dq :=
  (W11_arr m ρ c 4).trans ((final10_4 (V10 m ρ) c).trans (by
    rw [show V10 m ρ c main_v2 = (args m c).q from at10_v2 m ρ c,
      show V10 m ρ c main_v3 = (args m c).k from at10_v3 m ρ c,
      show V10 m ρ c main_v4 = (args m c).v from at10_v4 m ρ c,
      show V10 m ρ c main_v8 = (args m c).dO from at10_v8 m ρ c]
    rfl))

/-- The call that writes `main_v10_1` leaves the step `dk` of the arguments in it. -/
theorem at_v10_1 (c : Dev nD) : W11 m ρ c (Proc.devRef .tc main_v10_1) = (args m c).dk :=
  (W11_arr m ρ c 5).trans ((final10_5 (V10 m ρ) c).trans (by
    rw [show V10 m ρ c main_v2 = (args m c).q from at10_v2 m ρ c,
      show V10 m ρ c main_v3 = (args m c).k from at10_v3 m ρ c,
      show V10 m ρ c main_v4 = (args m c).v from at10_v4 m ρ c,
      show V10 m ρ c main_v8 = (args m c).dO from at10_v8 m ρ c]
    rfl))

/-- The call that writes `main_v10_2` leaves the step `dv` of the arguments in it. -/
theorem at_v10_2 (c : Dev nD) : W11 m ρ c (Proc.devRef .tc main_v10_2) = (args m c).dv :=
  (W11_arr m ρ c 6).trans ((final10_6 (V10 m ρ) c).trans (by
    rw [show V10 m ρ c main_v2 = (args m c).q from at10_v2 m ρ c,
      show V10 m ρ c main_v3 = (args m c).k from at10_v3 m ρ c,
      show V10 m ρ c main_v8 = (args m c).dO from at10_v8 m ρ c]
    rfl))

/-- `main_v1_1` still holds `h2` in the state before call 3. -/
theorem at3_v1_1 (c : Dev nD) : W3 m ρ c (Proc.devRef .tc main_v1_1) = (args m c).h2 :=
  (W3_of m ρ c main_v1_1 (by decide +kernel)).trans (at_v1_1 m ρ c)

/-- `main_v1_1` still holds `h2` in the state before call 4. -/
theorem at4_v1_1 (c : Dev nD) : W4 m ρ c (Proc.devRef .tc main_v1_1) = (args m c).h2 :=
  (W4_of m ρ c main_v1_1 (by decide +kernel)).trans (at3_v1_1 m ρ c)

/-- `main_v1_1` still holds `h2` in the state before call 5. -/
theorem at5_v1_1 (c : Dev nD) : W5 m ρ c (Proc.devRef .tc main_v1_1) = (args m c).h2 :=
  (W5_of m ρ c main_v1_1 (by decide +kernel)).trans (at4_v1_1 m ρ c)

/-- `main_v1_1` still holds `h2` in the state before call 6. -/
theorem at6_v1_1 (c : Dev nD) : W6 m ρ c (Proc.devRef .tc main_v1_1) = (args m c).h2 :=
  (W6_of m ρ c main_v1_1 (by decide +kernel)).trans (at5_v1_1 m ρ c)

/-- `main_v1_1` still holds `h2` in the state before call 7. -/
theorem at7_v1_1 (c : Dev nD) : W7 m ρ c (Proc.devRef .tc main_v1_1) = (args m c).h2 :=
  (W7_of m ρ c main_v1_1 (by decide +kernel)).trans (at6_v1_1 m ρ c)

/-- `main_v1_1` still holds `h2` in the state before call 8. -/
theorem at8_v1_1 (c : Dev nD) : W8 m ρ c (Proc.devRef .tc main_v1_1) = (args m c).h2 :=
  (W8_of m ρ c main_v1_1 (by decide +kernel)).trans (at7_v1_1 m ρ c)

/-- `main_v1_1` still holds `h2` in the state before call 9. -/
theorem at9_v1_1 (c : Dev nD) : W9 m ρ c (Proc.devRef .tc main_v1_1) = (args m c).h2 :=
  (W9_of m ρ c main_v1_1 (by decide +kernel)).trans (at8_v1_1 m ρ c)

/-- `main_v1_1` still holds `h2` in the state before call 10. -/
theorem at10_v1_1 (c : Dev nD) : W10 m ρ c (Proc.devRef .tc main_v1_1) = (args m c).h2 :=
  (W10_of m ρ c main_v1_1 (by decide +kernel)).trans (at9_v1_1 m ρ c)

/-- `main_v1_1` still holds `h2` in the state before call 11. -/
theorem at11_v1_1 (c : Dev nD) : W11 m ρ c (Proc.devRef .tc main_v1_1) = (args m c).h2 :=
  (W11_of m ρ c main_v1_1 (by decide +kernel)).trans (at10_v1_1 m ρ c)

/-- The call that writes `main_v11` leaves the step `dWq` of the arguments in it. -/
theorem at_v11 (c : Dev nD) : W12 m ρ c (Proc.devRef .tc main_v11) = (args m c).dWq :=
  (W12_arr m ρ c 2).trans ((final11_2 (V11 m ρ) c).trans (by
    rw [show V11 m ρ c main_v1_1 = (args m c).h2 from at11_v1_1 m ρ c,
      show V11 m ρ c main_v10_0 = (args m c).dq from at_v10_0 m ρ c]
    rfl))

/-- `main_v10_0` still holds `dq` in the state before call 12. -/
theorem at12_v10_0 (c : Dev nD) : W12 m ρ c (Proc.devRef .tc main_v10_0) = (args m c).dq :=
  (W12_of m ρ c main_v10_0 (by decide +kernel)).trans (at_v10_0 m ρ c)

/-- `main_v1_0` still holds `x1` in the state before call 7. -/
theorem at7_v1_0 (c : Dev nD) : W7 m ρ c (Proc.devRef .tc main_v1_0) = (args m c).x1 :=
  (W7_of m ρ c main_v1_0 (by decide +kernel)).trans (at6_v1_0 m ρ c)

/-- `main_v1_0` still holds `x1` in the state before call 8. -/
theorem at8_v1_0 (c : Dev nD) : W8 m ρ c (Proc.devRef .tc main_v1_0) = (args m c).x1 :=
  (W8_of m ρ c main_v1_0 (by decide +kernel)).trans (at7_v1_0 m ρ c)

/-- `main_v1_0` still holds `x1` in the state before call 9. -/
theorem at9_v1_0 (c : Dev nD) : W9 m ρ c (Proc.devRef .tc main_v1_0) = (args m c).x1 :=
  (W9_of m ρ c main_v1_0 (by decide +kernel)).trans (at8_v1_0 m ρ c)

/-- `main_v1_0` still holds `x1` in the state before call 10. -/
theorem at10_v1_0 (c : Dev nD) : W10 m ρ c (Proc.devRef .tc main_v1_0) = (args m c).x1 :=
  (W10_of m ρ c main_v1_0 (by decide +kernel)).trans (at9_v1_0 m ρ c)

/-- `main_v1_0` still holds `x1` in the state before call 11. -/
theorem at11_v1_0 (c : Dev nD) : W11 m ρ c (Proc.devRef .tc main_v1_0) = (args m c).x1 :=
  (W11_of m ρ c main_v1_0 (by decide +kernel)).trans (at10_v1_0 m ρ c)

/-- `main_v1_0` still holds `x1` in the state before call 12. -/
theorem at12_v1_0 (c : Dev nD) : W12 m ρ c (Proc.devRef .tc main_v1_0) = (args m c).x1 :=
  (W12_of m ρ c main_v1_0 (by decide +kernel)).trans (at11_v1_0 m ρ c)

/-- `main_v7_0` still holds `dx2` in the state before call 9. -/
theorem at9_v7_0 (c : Dev nD) : W9 m ρ c (Proc.devRef .tc main_v7_0) = (args m c).dx2 :=
  (W9_of m ρ c main_v7_0 (by decide +kernel)).trans (at_v7_0 m ρ c)

/-- `main_v7_0` still holds `dx2` in the state before call 10. -/
theorem at10_v7_0 (c : Dev nD) : W10 m ρ c (Proc.devRef .tc main_v7_0) = (args m c).dx2 :=
  (W10_of m ρ c main_v7_0 (by decide +kernel)).trans (at9_v7_0 m ρ c)

/-- `main_v7_0` still holds `dx2` in the state before call 11. -/
theorem at11_v7_0 (c : Dev nD) : W11 m ρ c (Proc.devRef .tc main_v7_0) = (args m c).dx2 :=
  (W11_of m ρ c main_v7_0 (by decide +kernel)).trans (at10_v7_0 m ρ c)

/-- `main_v7_0` still holds `dx2` in the state before call 12. -/
theorem at12_v7_0 (c : Dev nD) : W12 m ρ c (Proc.devRef .tc main_v7_0) = (args m c).dx2 :=
  (W12_of m ρ c main_v7_0 (by decide +kernel)).trans (at11_v7_0 m ρ c)

/-- The call that writes `main_v12_0` leaves the step `dx1` of the arguments in it. -/
theorem at_v12_0 (c : Dev nD) : W13 m ρ c (Proc.devRef .tc main_v12_0) = (args m c).dx1 :=
  (W13_arr m ρ c 5).trans ((final12_5 (V12 m ρ) c).trans (by
    rw [show V12 m ρ c main_v10_0 = (args m c).dq from at12_v10_0 m ρ c,
      show V12 m ρ c main_arg7 = m ((c : Thread nD τ).loc main_arg7) from W12_args m ρ c main_arg7 (by decide),
      show V12 m ρ c main_v1_0 = (args m c).x1 from at12_v1_0 m ρ c,
      show V12 m ρ c main_arg3 = m ((c : Thread nD τ).loc main_arg3) from W12_args m ρ c main_arg3 (by decide),
      show V12 m ρ c main_v7_0 = (args m c).dx2 from at12_v7_0 m ρ c]
    rfl))

/-- The call that writes `main_v12_1` leaves the step `dx1` of the arguments in it. -/
theorem at_v12_1 (c : Dev nD) : W13 m ρ c (Proc.devRef .tc main_v12_1) = (args m c).dx1 :=
  (W13_arr m ρ c 6).trans ((final12_6 (V12 m ρ) c).trans (by
    rw [show V12 m ρ c main_v10_0 = (args m c).dq from at12_v10_0 m ρ c,
      show V12 m ρ c main_arg7 = m ((c : Thread nD τ).loc main_arg7) from W12_args m ρ c main_arg7 (by decide),
      show V12 m ρ c main_v1_0 = (args m c).x1 from at12_v1_0 m ρ c,
      show V12 m ρ c main_arg3 = m ((c : Thread nD τ).loc main_arg3) from W12_args m ρ c main_arg3 (by decide),
      show V12 m ρ c main_v7_0 = (args m c).dx2 from at12_v7_0 m ρ c]
    rfl))

/-- The call that writes `main_v12_2` leaves the step `dgAttn` of the arguments in it. -/
theorem at_v12_2 (c : Dev nD) : W13 m ρ c (Proc.devRef .tc main_v12_2) = (args m c).dgAttn :=
  (W13_arr m ρ c 7).trans ((final12_7 (V12 m ρ) c).trans (by
    rw [show V12 m ρ c main_v10_0 = (args m c).dq from at12_v10_0 m ρ c,
      show V12 m ρ c main_arg7 = m ((c : Thread nD τ).loc main_arg7) from W12_args m ρ c main_arg7 (by decide),
      show V12 m ρ c main_v1_0 = (args m c).x1 from at12_v1_0 m ρ c]
    rfl))

/-- `main_v0` still holds `memN` in the state before call 5. -/
theorem at5_v0 (c : Dev nD) : W5 m ρ c (Proc.devRef .tc main_v0) = (args m c).memN :=
  (W5_of m ρ c main_v0 (by decide +kernel)).trans (at4_v0 m ρ c)

/-- `main_v0` still holds `memN` in the state before call 6. -/
theorem at6_v0 (c : Dev nD) : W6 m ρ c (Proc.devRef .tc main_v0) = (args m c).memN :=
  (W6_of m ρ c main_v0 (by decide +kernel)).trans (at5_v0 m ρ c)

/-- `main_v0` still holds `memN` in the state before call 7. -/
theorem at7_v0 (c : Dev nD) : W7 m ρ c (Proc.devRef .tc main_v0) = (args m c).memN :=
  (W7_of m ρ c main_v0 (by decide +kernel)).trans (at6_v0 m ρ c)

/-- `main_v0` still holds `memN` in the state before call 8. -/
theorem at8_v0 (c : Dev nD) : W8 m ρ c (Proc.devRef .tc main_v0) = (args m c).memN :=
  (W8_of m ρ c main_v0 (by decide +kernel)).trans (at7_v0 m ρ c)

/-- `main_v0` still holds `memN` in the state before call 9. -/
theorem at9_v0 (c : Dev nD) : W9 m ρ c (Proc.devRef .tc main_v0) = (args m c).memN :=
  (W9_of m ρ c main_v0 (by decide +kernel)).trans (at8_v0 m ρ c)

/-- `main_v0` still holds `memN` in the state before call 10. -/
theorem at10_v0 (c : Dev nD) : W10 m ρ c (Proc.devRef .tc main_v0) = (args m c).memN :=
  (W10_of m ρ c main_v0 (by decide +kernel)).trans (at9_v0 m ρ c)

/-- `main_v0` still holds `memN` in the state before call 11. -/
theorem at11_v0 (c : Dev nD) : W11 m ρ c (Proc.devRef .tc main_v0) = (args m c).memN :=
  (W11_of m ρ c main_v0 (by decide +kernel)).trans (at10_v0 m ρ c)

/-- `main_v0` still holds `memN` in the state before call 12. -/
theorem at12_v0 (c : Dev nD) : W12 m ρ c (Proc.devRef .tc main_v0) = (args m c).memN :=
  (W12_of m ρ c main_v0 (by decide +kernel)).trans (at11_v0 m ρ c)

/-- `main_v0` still holds `memN` in the state before call 13. -/
theorem at13_v0 (c : Dev nD) : W13 m ρ c (Proc.devRef .tc main_v0) = (args m c).memN :=
  (W13_of m ρ c main_v0 (by decide +kernel)).trans (at12_v0 m ρ c)

/-- `main_v10_1` still holds `dk` in the state before call 12. -/
theorem at12_v10_1 (c : Dev nD) : W12 m ρ c (Proc.devRef .tc main_v10_1) = (args m c).dk :=
  (W12_of m ρ c main_v10_1 (by decide +kernel)).trans (at_v10_1 m ρ c)

/-- `main_v10_1` still holds `dk` in the state before call 13. -/
theorem at13_v10_1 (c : Dev nD) : W13 m ρ c (Proc.devRef .tc main_v10_1) = (args m c).dk :=
  (W13_of m ρ c main_v10_1 (by decide +kernel)).trans (at12_v10_1 m ρ c)

/-- The call that writes `main_v13_0` leaves the step `dWk` of the arguments in it. -/
theorem at_v13_0 (c : Dev nD) : W14 m ρ c (Proc.devRef .tc main_v13_0) = (args m c).dWk :=
  (W14_arr m ρ c 3).trans ((final13_3 (V13 m ρ) c).trans (by
    rw [show V13 m ρ c main_v0 = (args m c).memN from at13_v0 m ρ c,
      show V13 m ρ c main_v10_1 = (args m c).dk from at13_v10_1 m ρ c]
    rfl))

/-- `main_v10_2` still holds `dv` in the state before call 12. -/
theorem at12_v10_2 (c : Dev nD) : W12 m ρ c (Proc.devRef .tc main_v10_2) = (args m c).dv :=
  (W12_of m ρ c main_v10_2 (by decide +kernel)).trans (at_v10_2 m ρ c)

/-- `main_v10_2` still holds `dv` in the state before call 13. -/
theorem at13_v10_2 (c : Dev nD) : W13 m ρ c (Proc.devRef .tc main_v10_2) = (args m c).dv :=
  (W13_of m ρ c main_v10_2 (by decide +kernel)).trans (at12_v10_2 m ρ c)

/-- The call that writes `main_v13_1` leaves the step `dWv` of the arguments in it. -/
theorem at_v13_1 (c : Dev nD) : W14 m ρ c (Proc.devRef .tc main_v13_1) = (args m c).dWv :=
  (W14_arr m ρ c 4).trans ((final13_4 (V13 m ρ) c).trans (by
    rw [show V13 m ρ c main_v0 = (args m c).memN from at13_v0 m ρ c,
      show V13 m ρ c main_v10_2 = (args m c).dv from at13_v10_2 m ρ c]
    rfl))

/-- `main_v10_1` still holds `dk` in the state before call 14. -/
theorem at14_v10_1 (c : Dev nD) : W14 m ρ c (Proc.devRef .tc main_v10_1) = (args m c).dk :=
  (W14_of m ρ c main_v10_1 (by decide +kernel)).trans (at13_v10_1 m ρ c)

/-- `main_v10_2` still holds `dv` in the state before call 14. -/
theorem at14_v10_2 (c : Dev nD) : W14 m ρ c (Proc.devRef .tc main_v10_2) = (args m c).dv :=
  (W14_of m ρ c main_v10_2 (by decide +kernel)).trans (at13_v10_2 m ρ c)

/-- The call that writes `main_v14` leaves the step `dMemN` of the arguments in it. -/
theorem at_v14 (c : Dev nD) : W15 m ρ c (Proc.devRef .tc main_v14) = (args m c).dMemN :=
  (W15_arr m ρ c 4).trans ((final14_4 (V14 m ρ) c).trans (by
    rw [show V14 m ρ c main_v10_1 = (args m c).dk from at14_v10_1 m ρ c,
      show V14 m ρ c main_arg8 = m ((c : Thread nD τ).loc main_arg8) from W14_args m ρ c main_arg8 (by decide),
      show V14 m ρ c main_v10_2 = (args m c).dv from at14_v10_2 m ρ c,
      show V14 m ρ c main_arg9 = m ((c : Thread nD τ).loc main_arg9) from W14_args m ρ c main_arg9 (by decide)]
    rfl))

/-- The call that writes `main_v15` leaves the step `dgMem` of the arguments in it. -/
theorem at_v15 (c : Dev nD) : W16 m ρ c (Proc.devRef .tc main_v15) = (args m c).dgMem :=
  (W16_arr m ρ c 3).trans ((final15_3 (V15 m ρ) c).trans (by
    rw [show V15 m ρ c main_v14 = (args m c).dMemN from at_v14 m ρ c,
      show V15 m ρ c main_arg2 = m ((c : Thread nD τ).loc main_arg2) from W15_args m ρ c main_arg2 (by decide)]
    rfl))

/-- `main_v12_1` still holds `dx1` in the state before call 14. -/
theorem at14_v12_1 (c : Dev nD) : W14 m ρ c (Proc.devRef .tc main_v12_1) = (args m c).dx1 :=
  (W14_of m ρ c main_v12_1 (by decide +kernel)).trans (at_v12_1 m ρ c)

/-- `main_v12_1` still holds `dx1` in the state before call 15. -/
theorem at15_v12_1 (c : Dev nD) : W15 m ρ c (Proc.devRef .tc main_v12_1) = (args m c).dx1 :=
  (W15_of m ρ c main_v12_1 (by decide +kernel)).trans (at14_v12_1 m ρ c)

/-- `main_v12_1` still holds `dx1` in the state before call 16. -/
theorem at16_v12_1 (c : Dev nD) : W16 m ρ c (Proc.devRef .tc main_v12_1) = (args m c).dx1 :=
  (W16_of m ρ c main_v12_1 (by decide +kernel)).trans (at15_v12_1 m ρ c)

/-- The call that writes `main_v16` leaves the step `dWmix` of the arguments in it. -/
theorem at_v16 (c : Dev nD) : W17 m ρ c (Proc.devRef .tc main_v16) = (args m c).dWmix :=
  (W17_arr m ρ c 2).trans ((final16_2 (V16 m ρ) c).trans (by
    rw [show V16 m ρ c main_arg0 = m ((c : Thread nD τ).loc main_arg0) from W16_args m ρ c main_arg0 (by decide),
      show V16 m ρ c main_v12_1 = (args m c).dx1 from at16_v12_1 m ρ c]
    rfl))

/-- `main_v12_1` still holds `dx1` in the state before call 17. -/
theorem at17_v12_1 (c : Dev nD) : W17 m ρ c (Proc.devRef .tc main_v12_1) = (args m c).dx1 :=
  (W17_of m ρ c main_v12_1 (by decide +kernel)).trans (at16_v12_1 m ρ c)

/-- The call that writes `main_v17` leaves the step `dz` of the arguments in it. -/
theorem at_v17 (c : Dev nD) : W18 m ρ c (Proc.devRef .tc main_v17) = (args m c).dz :=
  (W18_arr m ρ c 2).trans ((final17_2 (V17 m ρ) c).trans (by
    rw [show V17 m ρ c main_v12_1 = (args m c).dx1 from at17_v12_1 m ρ c,
      show V17 m ρ c main_arg6 = m ((c : Thread nD τ).loc main_arg6) from W17_args m ρ c main_arg6 (by decide)]
    rfl))

/-- `main_v6_0` still holds `x2` in the state before call 8. -/
theorem at8_v6_0 (c : Dev nD) : W8 m ρ c (Proc.devRef .tc main_v6_0) = (args m c).x2 :=
  (W8_of m ρ c main_v6_0 (by decide +kernel)).trans (at_v6_0 m ρ c)

/-- `main_v6_0` still holds `x2` in the state before call 9. -/
theorem at9_v6_0 (c : Dev nD) : W9 m ρ c (Proc.devRef .tc main_v6_0) = (args m c).x2 :=
  (W9_of m ρ c main_v6_0 (by decide +kernel)).trans (at8_v6_0 m ρ c)

/-- `main_v6_0` still holds `x2` in the state before call 10. -/
theorem at10_v6_0 (c : Dev nD) : W10 m ρ c (Proc.devRef .tc main_v6_0) = (args m c).x2 :=
  (W10_of m ρ c main_v6_0 (by decide +kernel)).trans (at9_v6_0 m ρ c)

/-- `main_v6_0` still holds `x2` in the state before call 11. -/
theorem at11_v6_0 (c : Dev nD) : W11 m ρ c (Proc.devRef .tc main_v6_0) = (args m c).x2 :=
  (W11_of m ρ c main_v6_0 (by decide +kernel)).trans (at10_v6_0 m ρ c)

/-- `main_v6_0` still holds `x2` in the state before call 12. -/
theorem at12_v6_0 (c : Dev nD) : W12 m ρ c (Proc.devRef .tc main_v6_0) = (args m c).x2 :=
  (W12_of m ρ c main_v6_0 (by decide +kernel)).trans (at11_v6_0 m ρ c)

/-- `main_v6_0` still holds `x2` in the state before call 13. -/
theorem at13_v6_0 (c : Dev nD) : W13 m ρ c (Proc.devRef .tc main_v6_0) = (args m c).x2 :=
  (W13_of m ρ c main_v6_0 (by decide +kernel)).trans (at12_v6_0 m ρ c)

/-- `main_v6_0` still holds `x2` in the state before call 14. -/
theorem at14_v6_0 (c : Dev nD) : W14 m ρ c (Proc.devRef .tc main_v6_0) = (args m c).x2 :=
  (W14_of m ρ c main_v6_0 (by decide +kernel)).trans (at13_v6_0 m ρ c)

/-- `main_v6_0` still holds `x2` in the state before call 15. -/
theorem at15_v6_0 (c : Dev nD) : W15 m ρ c (Proc.devRef .tc main_v6_0) = (args m c).x2 :=
  (W15_of m ρ c main_v6_0 (by decide +kernel)).trans (at14_v6_0 m ρ c)

/-- `main_v6_0` still holds `x2` in the state before call 16. -/
theorem at16_v6_0 (c : Dev nD) : W16 m ρ c (Proc.devRef .tc main_v6_0) = (args m c).x2 :=
  (W16_of m ρ c main_v6_0 (by decide +kernel)).trans (at15_v6_0 m ρ c)

/-- `main_v6_0` still holds `x2` in the state before call 17. -/
theorem at17_v6_0 (c : Dev nD) : W17 m ρ c (Proc.devRef .tc main_v6_0) = (args m c).x2 :=
  (W17_of m ρ c main_v6_0 (by decide +kernel)).trans (at16_v6_0 m ρ c)

/-- `main_v6_0` still holds `x2` in the state before call 18. -/
theorem at18_v6_0 (c : Dev nD) : W18 m ρ c (Proc.devRef .tc main_v6_0) = (args m c).x2 :=
  (W18_of m ρ c main_v6_0 (by decide +kernel)).trans (at17_v6_0 m ρ c)

/-- `main_v6_1` still holds `h3` in the state before call 8. -/
theorem at8_v6_1 (c : Dev nD) : W8 m ρ c (Proc.devRef .tc main_v6_1) = (args m c).h3 :=
  (W8_of m ρ c main_v6_1 (by decide +kernel)).trans (at_v6_1 m ρ c)

/-- `main_v6_1` still holds `h3` in the state before call 9. -/
theorem at9_v6_1 (c : Dev nD) : W9 m ρ c (Proc.devRef .tc main_v6_1) = (args m c).h3 :=
  (W9_of m ρ c main_v6_1 (by decide +kernel)).trans (at8_v6_1 m ρ c)

/-- `main_v6_1` still holds `h3` in the state before call 10. -/
theorem at10_v6_1 (c : Dev nD) : W10 m ρ c (Proc.devRef .tc main_v6_1) = (args m c).h3 :=
  (W10_of m ρ c main_v6_1 (by decide +kernel)).trans (at9_v6_1 m ρ c)

/-- `main_v6_1` still holds `h3` in the state before call 11. -/
theorem at11_v6_1 (c : Dev nD) : W11 m ρ c (Proc.devRef .tc main_v6_1) = (args m c).h3 :=
  (W11_of m ρ c main_v6_1 (by decide +kernel)).trans (at10_v6_1 m ρ c)

/-- `main_v6_1` still holds `h3` in the state before call 12. -/
theorem at12_v6_1 (c : Dev nD) : W12 m ρ c (Proc.devRef .tc main_v6_1) = (args m c).h3 :=
  (W12_of m ρ c main_v6_1 (by decide +kernel)).trans (at11_v6_1 m ρ c)

/-- `main_v6_1` still holds `h3` in the state before call 13. -/
theorem at13_v6_1 (c : Dev nD) : W13 m ρ c (Proc.devRef .tc main_v6_1) = (args m c).h3 :=
  (W13_of m ρ c main_v6_1 (by decide +kernel)).trans (at12_v6_1 m ρ c)

/-- `main_v6_1` still holds `h3` in the state before call 14. -/
theorem at14_v6_1 (c : Dev nD) : W14 m ρ c (Proc.devRef .tc main_v6_1) = (args m c).h3 :=
  (W14_of m ρ c main_v6_1 (by decide +kernel)).trans (at13_v6_1 m ρ c)

/-- `main_v6_1` still holds `h3` in the state before call 15. -/
theorem at15_v6_1 (c : Dev nD) : W15 m ρ c (Proc.devRef .tc main_v6_1) = (args m c).h3 :=
  (W15_of m ρ c main_v6_1 (by decide +kernel)).trans (at14_v6_1 m ρ c)

/-- `main_v6_1` still holds `h3` in the state before call 16. -/
theorem at16_v6_1 (c : Dev nD) : W16 m ρ c (Proc.devRef .tc main_v6_1) = (args m c).h3 :=
  (W16_of m ρ c main_v6_1 (by decide +kernel)).trans (at15_v6_1 m ρ c)

/-- `main_v6_1` still holds `h3` in the state before call 17. -/
theorem at17_v6_1 (c : Dev nD) : W17 m ρ c (Proc.devRef .tc main_v6_1) = (args m c).h3 :=
  (W17_of m ρ c main_v6_1 (by decide +kernel)).trans (at16_v6_1 m ρ c)

/-- `main_v6_1` still holds `h3` in the state before call 18. -/
theorem at18_v6_1 (c : Dev nD) : W18 m ρ c (Proc.devRef .tc main_v6_1) = (args m c).h3 :=
  (W18_of m ρ c main_v6_1 (by decide +kernel)).trans (at17_v6_1 m ρ c)

/-- `main_v12_0` still holds `dx1` in the state before call 14. -/
theorem at14_v12_0 (c : Dev nD) : W14 m ρ c (Proc.devRef .tc main_v12_0) = (args m c).dx1 :=
  (W14_of m ρ c main_v12_0 (by decide +kernel)).trans (at_v12_0 m ρ c)

/-- `main_v12_0` still holds `dx1` in the state before call 15. -/
theorem at15_v12_0 (c : Dev nD) : W15 m ρ c (Proc.devRef .tc main_v12_0) = (args m c).dx1 :=
  (W15_of m ρ c main_v12_0 (by decide +kernel)).trans (at14_v12_0 m ρ c)

/-- `main_v12_0` still holds `dx1` in the state before call 16. -/
theorem at16_v12_0 (c : Dev nD) : W16 m ρ c (Proc.devRef .tc main_v12_0) = (args m c).dx1 :=
  (W16_of m ρ c main_v12_0 (by decide +kernel)).trans (at15_v12_0 m ρ c)

/-- `main_v12_0` still holds `dx1` in the state before call 17. -/
theorem at17_v12_0 (c : Dev nD) : W17 m ρ c (Proc.devRef .tc main_v12_0) = (args m c).dx1 :=
  (W17_of m ρ c main_v12_0 (by decide +kernel)).trans (at16_v12_0 m ρ c)

/-- `main_v12_0` still holds `dx1` in the state before call 18. -/
theorem at18_v12_0 (c : Dev nD) : W18 m ρ c (Proc.devRef .tc main_v12_0) = (args m c).dx1 :=
  (W18_of m ρ c main_v12_0 (by decide +kernel)).trans (at17_v12_0 m ρ c)

/-- `main_v12_2` still holds `dgAttn` in the state before call 14. -/
theorem at14_v12_2 (c : Dev nD) : W14 m ρ c (Proc.devRef .tc main_v12_2) = (args m c).dgAttn :=
  (W14_of m ρ c main_v12_2 (by decide +kernel)).trans (at_v12_2 m ρ c)

/-- `main_v12_2` still holds `dgAttn` in the state before call 15. -/
theorem at15_v12_2 (c : Dev nD) : W15 m ρ c (Proc.devRef .tc main_v12_2) = (args m c).dgAttn :=
  (W15_of m ρ c main_v12_2 (by decide +kernel)).trans (at14_v12_2 m ρ c)

/-- `main_v12_2` still holds `dgAttn` in the state before call 16. -/
theorem at16_v12_2 (c : Dev nD) : W16 m ρ c (Proc.devRef .tc main_v12_2) = (args m c).dgAttn :=
  (W16_of m ρ c main_v12_2 (by decide +kernel)).trans (at15_v12_2 m ρ c)

/-- `main_v12_2` still holds `dgAttn` in the state before call 17. -/
theorem at17_v12_2 (c : Dev nD) : W17 m ρ c (Proc.devRef .tc main_v12_2) = (args m c).dgAttn :=
  (W17_of m ρ c main_v12_2 (by decide +kernel)).trans (at16_v12_2 m ρ c)

/-- `main_v12_2` still holds `dgAttn` in the state before call 18. -/
theorem at18_v12_2 (c : Dev nD) : W18 m ρ c (Proc.devRef .tc main_v12_2) = (args m c).dgAttn :=
  (W18_of m ρ c main_v12_2 (by decide +kernel)).trans (at17_v12_2 m ρ c)

/-- `main_v15` still holds `dgMem` in the state before call 17. -/
theorem at17_v15 (c : Dev nD) : W17 m ρ c (Proc.devRef .tc main_v15) = (args m c).dgMem :=
  (W17_of m ρ c main_v15 (by decide +kernel)).trans (at_v15 m ρ c)

/-- `main_v15` still holds `dgMem` in the state before call 18. -/
theorem at18_v15 (c : Dev nD) : W18 m ρ c (Proc.devRef .tc main_v15) = (args m c).dgMem :=
  (W18_of m ρ c main_v15 (by decide +kernel)).trans (at17_v15 m ρ c)

/-- `main_v7_2` still holds `dgFfn` in the state before call 9. -/
theorem at9_v7_2 (c : Dev nD) : W9 m ρ c (Proc.devRef .tc main_v7_2) = (args m c).dgFfn :=
  (W9_of m ρ c main_v7_2 (by decide +kernel)).trans (at_v7_2 m ρ c)

/-- `main_v7_2` still holds `dgFfn` in the state before call 10. -/
theorem at10_v7_2 (c : Dev nD) : W10 m ρ c (Proc.devRef .tc main_v7_2) = (args m c).dgFfn :=
  (W10_of m ρ c main_v7_2 (by decide +kernel)).trans (at9_v7_2 m ρ c)

/-- `main_v7_2` still holds `dgFfn` in the state before call 11. -/
theorem at11_v7_2 (c : Dev nD) : W11 m ρ c (Proc.devRef .tc main_v7_2) = (args m c).dgFfn :=
  (W11_of m ρ c main_v7_2 (by decide +kernel)).trans (at10_v7_2 m ρ c)

/-- `main_v7_2` still holds `dgFfn` in the state before call 12. -/
theorem at12_v7_2 (c : Dev nD) : W12 m ρ c (Proc.devRef .tc main_v7_2) = (args m c).dgFfn :=
  (W12_of m ρ c main_v7_2 (by decide +kernel)).trans (at11_v7_2 m ρ c)

/-- `main_v7_2` still holds `dgFfn` in the state before call 13. -/
theorem at13_v7_2 (c : Dev nD) : W13 m ρ c (Proc.devRef .tc main_v7_2) = (args m c).dgFfn :=
  (W13_of m ρ c main_v7_2 (by decide +kernel)).trans (at12_v7_2 m ρ c)

/-- `main_v7_2` still holds `dgFfn` in the state before call 14. -/
theorem at14_v7_2 (c : Dev nD) : W14 m ρ c (Proc.devRef .tc main_v7_2) = (args m c).dgFfn :=
  (W14_of m ρ c main_v7_2 (by decide +kernel)).trans (at13_v7_2 m ρ c)

/-- `main_v7_2` still holds `dgFfn` in the state before call 15. -/
theorem at15_v7_2 (c : Dev nD) : W15 m ρ c (Proc.devRef .tc main_v7_2) = (args m c).dgFfn :=
  (W15_of m ρ c main_v7_2 (by decide +kernel)).trans (at14_v7_2 m ρ c)

/-- `main_v7_2` still holds `dgFfn` in the state before call 16. -/
theorem at16_v7_2 (c : Dev nD) : W16 m ρ c (Proc.devRef .tc main_v7_2) = (args m c).dgFfn :=
  (W16_of m ρ c main_v7_2 (by decide +kernel)).trans (at15_v7_2 m ρ c)

/-- `main_v7_2` still holds `dgFfn` in the state before call 17. -/
theorem at17_v7_2 (c : Dev nD) : W17 m ρ c (Proc.devRef .tc main_v7_2) = (args m c).dgFfn :=
  (W17_of m ρ c main_v7_2 (by decide +kernel)).trans (at16_v7_2 m ρ c)

/-- `main_v7_2` still holds `dgFfn` in the state before call 18. -/
theorem at18_v7_2 (c : Dev nD) : W18 m ρ c (Proc.devRef .tc main_v7_2) = (args m c).dgFfn :=
  (W18_of m ρ c main_v7_2 (by decide +kernel)).trans (at17_v7_2 m ρ c)

/-- `main_v16` still holds `dWmix` in the state before call 18. -/
theorem at18_v16 (c : Dev nD) : W18 m ρ c (Proc.devRef .tc main_v16) = (args m c).dWmix :=
  (W18_of m ρ c main_v16 (by decide +kernel)).trans (at_v16 m ρ c)

/-- `main_v11` still holds `dWq` in the state before call 13. -/
theorem at13_v11 (c : Dev nD) : W13 m ρ c (Proc.devRef .tc main_v11) = (args m c).dWq :=
  (W13_of m ρ c main_v11 (by decide +kernel)).trans (at_v11 m ρ c)

/-- `main_v11` still holds `dWq` in the state before call 14. -/
theorem at14_v11 (c : Dev nD) : W14 m ρ c (Proc.devRef .tc main_v11) = (args m c).dWq :=
  (W14_of m ρ c main_v11 (by decide +kernel)).trans (at13_v11 m ρ c)

/-- `main_v11` still holds `dWq` in the state before call 15. -/
theorem at15_v11 (c : Dev nD) : W15 m ρ c (Proc.devRef .tc main_v11) = (args m c).dWq :=
  (W15_of m ρ c main_v11 (by decide +kernel)).trans (at14_v11 m ρ c)

/-- `main_v11` still holds `dWq` in the state before call 16. -/
theorem at16_v11 (c : Dev nD) : W16 m ρ c (Proc.devRef .tc main_v11) = (args m c).dWq :=
  (W16_of m ρ c main_v11 (by decide +kernel)).trans (at15_v11 m ρ c)

/-- `main_v11` still holds `dWq` in the state before call 17. -/
theorem at17_v11 (c : Dev nD) : W17 m ρ c (Proc.devRef .tc main_v11) = (args m c).dWq :=
  (W17_of m ρ c main_v11 (by decide +kernel)).trans (at16_v11 m ρ c)

/-- `main_v11` still holds `dWq` in the state before call 18. -/
theorem at18_v11 (c : Dev nD) : W18 m ρ c (Proc.devRef .tc main_v11) = (args m c).dWq :=
  (W18_of m ρ c main_v11 (by decide +kernel)).trans (at17_v11 m ρ c)

/-- `main_v13_0` still holds `dWk` in the state before call 15. -/
theorem at15_v13_0 (c : Dev nD) : W15 m ρ c (Proc.devRef .tc main_v13_0) = (args m c).dWk :=
  (W15_of m ρ c main_v13_0 (by decide +kernel)).trans (at_v13_0 m ρ c)

/-- `main_v13_0` still holds `dWk` in the state before call 16. -/
theorem at16_v13_0 (c : Dev nD) : W16 m ρ c (Proc.devRef .tc main_v13_0) = (args m c).dWk :=
  (W16_of m ρ c main_v13_0 (by decide +kernel)).trans (at15_v13_0 m ρ c)

/-- `main_v13_0` still holds `dWk` in the state before call 17. -/
theorem at17_v13_0 (c : Dev nD) : W17 m ρ c (Proc.devRef .tc main_v13_0) = (args m c).dWk :=
  (W17_of m ρ c main_v13_0 (by decide +kernel)).trans (at16_v13_0 m ρ c)

/-- `main_v13_0` still holds `dWk` in the state before call 18. -/
theorem at18_v13_0 (c : Dev nD) : W18 m ρ c (Proc.devRef .tc main_v13_0) = (args m c).dWk :=
  (W18_of m ρ c main_v13_0 (by decide +kernel)).trans (at17_v13_0 m ρ c)

/-- `main_v13_1` still holds `dWv` in the state before call 15. -/
theorem at15_v13_1 (c : Dev nD) : W15 m ρ c (Proc.devRef .tc main_v13_1) = (args m c).dWv :=
  (W15_of m ρ c main_v13_1 (by decide +kernel)).trans (at_v13_1 m ρ c)

/-- `main_v13_1` still holds `dWv` in the state before call 16. -/
theorem at16_v13_1 (c : Dev nD) : W16 m ρ c (Proc.devRef .tc main_v13_1) = (args m c).dWv :=
  (W16_of m ρ c main_v13_1 (by decide +kernel)).trans (at15_v13_1 m ρ c)

/-- `main_v13_1` still holds `dWv` in the state before call 17. -/
theorem at17_v13_1 (c : Dev nD) : W17 m ρ c (Proc.devRef .tc main_v13_1) = (args m c).dWv :=
  (W17_of m ρ c main_v13_1 (by decide +kernel)).trans (at16_v13_1 m ρ c)

/-- `main_v13_1` still holds `dWv` in the state before call 18. -/
theorem at18_v13_1 (c : Dev nD) : W18 m ρ c (Proc.devRef .tc main_v13_1) = (args m c).dWv :=
  (W18_of m ρ c main_v13_1 (by decide +kernel)).trans (at17_v13_1 m ρ c)

/-- `main_v9` still holds `dWo` in the state before call 11. -/
theorem at11_v9 (c : Dev nD) : W11 m ρ c (Proc.devRef .tc main_v9) = (args m c).dWo :=
  (W11_of m ρ c main_v9 (by decide +kernel)).trans (at_v9 m ρ c)

/-- `main_v9` still holds `dWo` in the state before call 12. -/
theorem at12_v9 (c : Dev nD) : W12 m ρ c (Proc.devRef .tc main_v9) = (args m c).dWo :=
  (W12_of m ρ c main_v9 (by decide +kernel)).trans (at11_v9 m ρ c)

/-- `main_v9` still holds `dWo` in the state before call 13. -/
theorem at13_v9 (c : Dev nD) : W13 m ρ c (Proc.devRef .tc main_v9) = (args m c).dWo :=
  (W13_of m ρ c main_v9 (by decide +kernel)).trans (at12_v9 m ρ c)

/-- `main_v9` still holds `dWo` in the state before call 14. -/
theorem at14_v9 (c : Dev nD) : W14 m ρ c (Proc.devRef .tc main_v9) = (args m c).dWo :=
  (W14_of m ρ c main_v9 (by decide +kernel)).trans (at13_v9 m ρ c)

/-- `main_v9` still holds `dWo` in the state before call 15. -/
theorem at15_v9 (c : Dev nD) : W15 m ρ c (Proc.devRef .tc main_v9) = (args m c).dWo :=
  (W15_of m ρ c main_v9 (by decide +kernel)).trans (at14_v9 m ρ c)

/-- `main_v9` still holds `dWo` in the state before call 16. -/
theorem at16_v9 (c : Dev nD) : W16 m ρ c (Proc.devRef .tc main_v9) = (args m c).dWo :=
  (W16_of m ρ c main_v9 (by decide +kernel)).trans (at15_v9 m ρ c)

/-- `main_v9` still holds `dWo` in the state before call 17. -/
theorem at17_v9 (c : Dev nD) : W17 m ρ c (Proc.devRef .tc main_v9) = (args m c).dWo :=
  (W17_of m ρ c main_v9 (by decide +kernel)).trans (at16_v9 m ρ c)

/-- `main_v9` still holds `dWo` in the state before call 18. -/
theorem at18_v9 (c : Dev nD) : W18 m ρ c (Proc.devRef .tc main_v9) = (args m c).dWo :=
  (W18_of m ρ c main_v9 (by decide +kernel)).trans (at17_v9 m ρ c)

end Cert.XattnIdeal.Value

end
-- ==== Proof.BlockReal.lean ====
module

public import proofs.«01_k».proof.Proof.BlockArgs

@[expose] public section

noncomputable section

open Idealize.ShloMosaic Cert.Scalar

namespace Cert.Block

/-! # Real arguments keep every step real, and the two forms of the two non-linear gradients agree there -/

/-- An array of real numbers. -/
def AllReal {a b : ℕ} (x : Arr a b) : Prop := ∀ i, IsReal (x i)

/-- The f32 pattern of 2048. -/
theorem width_eq : Ideal.ofBits FTy.f32 0x45000000#32 = ((2048 : ℝ) : EReal) := by
  simp [Ideal.ofBits, Ideal.ieee, -EReal.coe_mul]; norm_num

/-- The f32 pattern added to a mean square. -/
theorem eps_eq : Ideal.ofBits FTy.f32 0x358637BD#32 = ((8796093 / 2 ^ 43 : ℝ) : EReal) := by
  simp [Ideal.ofBits, Ideal.ieee, -EReal.coe_mul]; norm_num

/-- The f32 pattern of the scores' scale. -/
theorem scale_eq : Ideal.ofBits FTy.f32 0x3D3504F3#32 = ((11863283 / 2 ^ 28 : ℝ) : EReal) := by
  simp [Ideal.ofBits, Ideal.ieee, -EReal.coe_mul]; norm_num

/-- The f32 pattern of minus one half. -/
theorem mhalf_eq : Ideal.ofBits FTy.f32 0xBF000000#32 = ((-1 / 2 : ℝ) : EReal) := by
  simp [Ideal.ofBits, Ideal.ieee, -EReal.coe_mul]; norm_num

/-- The f32 pattern of minus infinity. -/
theorem minf_eq : Ideal.ofBits FTy.f32 0xFF800000#32 = (⊥ : EReal) := by
  simp [Ideal.ofBits, Ideal.ieee]

/-- A sum of real numbers, read in the extended reals. -/
theorem coe_sum {n : ℕ} (f : Fin n → ℝ) : (∑ k, (f k : EReal)) = ((∑ k, f k : ℝ) : EReal) := by
  refine Finset.induction_on (Finset.univ : Finset (Fin n)) (by simp) fun k s hk ih => ?_
  rw [Finset.sum_insert hk, Finset.sum_insert hk, ih, EReal.coe_add]

/-- A difference of reals is real. -/
theorem _root_.Cert.Scalar.IsReal.sub {x y : EReal} (hx : IsReal x) (hy : IsReal y) : IsReal (x - y) := by
  obtain ⟨a, rfl⟩ := hx; obtain ⟨b, rfl⟩ := hy
  exact ⟨a - b, (EReal.coe_sub a b).symm⟩

/-- A real over the width is real. -/
theorem real_width {x : EReal} (hx : IsReal x) : IsReal (Ideal.div x (Ideal.ofBits FTy.f32 0x45000000#32)) := by
  obtain ⟨a, rfl⟩ := hx
  rw [width_eq, Ideal.div_coe (by norm_num), ← EReal.coe_mul]
  exact ⟨_, rfl⟩

/-! ## Products and sums -/

/-- A product of real arrays is real. -/
theorem mm_real {a b c : ℕ} {x : Arr a b} {w : Arr b c} (hx : AllReal x) (hw : AllReal w) : AllReal (mmE x w) :=
  fun _ => IsReal.sum fun _ => (hx _).mul (hw _)

/-- A product of a real array with a transposed real one is real. -/
theorem mmNT_real {a b c : ℕ} {x : Arr a b} {w : Arr c b} (hx : AllReal x) (hw : AllReal w) : AllReal (mmNTE x w) :=
  fun _ => IsReal.sum fun _ => (hx _).mul (hw _)

/-- A sum of real arrays is real. -/
theorem add_real {a b : ℕ} {x y : Arr a b} (hx : AllReal x) (hy : AllReal y) : AllReal (addE x y) :=
  fun _ => (hx _).add (hy _)

/-! ## The normalisation -/

/-- A real row's mean square plus the constant is a positive real, and the step's factor is its reciprocal root. -/
theorem rms_real {a : ℕ} {x : Arr a 2048} (hx : AllReal x) (p : Fin a) : ∃ u r : ℝ, 0 < u ∧ r * r * u = 1 ∧
    Ideal.div (∑ k : Fin 2048, x (ix2 p k) * x (ix2 p k)) (Ideal.ofBits .f32 0x45000000#32) + Ideal.ofBits .f32 0x358637BD#32 = (u : EReal)
      ∧ rmsE x p = (r : EReal) := by
  choose f hf using hx
  have hs : (∑ k : Fin 2048, x (ix2 p k) * x (ix2 p k)) = ((∑ k : Fin 2048, f (ix2 p k) * f (ix2 p k) : ℝ) : EReal) := by
    rw [← coe_sum]; exact Finset.sum_congr rfl fun k _ => by rw [hf, EReal.coe_mul]
  have hn : (0 : ℝ) ≤ ∑ k : Fin 2048, f (ix2 p k) * f (ix2 p k) := Finset.sum_nonneg fun k _ => mul_self_nonneg _
  have hu : (0 : ℝ) < (∑ k : Fin 2048, f (ix2 p k) * f (ix2 p k)) * (1 / 2048) + 8796093 / 2 ^ 43 := by positivity
  refine ⟨_, (√((∑ k : Fin 2048, f (ix2 p k) * f (ix2 p k)) * (1 / 2048) + 8796093 / 2 ^ 43))⁻¹, hu, ?_, ?_, ?_⟩
  · have h := Real.mul_self_sqrt hu.le
    have h0 := Real.sqrt_pos.mpr hu
    generalize √((∑ k : Fin 2048, f (ix2 p k) * f (ix2 p k)) * (1 / 2048) + 8796093 / 2 ^ 43) = s at h h0
    rw [← h]; field_simp
  · rw [hs, width_eq, eps_eq, Ideal.div_coe (by norm_num), ← EReal.coe_mul, ← EReal.coe_add]
  · unfold rmsE
    rw [hs, width_eq, eps_eq, Ideal.div_coe (by norm_num), ← EReal.coe_mul, ← EReal.coe_add, Ideal.rsqrt_coe,
      if_neg (not_lt.mpr hu.le), if_neg hu.ne']

/-- The normalisation of real rows is real. -/
theorem norm_real {a : ℕ} {x : Arr a 2048} {g : Arr 1 2048} (hx : AllReal x) (hg : AllReal g) : AllReal (normE x g) := fun i => by
  obtain ⟨_, r, _, _, _, hr⟩ := rms_real hx (i 0)
  exact ((hx i).mul ⟨r, hr⟩).mul (hg _)

/-- The gradient of the normalisation is real on real arrays. -/
theorem normBwd_real {a : ℕ} {dh x : Arr a 2048} {g : Arr 1 2048} (hd : AllReal dh) (hx : AllReal x) (hg : AllReal g) :
    AllReal (normBwdE dh x g) := fun i => by
  obtain ⟨_, r, _, _, _, hr⟩ := rms_real hx (i 0)
  have h : IsReal (rmsE x (i 0)) := ⟨r, hr⟩
  exact h.mul (((hd i).mul (hg _)).sub (((hx i).mul h).mul (real_width (IsReal.sum fun k => ((hd _).mul (hg _)).mul ((hx _).mul h)))))

/-- The gradient of the normalisation, by the product rule: through the factor's own derivative, minus one half of it
    over the mean square, and twice the row. -/
theorem normBwd_eq {a : ℕ} {dh x dr : Arr a 2048} {g : Arr 1 2048} (hd : AllReal dh) (hx : AllReal x) (hg : AllReal g)
    (i : (Sh a 2048).Idx) (u t : EReal)
    (hu : u = Ideal.div (∑ k : Fin 2048, x (ix2 (i 0) k) * x (ix2 (i 0) k)) (Ideal.ofBits .f32 0x45000000#32) + Ideal.ofBits .f32 0x358637BD#32)
    (ht : t = Ideal.div ((∑ k : Fin 2048, x (ix2 (i 0) k) * (dh (ix2 (i 0) k) * g (ix2 0 k)))
      * (Ideal.ofBits .f32 0xBF000000#32 * Ideal.div (Ideal.rsqrt u) u)) (Ideal.ofBits .f32 0x45000000#32)) :
    dr i + dh i * g (ix2 0 (i 1)) * Ideal.rsqrt u + x i * t + t * x i = normBwdE dh x g i + dr i := by
  obtain ⟨v, r, hv, hrv, hV, hR⟩ := rms_real hx (i 0)
  have hr : Ideal.rsqrt u = (r : EReal) := by rw [hu]; exact hR
  rw [hV] at hu
  choose f hf using hx
  choose d hd' using hd
  choose γ hγ using hg
  have hS : (∑ k : Fin 2048, x (ix2 (i 0) k) * (dh (ix2 (i 0) k) * g (ix2 0 k)))
      = ((∑ k : Fin 2048, f (ix2 (i 0) k) * (d (ix2 (i 0) k) * γ (ix2 0 k)) : ℝ) : EReal) := by
    rw [← coe_sum]; exact Finset.sum_congr rfl fun k _ => by rw [hf, hd', hγ, ← EReal.coe_mul, ← EReal.coe_mul]
  have hT : (∑ k : Fin 2048, dh (ix2 (i 0) k) * g (ix2 0 k) * (x (ix2 (i 0) k) * rmsE x (i 0)))
      = (((∑ k : Fin 2048, f (ix2 (i 0) k) * (d (ix2 (i 0) k) * γ (ix2 0 k))) * r : ℝ) : EReal) := by
    rw [Finset.sum_mul, ← coe_sum]
    exact Finset.sum_congr rfl fun k _ => by
      rw [hf, hd', hγ, hR, ← EReal.coe_mul, ← EReal.coe_mul, ← EReal.coe_mul]; congr 1; ring
  rw [ht, hr, hu, hS, mhalf_eq, width_eq, Ideal.div_coe hv.ne', ← EReal.coe_mul, ← EReal.coe_mul, ← EReal.coe_mul,
    Ideal.div_coe (by norm_num), ← EReal.coe_mul]
  unfold normBwdE
  rw [hT, width_eq, Ideal.div_coe (by norm_num), ← EReal.coe_mul, hR, hf i, hd' i, hγ]
  generalize (∑ k : Fin 2048, f (ix2 (i 0) k) * (d (ix2 (i 0) k) * γ (ix2 0 k))) = S
  rw [add_assoc, add_assoc, add_comm (dr i)]
  congr 1
  simp only [← EReal.coe_mul, ← EReal.coe_sub, ← EReal.coe_add]
  congr 1
  have e : 1 / v = r * r := by rw [← hrv]; field_simp
  rw [e]; ring

/-! ## The attention -/

/-- Scores of real queries and keys are real. -/
theorem score_real {a : ℕ} {q : Arr a 2048} {k : Arr 256 2048} (hq : AllReal q) (hk : AllReal k) (h : Fin 4) (p : Fin a) (m : Fin 256) :
    IsReal (scoreE q k h p m) :=
  IsReal.mul (IsReal.sum fun _ => (hq _).mul (hk _)) ⟨_, scale_eq⟩

/-- A number strictly between the infinities is real. -/
theorem isReal_of_between {x : EReal} (h : ⊥ < x) (h' : x < ⊤) : IsReal x := by
  induction x using EReal.rec with
  | bot => simp at h
  | coe r => exact ⟨r, rfl⟩
  | top => simp at h'

/-- The largest of 256 real scores is real. -/
theorem max_real {a : ℕ} {q : Arr a 2048} {k : Arr 256 2048} (hq : AllReal q) (hk : AllReal k) (h : Fin 4) (p : Fin a) :
    IsReal (maxE q k h p) := by
  unfold maxE
  rw [minf_eq]
  refine isReal_of_between ((Finset.lt_fold_max _).mpr (.inr ⟨0, Finset.mem_univ _, ?_⟩)) ((Finset.fold_max_lt _).mpr ⟨bot_lt_top, fun m _ => ?_⟩)
  · obtain ⟨r, hr⟩ := score_real hq hk h p 0; rw [hr]; exact EReal.bot_lt_coe r
  · obtain ⟨r, hr⟩ := score_real hq hk h p m; rw [hr]; exact EReal.coe_lt_top r

/-- The exponential of a real is a positive real. -/
theorem exp_real {a : ℕ} {q : Arr a 2048} {k : Arr 256 2048} (hq : AllReal q) (hk : AllReal k) (h : Fin 4) (p : Fin a) (m : Fin 256) :
    ∃ r : ℝ, 0 < r ∧ expE q k h p m = (r : EReal) := by
  obtain ⟨r, hr⟩ := (score_real hq hk h p m).sub (max_real hq hk h p)
  exact ⟨Real.exp r, Real.exp_pos r, by unfold expE; rw [hr, Ideal.exp_coe]⟩

/-- The sum of the exponentials is a positive real. -/
theorem expSum_real {a : ℕ} {q : Arr a 2048} {k : Arr 256 2048} (hq : AllReal q) (hk : AllReal k) (h : Fin 4) (p : Fin a) :
    ∃ z : ℝ, 0 < z ∧ (∑ n : Fin 256, expE q k h p n) = (z : EReal) := by
  choose e he he' using exp_real hq hk h p
  refine ⟨∑ n, e n, Finset.sum_pos (fun n _ => he n) ⟨0, Finset.mem_univ _⟩, ?_⟩
  rw [← coe_sum]; exact Finset.sum_congr rfl fun n _ => he' n

/-- The softmax is real. -/
theorem prob_real {a : ℕ} {q : Arr a 2048} {k : Arr 256 2048} (hq : AllReal q) (hk : AllReal k) (h : Fin 4) (p : Fin a) (m : Fin 256) :
    IsReal (probE q k h p m) := by
  obtain ⟨r, _, hr⟩ := exp_real hq hk h p m
  obtain ⟨z, hz, hz'⟩ := expSum_real hq hk h p
  unfold probE
  rw [hr, hz', Ideal.div_coe hz.ne', ← EReal.coe_mul]
  exact ⟨_, rfl⟩

/-- The attention's result is real. -/
theorem attn_real {a : ℕ} {q : Arr a 2048} {k v : Arr 256 2048} (hq : AllReal q) (hk : AllReal k) (hv : AllReal v) : AllReal (attnE q k v) :=
  fun _ => IsReal.sum fun _ => (prob_real hq hk _ _ _).mul (hv _)

/-- The gradient at the softmax is real. -/
theorem dp_real {a : ℕ} {v : Arr 256 2048} {dy : Arr a 2048} (hv : AllReal v) (hd : AllReal dy) (h : Fin 4) (p : Fin a) (m : Fin 256) :
    IsReal (dpE v dy h p m) := IsReal.sum fun _ => (hd _).mul (hv _)

/-- The gradient at the scores is real. -/
theorem ds_real {a : ℕ} {q : Arr a 2048} {k v : Arr 256 2048} {dy : Arr a 2048} (hq : AllReal q) (hk : AllReal k) (hv : AllReal v) (hd : AllReal dy)
    (h : Fin 4) (p : Fin a) (m : Fin 256) : IsReal (dsE q k v dy h p m) :=
  ((prob_real hq hk h p m).mul ((dp_real hv hd h p m).sub (IsReal.sum fun n => (dp_real hv hd h p n).mul (prob_real hq hk h p n)))).mul ⟨_, scale_eq⟩

/-- The gradient at the queries is real. -/
theorem dq_real {a : ℕ} {q : Arr a 2048} {k v : Arr 256 2048} {dy : Arr a 2048} (hq : AllReal q) (hk : AllReal k) (hv : AllReal v) (hd : AllReal dy) :
    AllReal (dqE q k v dy) := fun _ => IsReal.sum fun _ => (ds_real hq hk hv hd _ _ _).mul (hk _)

/-- The gradient of the softmax, by the quotient rule. -/
theorem ds_eq {a : ℕ} {q : Arr a 2048} {k v : Arr 256 2048} {dy : Arr a 2048} (hq : AllReal q) (hk : AllReal k) (hv : AllReal v) (hd : AllReal dy)
    (h : Fin 4) (p : Fin a) (m : Fin 256) :
    (Ideal.div (dpE v dy h p m) (∑ n : Fin 256, expE q k h p n)
        + -(∑ n : Fin 256, dpE v dy h p n * Ideal.div 1 ((∑ n : Fin 256, expE q k h p n) * ∑ n : Fin 256, expE q k h p n) * expE q k h p n))
      * expE q k h p m * Ideal.ofBits .f32 0x3D3504F3#32 = dsE q k v dy h p m := by
  unfold dsE
  congr 1
  unfold probE
  choose d hd' using dp_real hv hd h p
  choose e he he' using exp_real hq hk h p
  obtain ⟨z, hz, hz'⟩ := expSum_real hq hk h p
  rw [hz', ← EReal.coe_one, ← EReal.coe_mul, Ideal.div_coe (y := z * z) (by positivity) ((1 : ℝ) : EReal), ← EReal.coe_mul]
  have h1 : (∑ n : Fin 256, dpE v dy h p n * ((1 * (1 / (z * z)) : ℝ) : EReal) * expE q k h p n)
      = (((∑ n : Fin 256, d n * e n) * (1 / (z * z)) : ℝ) : EReal) := by
    rw [Finset.sum_mul, ← coe_sum]
    exact Finset.sum_congr rfl fun n _ => by rw [hd', he', ← EReal.coe_mul, ← EReal.coe_mul]; congr 1; ring
  have h2 : (∑ n : Fin 256, dpE v dy h p n * Ideal.div (expE q k h p n) (z : EReal))
      = (((∑ n : Fin 256, d n * e n) * (1 / z) : ℝ) : EReal) := by
    rw [Finset.sum_mul, ← coe_sum]
    exact Finset.sum_congr rfl fun n _ => by rw [hd', he', Ideal.div_coe hz.ne', ← EReal.coe_mul, ← EReal.coe_mul]; congr 1; ring
  rw [h1, h2, hd' m, he' m, Ideal.div_coe hz.ne', Ideal.div_coe hz.ne']
  generalize (∑ n : Fin 256, d n * e n) = S
  simp only [← EReal.coe_mul, ← EReal.coe_sub, ← EReal.coe_add, ← EReal.coe_neg]
  congr 1
  field_simp
  ring

/-! ## The block's steps -/

/-- Every argument of the block is real. -/
structure Args.Real (A : Args) : Prop where
  z : AllReal A.z
  xs : AllReal A.xs
  mems : AllReal A.mems
  gAttn : AllReal A.gAttn
  gMem : AllReal A.gMem
  gFfn : AllReal A.gFfn
  wMix : AllReal A.wMix
  wQ : AllReal A.wQ
  wK : AllReal A.wK
  wV : AllReal A.wV
  wO : AllReal A.wO
  dRes : AllReal A.dRes
  dHid : AllReal A.dHid

namespace Args.Real

variable {A : Args} (R : A.Real)
include R

/-- The normalised memory is real. -/
theorem memN : AllReal A.memN := norm_real R.mems R.gMem
/-- The entering stream is real. -/
theorem x1 : AllReal A.x1 := add_real R.xs (mm_real R.z R.wMix)
/-- Its normalisation is real. -/
theorem h2 : AllReal A.h2 := norm_real R.x1 R.gAttn
/-- The queries are real. -/
theorem q : AllReal A.q := mm_real R.h2 R.wQ
/-- The keys are real. -/
theorem k : AllReal A.k := mm_real R.memN R.wK
/-- The values are real. -/
theorem v : AllReal A.v := mm_real R.memN R.wV
/-- The leaving stream is real. -/
theorem x2 : AllReal A.x2 := add_real R.x1 (mm_real (attn_real R.q R.k R.v) R.wO)
/-- The gradient at the leaving stream is real. -/
theorem dx2 : AllReal A.dx2 := add_real (normBwd_real R.dHid R.x2 R.gFfn) R.dRes
/-- The gradient at the attention's result is real. -/
theorem dO : AllReal A.dO := mmNT_real R.dx2 R.wO
/-- The gradient at the attention's normalised input is real. -/
theorem dh2 : AllReal A.dh2 := mmNT_real (dq_real R.q R.k R.v R.dO) R.wQ

end Args.Real

end Cert.Block

end
-- ==== Proof.XRefForward.lean ====
module

public import proofs.«01_k».proof.Proof.BlockReal
public import proofs.«01_k».proof.Proof.Gen.XattnReferenceIdeal.Read

@[expose] public section

set_option maxRecDepth 16384

noncomputable section

open Idealize.ShloMosaic Idealize.ShloMosaic.TcCoe Idealize.SL.Sem
open Cert.XattnReferenceIdeal Cert.XattnReferenceIdeal.Read Cert.Scalar Cert.Block

namespace Cert.CrossAttention

/-! # The forward values of the reference -/

variable (A : Args)

/-- The residual stream that enters the attention. -/
theorem stream1 : val_main_v7 (F := Ideal) A.z A.xs A.wMix = A.x1 := by
  funext i
  pointwise [val_main_v7, val_main_v6, val_main_v1, val_main_v0, Args.x1, addE, mmE]

/-- Its normalisation before the gain. -/
theorem hat1 : val_main_v20 (F := Ideal) A.z A.xs A.wMix = fun i => A.x1 i * rmsE A.x1 (i 0) := by
  funext i
  pointwise [val_main_v15, val_main_v14, val_main_v13, val_main_v12, val_main_v11, val_main_v10, val_main_v9, val_main_v8, val_main_v19, val_main_v20, val_main_cst, val_main_cst_0, val_main_cst_1, rmsE]
  rw [stream1]

/-- Its normalisation. -/
theorem norm1 : val_main_v22 (F := Ideal) A.z A.xs A.gAttn A.wMix = A.h2 := by
  funext i
  pointwise [val_main_v22, val_main_v21, Args.h2, normE]
  rw [hat1]

/-- The memory before the gain. -/
theorem memHat : val_main_v32 (F := Ideal) A.mems = fun i => A.mems i * rmsE A.mems (i 0) := by
  funext i
  pointwise [val_main_v32, val_main_v31, val_main_v30, val_main_v29, val_main_v28, val_main_v27, val_main_v26, val_main_v25, val_main_v24, val_main_v23, val_main_cst_3, val_main_cst_4, val_main_cst_5, rmsE]

/-- The normalised memory. -/
theorem memNorm : val_main_v34 (F := Ideal) A.mems A.gMem = A.memN := by
  funext i
  pointwise [val_main_v34, val_main_v33, Args.memN, normE]
  rw [memHat]

/-- The queries. -/
theorem queries : val_main_v35 (F := Ideal) A.z A.xs A.gAttn A.wMix A.wQ = A.q := by
  funext i
  pointwise [val_main_v35, val_main_v2, Args.q, mmE]
  rw [norm1]

/-- The keys. -/
theorem keys : val_main_v37 (F := Ideal) A.mems A.gMem A.wK = A.k := by
  funext i
  pointwise [val_main_v37, val_main_v3, Args.k, mmE]
  rw [memNorm]

/-- The values. -/
theorem vals : val_main_v39 (F := Ideal) A.mems A.gMem A.wV = A.v := by
  funext i
  pointwise [val_main_v39, val_main_v4, Args.v, mmE]
  rw [memNorm]

/-- The scores. -/
theorem scores : val_main_v43 (F := Ideal) A.z A.xs A.mems A.gAttn A.gMem A.wMix A.wQ A.wK = fun i => scoreE A.q A.k (i 0) (i 1) (i 2) := by
  funext i
  pointwise [val_main_v43, val_main_v42, val_main_cst_6, val_main_v41, val_main_v36, val_main_v38, scoreE]
  rw [queries, keys]
  rfl

end Cert.CrossAttention

end
-- ==== Proof.XRefSoftmax.lean ====
module

public import proofs.«01_k».proof.Proof.XRefForward

@[expose] public section

set_option maxRecDepth 16384

noncomputable section

open Idealize.ShloMosaic Idealize.ShloMosaic.TcCoe Idealize.SL.Sem
open Cert.XattnReferenceIdeal Cert.XattnReferenceIdeal.Read Cert.Scalar Cert.Block

namespace Cert.CrossAttention

/-! # The softmax of the reference, and the values after it -/

variable (A : Args)

/-- A row's maximum, for any array of scores. -/
theorem rowMax (x : (⟨S4x4096x256, .f32⟩ : BufTy).Contents (Elt Ideal)) (i : S4x4096.Idx) :
    Host.reduce (FloatOps.maximumf (F := Ideal) (φ := .f32)) x (val_main_cst_7 (F := Ideal)) Gen.reducesTo_S4x4096x256_S4x4096_d2 Gen.h_S_ i
      = Finset.univ.fold max (Ideal.ofBits .f32 0xFF800000#32) fun n : Fin 256 => x (ix3 (i 0) (i 1) n) := by
  pointwise [val_main_cst_7]

/-- The largest scores. -/
theorem largest : val_main_v51 (F := Ideal) A.z A.xs A.mems A.gAttn A.gMem A.wMix A.wQ A.wK = fun i => maxE A.q A.k (i 0) (i 1) := by
  funext i
  rw [val_main_v51_apply]
  unfold val_main_v44
  rw [rowMax, scores]
  show max (Ideal.ofBits .f32 0xFF800000#32) _ = _
  unfold maxE
  rw [minf_eq, max_eq_right bot_le]
  exact Finset.fold_congr fun n _ => rfl

/-- The exponentials. -/
theorem exps : val_main_v64 (F := Ideal) A.z A.xs A.mems A.gAttn A.gMem A.wMix A.wQ A.wK = fun i => expE A.q A.k (i 0) (i 1) (i 2) := by
  funext i
  pointwise [val_main_v64, val_main_v63, val_main_v62, val_main_v61, expE]
  rw [scores, largest]
  rfl

/-- Their sums. -/
theorem expSums : val_main_v66 (F := Ideal) A.z A.xs A.mems A.gAttn A.gMem A.wMix A.wQ A.wK = fun i => ∑ n : Fin 256, expE A.q A.k (i 0) (i 1) n := by
  funext i
  pointwise [val_main_v66, val_main_v65, val_main_cst_15]
  rw [exps]
  rfl

/-- The softmax. -/
theorem probs : val_main_v68 (F := Ideal) A.z A.xs A.mems A.gAttn A.gMem A.wMix A.wQ A.wK = fun i => probE A.q A.k (i 0) (i 1) (i 2) := by
  funext i
  pointwise [val_main_v68, val_main_v67, probE]
  rw [exps, expSums]
  rfl

/-- The attention's result. -/
theorem attended : val_main_v74 (F := Ideal) A.z A.xs A.mems A.gAttn A.gMem A.wMix A.wQ A.wK A.wV = A.o := by
  funext i
  pointwise [val_main_v74, val_main_v73, val_main_v72, val_main_v40, Args.o, attnE]
  rw [probs, vals]
  exact Finset.sum_congr rfl fun _ _ => mul_comm _ _

/-- The residual stream that leaves the attention. -/
theorem stream2 : val_main_v76 (F := Ideal) A.z A.xs A.mems A.gAttn A.gMem A.wMix A.wQ A.wK A.wV A.wO = A.x2 := by
  funext i
  pointwise [val_main_v76, val_main_v75, val_main_v5, Args.x2, addE, mmE]
  rw [stream1, attended]

/-- Its normalisation before the gain. -/
theorem hat2 : val_main_v89 (F := Ideal) A.z A.xs A.mems A.gAttn A.gMem A.wMix A.wQ A.wK A.wV A.wO = fun i => A.x2 i * rmsE A.x2 (i 0) := by
  funext i
  pointwise [val_main_v84, val_main_v83, val_main_v82, val_main_v81, val_main_v80, val_main_v79, val_main_v78, val_main_v77, val_main_v88, val_main_v89, val_main_cst_17, val_main_cst_18, val_main_cst_19, rmsE]
  rw [stream2]

/-- Its normalisation. -/
theorem norm2 : val_main_v179 (F := Ideal) A.z A.xs A.mems A.gAttn A.gMem A.gFfn A.wMix A.wQ A.wK A.wV A.wO = A.h3 := by
  funext i
  pointwise [val_main_v179, val_main_v91, val_main_v90, Args.h3, normE]
  rw [hat2]

end Cert.CrossAttention

end
-- ==== Proof.XRefBackward.lean ====
module

public import proofs.«01_k».proof.Proof.XRefSoftmax

@[expose] public section

set_option maxRecDepth 16384

noncomputable section

open Idealize.ShloMosaic Idealize.ShloMosaic.TcCoe Idealize.SL.Sem
open Cert.XattnReferenceIdeal Cert.XattnReferenceIdeal.Read Cert.Scalar Cert.Block

namespace Cert.CrossAttention

/-! # The gradients of the reference, for real arguments -/

variable (A : Args)

/-- The gradient at the feed-forward gain. -/
theorem gradGainFfn : val_main_v94 (F := Ideal) A.z A.xs A.mems A.gAttn A.gMem A.wMix A.wQ A.wK A.wV A.wO A.dHid = A.dgFfn := by
  funext i
  pointwise [val_main_v94, val_main_v93, val_main_v92, val_main_cst_21, Args.dgFfn, gainE]
  rw [hat2]
  exact Finset.sum_congr rfl fun _ _ => mul_comm _ _

/-- The gradient at the residual stream that leaves the attention. -/
theorem gradStream2 (R : A.Real) : val_main_v111 (F := Ideal) A.z A.xs A.mems A.gAttn A.gMem A.gFfn A.wMix A.wQ A.wK A.wV A.wO A.dRes A.dHid = A.dx2 := by
  funext i
  pointwise [val_main_v111, val_main_v110, val_main_v109, val_main_v108, val_main_v107, val_main_v106, val_main_v105, val_main_v104, val_main_v103, val_main_v102, val_main_v101, val_main_v100, val_main_v99, val_main_v98, val_main_v97, val_main_v96, val_main_v95, val_main_v87, val_main_v86, val_main_v85, val_main_v84, val_main_v83, val_main_v82, val_main_v81, val_main_v80, val_main_v79, val_main_v78, val_main_v77, val_main_cst_17, val_main_cst_18, val_main_cst_19, val_main_cst_20, val_main_cst_22, val_main_cst_23, val_main_cst_24, Args.dx2, addE]
  rw [stream2]
  exact normBwd_eq R.dHid R.x2 R.gFfn i _ _ rfl (Fin.sum_univ_one _)

/-- The same gradient where the norm takes it. -/
theorem gradStream2R (R : A.Real) : val_main_v112 (F := Ideal) A.z A.xs A.mems A.gAttn A.gMem A.gFfn A.wMix A.wQ A.wK A.wV A.wO A.dRes A.dHid = A.dx2 := by
  funext i
  pointwise [val_main_v112]
  rw [gradStream2 A R]

/-- The same gradient where the output projection takes it. -/
theorem gradStream2O (R : A.Real) : val_main_v113 (F := Ideal) A.z A.xs A.mems A.gAttn A.gMem A.gFfn A.wMix A.wQ A.wK A.wV A.wO A.dRes A.dHid = A.dx2 := by
  funext i
  pointwise [val_main_v113]
  rw [gradStream2 A R]

/-- The gradient of the output projection. -/
theorem gradWO (R : A.Real) : val_main_v184 (F := Ideal) A.z A.xs A.mems A.gAttn A.gMem A.gFfn A.wMix A.wQ A.wK A.wV A.wO A.dRes A.dHid = A.dWo := by
  funext i
  pointwise [val_main_v184, val_main_v115, val_main_v114, Args.dWo, mmTNE]
  rw [gradStream2O A R, attended]
  exact Finset.sum_congr rfl fun _ _ => mul_comm _ _

/-- The gradient at the attention's result. -/
theorem gradO (R : A.Real) : val_main_v116 (F := Ideal) A.z A.xs A.mems A.gAttn A.gMem A.gFfn A.wMix A.wQ A.wK A.wV A.wO A.dRes A.dHid = A.dO := by
  funext i
  pointwise [val_main_v116, val_main_v5, Args.dO, mmNTE]
  rw [gradStream2O A R]

/-- The gradient at the softmax. -/
theorem gradProbs (R : A.Real) : val_main_v119 (F := Ideal) A.z A.xs A.mems A.gAttn A.gMem A.gFfn A.wMix A.wQ A.wK A.wV A.wO A.dRes A.dHid = fun i => dpE A.v A.dO (i 0) (i 1) (i 2) := by
  funext i
  pointwise [val_main_v119, val_main_v118, val_main_v117, val_main_v40, dpE]
  rw [gradO A R, vals]
  rfl

/-- The gradient at the scores. -/
theorem gradScores (R : A.Real) : val_main_v135 (F := Ideal) A.z A.xs A.mems A.gAttn A.gMem A.gFfn A.wMix A.wQ A.wK A.wV A.wO A.dRes A.dHid = fun i => dsE A.q A.k A.v A.dO (i 0) (i 1) (i 2) := by
  funext i
  pointwise [val_main_v135, val_main_v134, val_main_v133, val_main_v132, val_main_v131, val_main_v130, val_main_v129, val_main_v128, val_main_v127, val_main_v126, val_main_v125, val_main_v124, val_main_v123, val_main_v122, val_main_cst_25, val_main_cst_26, val_main_cst_27, val_main_cst_16, val_main_v69, val_main_v70, val_main_v71]
  rw [gradProbs A R, exps, expSums, Fin.sum_univ_one]
  exact ds_eq R.q R.k R.v R.dO (i 0) (i 1) (i 2)

/-- The gradient at the values. -/
theorem gradVals (R : A.Real) : val_main_v140 (F := Ideal) A.z A.xs A.mems A.gAttn A.gMem A.gFfn A.wMix A.wQ A.wK A.wV A.wO A.dRes A.dHid = A.dv := by
  funext i
  pointwise [val_main_v140, val_main_v121, val_main_v120, val_main_v118, val_main_v117, Args.dv, dvE]
  rw [gradO A R, probs]
  exact Finset.sum_congr rfl fun _ _ => mul_comm _ _

/-- The gradient at the keys. -/
theorem gradKeys (R : A.Real) : val_main_v144 (F := Ideal) A.z A.xs A.mems A.gAttn A.gMem A.gFfn A.wMix A.wQ A.wK A.wV A.wO A.dRes A.dHid = A.dk := by
  funext i
  pointwise [val_main_v144, val_main_v137, val_main_v136, val_main_v36, Args.dk, dkE]
  rw [gradScores A R, queries]
  rfl

/-- The gradient at the queries. -/
theorem gradQueries (R : A.Real) : val_main_v149 (F := Ideal) A.z A.xs A.mems A.gAttn A.gMem A.gFfn A.wMix A.wQ A.wK A.wV A.wO A.dRes A.dHid = A.dq := by
  funext i
  pointwise [val_main_v149, val_main_v139, val_main_v138, val_main_v38, Args.dq, dqE]
  rw [gradScores A R, keys]
  rfl

/-- The gradient of the value projection. -/
theorem gradWV (R : A.Real) : val_main_v183 (F := Ideal) A.z A.xs A.mems A.gAttn A.gMem A.gFfn A.wMix A.wQ A.wK A.wV A.wO A.dRes A.dHid = A.dWv := by
  funext i
  pointwise [val_main_v183, val_main_v142, val_main_v141, Args.dWv, mmTNE]
  rw [gradVals A R, memNorm]
  exact Finset.sum_congr rfl fun _ _ => mul_comm _ _

/-- The gradient of the key projection. -/
theorem gradWK (R : A.Real) : val_main_v182 (F := Ideal) A.z A.xs A.mems A.gAttn A.gMem A.gFfn A.wMix A.wQ A.wK A.wV A.wO A.dRes A.dHid = A.dWk := by
  funext i
  pointwise [val_main_v182, val_main_v146, val_main_v145, Args.dWk, mmTNE]
  rw [gradKeys A R, memNorm]
  exact Finset.sum_congr rfl fun _ _ => mul_comm _ _

/-- The gradient of the query projection. -/
theorem gradWQ (R : A.Real) : val_main_v181 (F := Ideal) A.z A.xs A.mems A.gAttn A.gMem A.gFfn A.wMix A.wQ A.wK A.wV A.wO A.dRes A.dHid = A.dWq := by
  funext i
  pointwise [val_main_v181, val_main_v151, val_main_v150, Args.dWq, mmTNE]
  rw [gradQueries A R, norm1]
  exact Finset.sum_congr rfl fun _ _ => mul_comm _ _

/-- The gradient at the normalised memory. -/
theorem gradMem (R : A.Real) : val_main_v148 (F := Ideal) A.z A.xs A.mems A.gAttn A.gMem A.gFfn A.wMix A.wQ A.wK A.wV A.wO A.dRes A.dHid = A.dMemN := by
  funext i
  pointwise [val_main_v148, val_main_v147, val_main_v143, val_main_v4, val_main_v3, Args.dMemN, addE, mmNTE]
  rw [gradVals A R, gradKeys A R]
  exact add_comm _ _

/-- The gradient at the memory gain. -/
theorem gradGainMem (R : A.Real) : val_main_v155 (F := Ideal) A.z A.xs A.mems A.gAttn A.gMem A.gFfn A.wMix A.wQ A.wK A.wV A.wO A.dRes A.dHid = A.dgMem := by
  funext i
  pointwise [val_main_v155, val_main_v154, val_main_v153, val_main_cst_28, Args.dgMem, gainE]
  rw [memHat, gradMem A R]
  exact Finset.sum_congr rfl fun _ _ => mul_comm _ _

/-- The gradient at the attention's normalised input. -/
theorem gradNorm1 (R : A.Real) : val_main_v152 (F := Ideal) A.z A.xs A.mems A.gAttn A.gMem A.gFfn A.wMix A.wQ A.wK A.wV A.wO A.dRes A.dHid = A.dh2 := by
  funext i
  pointwise [val_main_v152, val_main_v2, Args.dh2, mmNTE]
  rw [gradQueries A R]

/-- The gradient at the attention gain. -/
theorem gradGainAttn (R : A.Real) : val_main_v158 (F := Ideal) A.z A.xs A.mems A.gAttn A.gMem A.gFfn A.wMix A.wQ A.wK A.wV A.wO A.dRes A.dHid = A.dgAttn := by
  funext i
  pointwise [val_main_v158, val_main_v157, val_main_v156, val_main_cst_29, Args.dgAttn, gainE]
  rw [hat1, gradNorm1 A R]
  exact Finset.sum_congr rfl fun _ _ => mul_comm _ _

/-- The gradient at the residual stream that enters the attention. -/
theorem gradStream1 (R : A.Real) : val_main_v175 (F := Ideal) A.z A.xs A.mems A.gAttn A.gMem A.gFfn A.wMix A.wQ A.wK A.wV A.wO A.dRes A.dHid = A.dx1 := by
  funext i
  pointwise [val_main_v175, val_main_v174, val_main_v173, val_main_v172, val_main_v171, val_main_v170, val_main_v169, val_main_v168, val_main_v167, val_main_v166, val_main_v165, val_main_v164, val_main_v163, val_main_v162, val_main_v161, val_main_v160, val_main_v159, val_main_v18, val_main_v17, val_main_v16, val_main_v15, val_main_v14, val_main_v13, val_main_v12, val_main_v11, val_main_v10, val_main_v9, val_main_v8, val_main_cst, val_main_cst_0, val_main_cst_1, val_main_cst_2, val_main_cst_30, val_main_cst_31, val_main_cst_32, Args.dx1, addE]
  rw [stream1, gradNorm1 A R, gradStream2R A R]
  exact normBwd_eq R.dh2 R.x1 R.gAttn i _ _ rfl (Fin.sum_univ_one _)

/-- The gradient of the mixer's output projection. -/
theorem gradWMix (R : A.Real) : val_main_v180 (F := Ideal) A.z A.xs A.mems A.gAttn A.gMem A.gFfn A.wMix A.wQ A.wK A.wV A.wO A.dRes A.dHid = A.dWmix := by
  funext i
  pointwise [val_main_v180, val_main_v177, val_main_v176, val_main_v0, Args.dWmix, mmTNE]
  rw [gradStream1 A R]
  exact Finset.sum_congr rfl fun _ _ => mul_comm _ _

/-- The gradient at the mixer's result. -/
theorem gradMixed (R : A.Real) : val_main_v178 (F := Ideal) A.z A.xs A.mems A.gAttn A.gMem A.gFfn A.wMix A.wQ A.wK A.wV A.wO A.dRes A.dHid = A.dz := by
  funext i
  pointwise [val_main_v178, val_main_v1, Args.dz, mmNTE]
  rw [gradStream1 A R]

end Cert.CrossAttention

end
-- ==== Proof.XRefResults.lean ====
module

public import proofs.«01_k».proof.Proof.XRefBackward

@[expose] public section

set_option maxRecDepth 16384

noncomputable section

open Idealize.ShloMosaic Idealize.ShloMosaic.TcCoe Idealize.SL.Sem
open Cert.XattnReferenceIdeal Cert.XattnReferenceIdeal.Read Cert.Scalar Cert.Block

namespace Cert.CrossAttention

/-! # The reference's results over the contents its arguments are launched with -/

/-- The launched contents are the block's arguments. -/
structure Launched (V : Valuation τ sig (Elt Ideal)) (A : Args) : Prop where
  z : V (Proc.devRef .tc main_arg0) = A.z
  xs : V (Proc.devRef .tc main_arg1) = A.xs
  mems : V (Proc.devRef .tc main_arg2) = A.mems
  gAttn : V (Proc.devRef .tc main_arg3) = A.gAttn
  gMem : V (Proc.devRef .tc main_arg4) = A.gMem
  gFfn : V (Proc.devRef .tc main_arg5) = A.gFfn
  wMix : V (Proc.devRef .tc main_arg6) = A.wMix
  wQ : V (Proc.devRef .tc main_arg7) = A.wQ
  wK : V (Proc.devRef .tc main_arg8) = A.wK
  wV : V (Proc.devRef .tc main_arg9) = A.wV
  wO : V (Proc.devRef .tc main_arg10) = A.wO
  dRes : V (Proc.devRef .tc main_arg11) = A.dRes
  dHid : V (Proc.devRef .tc main_arg12) = A.dHid

variable {V : Valuation τ sig (Elt Ideal)} {A : Args} (L : Launched V A) (R : A.Real)

include L in
/-- The reference's `main_v76` is the block's `x2`. -/
theorem launched_v76 : val_main_v76 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) = A.x2 :=
  (congr (congr (congr (congr (congr (congr (congr (congr (congr (congrArg (val_main_v76 (F := Ideal)) L.z) L.xs) L.mems) L.gAttn) L.gMem) L.wMix) L.wQ) L.wK) L.wV) L.wO).trans (stream2 A)

include L in
/-- The reference's `main_v179` is the block's `h3`. -/
theorem launched_v179 : val_main_v179 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) = A.h3 :=
  (congr (congr (congr (congr (congr (congr (congr (congr (congr (congr (congrArg (val_main_v179 (F := Ideal)) L.z) L.xs) L.mems) L.gAttn) L.gMem) L.gFfn) L.wMix) L.wQ) L.wK) L.wV) L.wO).trans (norm2 A)

include L R in
/-- The reference's `main_v178` is the block's `dz`. -/
theorem launched_v178 : val_main_v178 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dz :=
  (congr (congr (congr (congr (congr (congr (congr (congr (congr (congr (congr (congr (congrArg (val_main_v178 (F := Ideal)) L.z) L.xs) L.mems) L.gAttn) L.gMem) L.gFfn) L.wMix) L.wQ) L.wK) L.wV) L.wO) L.dRes) L.dHid).trans (gradMixed A R)

include L R in
/-- The reference's `main_v175` is the block's `dx1`. -/
theorem launched_v175 : val_main_v175 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dx1 :=
  (congr (congr (congr (congr (congr (congr (congr (congr (congr (congr (congr (congr (congrArg (val_main_v175 (F := Ideal)) L.z) L.xs) L.mems) L.gAttn) L.gMem) L.gFfn) L.wMix) L.wQ) L.wK) L.wV) L.wO) L.dRes) L.dHid).trans (gradStream1 A R)

include L R in
/-- The reference's `main_v158` is the block's `dgAttn`. -/
theorem launched_v158 : val_main_v158 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dgAttn :=
  (congr (congr (congr (congr (congr (congr (congr (congr (congr (congr (congr (congr (congrArg (val_main_v158 (F := Ideal)) L.z) L.xs) L.mems) L.gAttn) L.gMem) L.gFfn) L.wMix) L.wQ) L.wK) L.wV) L.wO) L.dRes) L.dHid).trans (gradGainAttn A R)

include L R in
/-- The reference's `main_v155` is the block's `dgMem`. -/
theorem launched_v155 : val_main_v155 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dgMem :=
  (congr (congr (congr (congr (congr (congr (congr (congr (congr (congr (congr (congr (congrArg (val_main_v155 (F := Ideal)) L.z) L.xs) L.mems) L.gAttn) L.gMem) L.gFfn) L.wMix) L.wQ) L.wK) L.wV) L.wO) L.dRes) L.dHid).trans (gradGainMem A R)

include L in
/-- The reference's `main_v94` is the block's `dgFfn`. -/
theorem launched_v94 : val_main_v94 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)) = A.dgFfn :=
  (congr (congr (congr (congr (congr (congr (congr (congr (congr (congr (congrArg (val_main_v94 (F := Ideal)) L.z) L.xs) L.mems) L.gAttn) L.gMem) L.wMix) L.wQ) L.wK) L.wV) L.wO) L.dHid).trans (gradGainFfn A)

include L R in
/-- The reference's `main_v180` is the block's `dWmix`. -/
theorem launched_v180 : val_main_v180 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dWmix :=
  (congr (congr (congr (congr (congr (congr (congr (congr (congr (congr (congr (congr (congrArg (val_main_v180 (F := Ideal)) L.z) L.xs) L.mems) L.gAttn) L.gMem) L.gFfn) L.wMix) L.wQ) L.wK) L.wV) L.wO) L.dRes) L.dHid).trans (gradWMix A R)

include L R in
/-- The reference's `main_v181` is the block's `dWq`. -/
theorem launched_v181 : val_main_v181 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dWq :=
  (congr (congr (congr (congr (congr (congr (congr (congr (congr (congr (congr (congr (congrArg (val_main_v181 (F := Ideal)) L.z) L.xs) L.mems) L.gAttn) L.gMem) L.gFfn) L.wMix) L.wQ) L.wK) L.wV) L.wO) L.dRes) L.dHid).trans (gradWQ A R)

include L R in
/-- The reference's `main_v182` is the block's `dWk`. -/
theorem launched_v182 : val_main_v182 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dWk :=
  (congr (congr (congr (congr (congr (congr (congr (congr (congr (congr (congr (congr (congrArg (val_main_v182 (F := Ideal)) L.z) L.xs) L.mems) L.gAttn) L.gMem) L.gFfn) L.wMix) L.wQ) L.wK) L.wV) L.wO) L.dRes) L.dHid).trans (gradWK A R)

include L R in
/-- The reference's `main_v183` is the block's `dWv`. -/
theorem launched_v183 : val_main_v183 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dWv :=
  (congr (congr (congr (congr (congr (congr (congr (congr (congr (congr (congr (congr (congrArg (val_main_v183 (F := Ideal)) L.z) L.xs) L.mems) L.gAttn) L.gMem) L.gFfn) L.wMix) L.wQ) L.wK) L.wV) L.wO) L.dRes) L.dHid).trans (gradWV A R)

include L R in
/-- The reference's `main_v184` is the block's `dWo`. -/
theorem launched_v184 : val_main_v184 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) = A.dWo :=
  (congr (congr (congr (congr (congr (congr (congr (congr (congr (congr (congr (congr (congrArg (val_main_v184 (F := Ideal)) L.z) L.xs) L.mems) L.gAttn) L.gMem) L.gFfn) L.wMix) L.wQ) L.wK) L.wV) L.wO) L.dRes) L.dHid).trans (gradWO A R)

end Cert.CrossAttention

end
-- ==== Proof.PCalls.lean ====
module

public import proofs.«01_k».proof.Proof.Gen.ProjIdeal.Frame
public import Idealize.ShloMosaic.Lib.Pipeline.ValueKit
public import proofs.«01_k».proof.Proof.BlockSpec

@[expose] public section

set_option maxRecDepth 16384

noncomputable section

open Idealize.ShloMosaic Idealize.ShloMosaic.TcCoe Idealize.SL Idealize.SL.Sem
open Idealize.ShloMosaic.Pipeline (Dat)

namespace Cert.Projection

open Cert.ProjIdeal Cert.Block

/-! # The projection into the mixer, over the extended reals -/

/-- A weight's four column slabs: slab `b`'s entry `(k, e)` is the weight's entry `(k, 768 b + e)`. -/
def slabs (w : FVec Ideal S2048x3072 .bf16) : FVec Ideal S4x2048x768 .bf16 :=
  fun i => w (ix2 (i 1) ⟨(i 0).val * 768 + (i 2).val, by
    have h0 := (i 0).isLt; have h2 := (i 2).isLt; change _ < 4 at h0; change _ < 768 at h2; omega⟩)

/-- A product with a weight kept as four column slabs. -/
def slabMm (h : Arr 4096 2048) (w : FVec Ideal S4x2048x768 .bf16) : Arr 4096 3072 :=
  fun i => ∑ k : Fin 2048, h (ix2 (i 0) k) * w (ix3 ⟨(i 1).val / 768, by have := (i 1).isLt; change _ < 3072 at this; omega⟩ k
    ⟨(i 1).val % 768, Nat.mod_lt _ (by decide)⟩)

/-- The weight's gradient, as four column slabs. -/
def slabGrad (h : Arr 4096 2048) (g : Arr 4096 3072) : FVec Ideal S4x2048x768 .bf16 :=
  fun i => ∑ s : Fin 4096, h (ix2 s (i 1)) * g (ix2 s ⟨(i 0).val * 768 + (i 2).val, by
    have h0 := (i 0).isLt; have h2 := (i 2).isLt; change _ < 4 at h0; change _ < 768 at h2; omega⟩)

/-- The product through the slabs is the plain product. -/
theorem slabMm_slabs (h : Arr 4096 2048) (w : FVec Ideal S2048x3072 .bf16) : slabMm h (slabs w) = mmE h w := by
  funext i
  refine Finset.sum_congr rfl fun k _ => congrArg (h (ix2 (i 0) k) * ·) ?_
  have hi : (i 1).val < 3072 := (i 1).isLt
  show w (ix2 k ⟨(i 1).val / 768 * 768 + (i 1).val % 768, _⟩) = w (ix2 k (i 1))
  congr 2
  exact Fin.ext (by show (i 1).val / 768 * 768 + (i 1).val % 768 = (i 1).val; omega)

end Cert.Projection

namespace Cert.ProjIdeal.Value

open Cert.ProjIdeal Cert.ProjIdeal.Gen Cert.Block Cert.Projection

section Calls

variable (V : (c : Dev nD) → (b : Ref sig .tc) → Buf (Elt Ideal) ((c : Thread nD τ).loc b))

/-! # What the calls leave in their result arrays

Every statement is over arbitrary contents `V` of the arrays the call finds. -/

/-- The blocks of call 0, point by point. -/
theorem idx0 : ∀ t : Fin cfg0.N, win0_0.index t = ![t.val, 0] ∧ win0_1.index t = ![0, 0] ∧ win0_2.index t = ![t.val, 0] :=
  (by decide +kernel : ∀ t : Fin grid0.N, _)

/-- The blocks of call 1, point by point. -/
theorem idx1 : ∀ t : Fin cfg1.N, win1_0.index t = ![t.val / 4, 0] ∧ win1_1.index t = ![t.val % 4, 0, 0] ∧ win1_2.index t = ![t.val / 4, t.val % 4] :=
  (by decide +kernel : ∀ t : Fin grid1.N, _)

/-- The blocks of call 2, point by point. -/
theorem idx2 : ∀ t : Fin cfg2.N, win2_0.index t = ![0, t.val / 4] ∧ win2_1.index t = ![0, t.val % 4] ∧ win2_2.index t = ![t.val % 4, t.val / 4, 0] :=
  (by decide +kernel : ∀ t : Fin grid2.N, _)

/-- The normalised rows. -/
theorem final0_2 (c : Dev nD) : (dat0 V c).arrAt 2 cfg0.N = normE (V c main_arg0) (V c main_arg1) := by
  refine (dat0 V c).arrAt_eq_of_covers 2 _ (by decide +kernel) fun t _ y => ?_
  blk_simp
  rw [after0_2]; frame_out
  pointwise [k0_pay1, normE, rmsE]
  blk_point [iblk0, idx0 t]

/-- The projection. -/
theorem final1_2 (c : Dev nD) : (dat1 V c).arrAt 2 cfg1.N = slabMm (V c main_v0) (V c main_v2) := by
  refine (dat1 V c).arrAt_eq_of_covers 2 _ (by decide +kernel) fun t _ y => ?_
  blk_simp
  rw [after1_2]; frame_out
  pointwise [k1_pay1, slabMm]
  blk_point [iblk1, idx1 t]

/-- The weight's gradient. -/
theorem final2_2 (c : Dev nD) : (dat2 V c).arrAt 2 cfg2.N = slabGrad (V c main_v0) (V c main_arg3) := by
  refine (dat2 V c).arrAt_eq_of_covers 2 _ (by decide +kernel) fun t _ y => ?_
  blk_simp
  rw [after2_2]; frame_out
  pointwise [k2_pay1, slabGrad]
  blk_point [iblk2, idx2 t]

end Calls

/-! # What the program's results hold, over its arguments -/

variable (m : (ℓ : Loc nD τ sig) → Buf (Elt Ideal) ℓ) (ρ : Dev nD → PrngReg)

/-- The normalised rows of the launched arguments. -/
abbrev hidden (c : Dev nD) : Arr 4096 2048 := normE (m ((c : Thread nD τ).loc main_arg0)) (m ((c : Thread nD τ).loc main_arg1))

/-- The first call leaves the normalised rows. -/
theorem W1_v0 (c : Dev nD) : W1 m ρ c (Proc.devRef .tc main_v0) = hidden m c :=
  (W1_arr m ρ c 2).trans (final0_2 (V0 m ρ) c)

/-- They are still there when the second call starts. -/
theorem W2_v0 (c : Dev nD) : W2 m ρ c (Proc.devRef .tc main_v0) = hidden m c :=
  (W2_of m ρ c main_v0 (by decide +kernel)).trans (W1_v0 m ρ c)

/-- They are still there when the third call starts. -/
theorem W3_v0 (c : Dev nD) : W3 m ρ c (Proc.devRef .tc main_v0) = hidden m c :=
  (W3_of m ρ c main_v0 (by decide +kernel)).trans (W2_v0 m ρ c)

/-- The weight's slabs, as the host lays them out. -/
theorem W2_v2 (c : Dev nD) : W2 m ρ c (Proc.devRef .tc main_v2) = slabs (m ((c : Thread nD τ).loc main_arg2)) := by
  rw [← W1_args m ρ c main_arg2 (by decide)]
  show StableHlo.after hostOps1 (W1 m ρ c) (Proc.devRef .tc main_v2) = _
  entry_read
  funext i
  pointwise [slabs]
  blk_ext []

/-- The projection, at the end. -/
theorem W4_v3 (c : Dev nD) : W4 m ρ c (Proc.devRef .tc main_v3) = mmE (hidden m c) (m ((c : Thread nD τ).loc main_arg2)) := by
  refine (W4_of m ρ c main_v3 (by decide +kernel)).trans ?_
  rw [← slabMm_slabs, ← W2_v2 m ρ c, ← W2_v0 m ρ c]
  exact (W3_arr m ρ c 2).trans (final1_2 (V2 m ρ) c)

/-- The weight's gradient, at the end. -/
theorem W4_v4 (c : Dev nD) : W4 m ρ c (Proc.devRef .tc main_v4) = slabGrad (hidden m c) (m ((c : Thread nD τ).loc main_arg3)) := by
  rw [← W3_v0 m ρ c, ← W3_args m ρ c main_arg3 (by decide)]
  exact (W4_arr m ρ c 2).trans (final2_2 (V3 m ρ) c)

end Cert.ProjIdeal.Value

end
-- ==== Proof.PRun.lean ====
module

public import proofs.«01_k».proof.Proof.Gen.ProjIdeal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.ShloMosaic.Rounds
open Idealize.SL.BI.BIBase Idealize.SL.BI.Laws Idealize.SL.ProofMode Idealize.SL.Sem

namespace Cert.ProjIdeal.Value

open Cert.ProjIdeal Cert.ProjIdeal.Gen

variable {F : FTy → Type} [FloatOps F]

/-- The resources the run is proved over. -/
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each of the launch's arrays holding what the last segment's state says, and with
    every semaphore counter at zero. -/
theorem run_state : θ_run defs (onTc (τ := τ) (main (F := F))) ⟨m, fun _ => 0, ρ⟩
    (fun r => (∀ c : Dev nD, ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      have held : (unscopedBufs c (fun b => m ((c : Thread nD τ).loc b)) : sProp 𝕄)
          = StableHlo.held (c : Thread nD τ) (Pipeline.ucRefs τ sig) (W0 m ρ c) := Pipeline.unscopedBufs_held c (W0 m ρ c)
      rw [held]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.ProjIdeal.Value

end
-- ==== Proof.PRef.lean ====
module

public import proofs.«01_k».proof.Proof.PCalls
public import proofs.«01_k».proof.Proof.Gen.ProjReferenceIdeal.Run
public import proofs.«01_k».proof.Proof.Gen.ProjReferenceIdeal.Read

@[expose] public section

set_option maxRecDepth 16384

noncomputable section

open Idealize.ShloMosaic Idealize.ShloMosaic.TcCoe Idealize.SL.Sem
open Cert.ProjReferenceIdeal Cert.ProjReferenceIdeal.Read Cert.Block

namespace Cert.Projection

/-! # The reference's values are the kernel's -/

variable (x : Arr 4096 2048) (g : Arr 1 2048) (w : Arr 2048 3072) (d : Arr 4096 3072)

/-- The reference's normalised rows. -/
theorem norm_eq : val_main_v12 (F := Ideal) x g = normE x g := by
  funext i
  pointwise [val_main_v12, val_main_v11, val_main_v10, val_main_v9, val_main_v8, val_main_v7, val_main_v6, val_main_v5, val_main_v4, val_main_v3, val_main_v2, val_main_v1, val_main_cst, val_main_cst_0, val_main_cst_1, normE, rmsE]

/-- The reference's projection. -/
theorem proj_eq : val_main_v13 (F := Ideal) x g w = mmE (normE x g) w := by
  funext i
  pointwise [val_main_v13, val_main_v0, mmE]
  rw [norm_eq]

/-- The reference's gradient of the weight. -/
theorem grad_eq : val_main_v19 (F := Ideal) x g d = slabGrad (normE x g) d := by
  funext i
  have h0 : (i 0).val < 4 := (i 0).isLt
  have h1 : (i 1).val < 2048 := (i 1).isLt
  have h2 : (i 2).val < 768 := (i 2).isLt
  rw [val_main_v19_apply, val_main_v18_apply, val_main_v17_apply, val_main_v16_apply, val_main_v15_apply]
  refine Finset.sum_congr rfl fun k _ => ?_
  rw [val_main_v14_apply, norm_eq]
  refine (EReal.mul_comm _ _).trans ?_
  show normE x g _ * d _ = normE x g _ * d _
  congr 2 <;> (funext a; match a with | ⟨0, _⟩ => exact Fin.ext (by simp; try omega) | ⟨1, _⟩ => exact Fin.ext (by simp; try omega))

end Cert.Projection

end
-- ==== Proof.LSpec.lean ====
module

public import proofs.«01_k».proof.Proof.BlockReal

@[expose] public section

set_option maxRecDepth 16384

noncomputable section

open Idealize.ShloMosaic Cert.Scalar Cert.Block

namespace Cert.FinalLoss

/-! # The final normalisation, the loss, and its gradients, over the extended reals -/

variable (x t : Arr 4096 2048) (g : Arr 1 2048)

/-- The difference of the normalised rows and the target. -/
def diffE : Arr 4096 2048 := fun i => normE x g i - t i

/-- The gradient of the loss at the normalised rows. -/
def dyE : Arr 4096 2048 := fun i => Ideal.div (diffE x t g i) (Ideal.ofBits .f32 0x45000000#32)

/-- A row's mean squared difference. -/
def rowE (p : Fin 4096) : EReal := Ideal.div (∑ k : Fin 2048, diffE x t g (ix2 p k) * diffE x t g (ix2 p k)) (Ideal.ofBits .f32 0x45000000#32)

/-- The loss, summed half a row group at a time. -/
def lossE : Arr 1 1 := fun _ => ∑ s : Fin 16, Ideal.ofBits .f32 0x3F000000#32 * ∑ k : Fin 256, rowE x t g ⟨s.val * 256 + k.val, by omega⟩

/-! ## A non-negative real factor goes into every sum -/

/-- A non-negative real times a sum is the sum of the products. -/
theorem mul_add' {r : ℝ} (hr : 0 ≤ r) (y z : EReal) : (r : EReal) * (y + z) = (r : EReal) * y + (r : EReal) * z :=
  EReal.left_distrib_of_nonneg_of_ne_top (by exact_mod_cast hr) (EReal.coe_ne_top r) y z

/-- The same over a finite sum. -/
theorem mul_sum' {n : ℕ} {r : ℝ} (hr : 0 ≤ r) (f : Fin n → EReal) : (r : EReal) * (∑ k, f k) = ∑ k, (r : EReal) * f k := by
  refine Finset.induction_on (Finset.univ : Finset (Fin n)) (by simp) fun k s hk ih => ?_
  rw [Finset.sum_insert hk, Finset.sum_insert hk, mul_add' hr, ih]

/-- Twice a real multiple. -/
theorem coe_mul_twice (a : ℝ) (S : EReal) : (a : EReal) * S + (a : EReal) * S = ((2 * a : ℝ) : EReal) * S := by
  have two : ((2 : ℝ) : EReal) * ((a : EReal) * S) = (a : EReal) * S + (a : EReal) * S := by
    have e : ((2 : ℝ) : EReal) = 1 + 1 := by rw [← EReal.coe_one, ← EReal.coe_add]; congr 1; norm_num
    rw [e, EReal.right_distrib_of_nonneg zero_le_one zero_le_one, one_mul]
  rw [← two, EReal.coe_mul, mul_assoc]

/-- The f32 pattern of two. -/
theorem two_eq : Ideal.ofBits FTy.f32 0x40000000#32 = ((2 : ℝ) : EReal) := by
  simp [Ideal.ofBits, Ideal.ieee, -EReal.coe_mul]; norm_num

/-- The group sums make half the sum over all rows. -/
theorem loss_eq (i : (Sh 1 1).Idx) : lossE x t g i = Ideal.ofBits .f32 0x3F000000#32 * ∑ p : Fin 4096, rowE x t g p := by
  unfold lossE
  rw [half_eq, ← mul_sum' (by norm_num)]
  congr 1
  exact Fin.sum_mul_add_congr fun _ _ _ => rfl

/-- Twice a difference times one half over the width is the difference over the width. -/
theorem dy_eq (i : (Sh 4096 2048).Idx) :
    Ideal.div (Ideal.ofBits .f32 0x3F000000#32 * Ideal.ofBits .f32 0x3F800000#32) (Ideal.ofBits .f32 0x45000000#32)
      * (Ideal.ofBits .f32 0x40000000#32 * diffE x t g i) = dyE x t g i := by
  unfold dyE
  rw [half_eq, Ideal.ofBits_one_f32, mul_one, two_eq, width_eq, Ideal.div_coe (by norm_num), Ideal.div_coe (by norm_num),
    ← mul_assoc, ← EReal.coe_mul, ← EReal.coe_mul, mul_comm (diffE x t g i)]
  congr 2; norm_num

/-! ## The gradient of the normalisation on every input -/

/-- A row with an infinite entry has an infinite mean square. -/
theorem square_top {f : Fin 2048 → EReal} {k : Fin 2048} (hk : ¬ IsReal (f k)) : (∑ k, f k * f k) = ⊤ := by
  have nn : ∀ y : EReal, 0 ≤ y * y := fun y => by
    rcases le_total 0 y with h | h
    · exact mul_nonneg h h
    · rw [← neg_mul_neg]; exact mul_nonneg (EReal.neg_nonneg.mpr h) (EReal.neg_nonneg.mpr h)
  refine top_le_iff.mp (le_trans ?_ (Finset.single_le_sum (fun j _ => nn (f j)) (Finset.mem_univ k)))
  generalize f k = y at hk
  induction y using EReal.rec with
  | bot => simp
  | coe r => exact absurd ⟨r, rfl⟩ hk
  | top => simp

/-- A row of real entries has a positive real mean square plus the constant, and the factor is its reciprocal root. -/
theorem rms_row {a : ℕ} {x : Arr a 2048} (p : Fin a) (hx : ∀ k, IsReal (x (ix2 p k))) : ∃ u r : ℝ, 0 < u ∧ 0 ≤ r ∧ r * r * u = 1 ∧
    Ideal.div (∑ k : Fin 2048, x (ix2 p k) * x (ix2 p k)) (Ideal.ofBits .f32 0x45000000#32) + Ideal.ofBits .f32 0x358637BD#32 = (u : EReal)
      ∧ Ideal.rsqrt (u : EReal) = (r : EReal) ∧ rmsE x p = (r : EReal) := by
  obtain ⟨u, r, hu, hr, hU, hR⟩ := rms_real (x := fun i : (Sh 1 2048).Idx => x (ix2 p (i 1))) (fun i => hx _) 0
  have hU' : Ideal.div (∑ k : Fin 2048, x (ix2 p k) * x (ix2 p k)) (Ideal.ofBits .f32 0x45000000#32) + Ideal.ofBits .f32 0x358637BD#32 = (u : EReal) := hU
  have hR' : rmsE x p = (r : EReal) := hR
  have hs : Ideal.rsqrt (u : EReal) = (r : EReal) := by rw [← hU']; exact hR'
  refine ⟨u, r, hu, ?_, hr, hU', hs, hR'⟩
  have h : (((Real.sqrt u)⁻¹ : ℝ) : EReal) = (r : EReal) := by
    rw [← hs, Ideal.rsqrt_coe, if_neg (not_lt.mpr hu.le), if_neg hu.ne']
  rw [← EReal.coe_eq_coe_iff.mp h]; positivity

/-- The gradient of the normalisation, by the product rule: through the factor's own derivative, minus one half of it
    over the mean square, and twice the row. It is the factored form on every input: on a row of real entries the
    factor is a positive real, which goes into every sum, and elsewhere it is zero. -/
theorem normBwd_row {a : ℕ} (dh x : Arr a 2048) (g : Arr 1 2048) (p : Fin a) (q : Fin 2048) (u t : EReal)
    (hu : u = Ideal.div (∑ k : Fin 2048, x (ix2 p k) * x (ix2 p k)) (Ideal.ofBits .f32 0x45000000#32) + Ideal.ofBits .f32 0x358637BD#32)
    (ht : t = Ideal.div ((∑ k : Fin 2048, x (ix2 p k) * (dh (ix2 p k) * g (ix2 0 k)))
      * (Ideal.ofBits .f32 0xBF000000#32 * Ideal.div (Ideal.rsqrt u) u)) (Ideal.ofBits .f32 0x45000000#32)) :
    dh (ix2 p q) * g (ix2 0 q) * Ideal.rsqrt u + x (ix2 p q) * t + t * x (ix2 p q)
      = rmsE x p * (dh (ix2 p q) * g (ix2 0 q) - x (ix2 p q) * rmsE x p
        * Ideal.div (∑ k : Fin 2048, dh (ix2 p k) * g (ix2 0 k) * (x (ix2 p k) * rmsE x p)) (Ideal.ofBits .f32 0x45000000#32)) := by
  by_cases hx : ∀ k, IsReal (x (ix2 p k))
  · obtain ⟨v, r, hv, hr0, hrv, hV, hs, hR⟩ := rms_row p hx
    replace hu := hu.trans hV
    choose f hf using hx
    have hT : (∑ k : Fin 2048, dh (ix2 p k) * g (ix2 0 k) * (x (ix2 p k) * rmsE x p))
        = (r : EReal) * ∑ k : Fin 2048, x (ix2 p k) * (dh (ix2 p k) * g (ix2 0 k)) := by
      rw [mul_sum' hr0]
      exact Finset.sum_congr rfl fun k _ => by rw [hR, mul_comm, mul_comm (x _), mul_assoc]
    rw [ht, hu, hs, mhalf_eq, width_eq, Ideal.div_coe hv.ne', ← EReal.coe_mul, ← EReal.coe_mul, Ideal.div_coe (by norm_num)]
    rw [hT, Ideal.div_coe (by norm_num), hR, hf q]
    generalize (∑ k : Fin 2048, x (ix2 p k) * (dh (ix2 p k) * g (ix2 0 k))) = S
    generalize dh (ix2 p q) * g (ix2 0 q) = D
    have e : 1 / v = r * r := by rw [← hrv]; field_simp
    rw [e, sub_eq_add_neg, mul_add' hr0, mul_comm D, add_assoc]
    congr 1
    have h1 : (f q : EReal) * (S * ((-1 / 2 * (r * (r * r)) : ℝ) : EReal) * ((1 / 2048 : ℝ) : EReal))
        = ((f q * (-1 / 2 * (r * (r * r))) * (1 / 2048) : ℝ) : EReal) * S := by
      rw [mul_assoc S, ← EReal.coe_mul, mul_comm S, ← mul_assoc, ← EReal.coe_mul]; congr 2; ring
    have h2 : (r : EReal) * -((f q : EReal) * (r : EReal) * ((r : EReal) * S * ((1 / 2048 : ℝ) : EReal)))
        = ((-(r * (f q * r * (r * (1 / 2048)))) : ℝ) : EReal) * S := by
      rw [mul_comm ((r : EReal) * S), ← mul_assoc, ← EReal.coe_mul, ← EReal.neg_mul, ← EReal.coe_mul, ← EReal.coe_neg,
        ← mul_assoc, ← EReal.coe_mul, ← mul_assoc, ← EReal.coe_mul]
      congr 2; ring
    rw [mul_comm (S * _ * _) (f q : EReal), h1, coe_mul_twice, h2]
    congr 2; ring
  · obtain ⟨k, hk⟩ := not_forall.mp hx
    have hS := square_top (f := fun k => x (ix2 p k)) hk
    have hU : Ideal.div (∑ k : Fin 2048, x (ix2 p k) * x (ix2 p k)) (Ideal.ofBits .f32 0x45000000#32) + Ideal.ofBits .f32 0x358637BD#32 = ⊤ := by
      rw [hS, width_eq, eps_eq, Ideal.div_coe (by norm_num), EReal.top_mul_coe_of_pos (by norm_num), EReal.top_add_coe]
    have hR : rmsE x p = 0 := by unfold rmsE; rw [hU, Ideal.rsqrt_top]
    have hz : Ideal.div (0 : EReal) ⊤ = 0 := by rw [Ideal.div, if_neg (by simp), zero_mul]
    replace hu := hu.trans hU
    rw [hu, Ideal.rsqrt_top, hz, mul_zero, mul_zero, width_eq, Ideal.div_coe (by norm_num), zero_mul] at ht
    rw [ht, hu, Ideal.rsqrt_top, mul_zero, mul_zero, zero_mul, add_zero, add_zero]
    rw [hR, zero_mul]

/-- The same at an entry of the array. -/
theorem normBwd_any {a : ℕ} (dh x : Arr a 2048) (g : Arr 1 2048) (i : (Sh a 2048).Idx) (u t : EReal)
    (hu : u = Ideal.div (∑ k : Fin 2048, x (ix2 (i 0) k) * x (ix2 (i 0) k)) (Ideal.ofBits .f32 0x45000000#32) + Ideal.ofBits .f32 0x358637BD#32)
    (ht : t = Ideal.div ((∑ k : Fin 2048, x (ix2 (i 0) k) * (dh (ix2 (i 0) k) * g (ix2 0 k)))
      * (Ideal.ofBits .f32 0xBF000000#32 * Ideal.div (Ideal.rsqrt u) u)) (Ideal.ofBits .f32 0x45000000#32)) :
    dh i * g (ix2 0 (i 1)) * Ideal.rsqrt u + x i * t + t * x i = normBwdE dh x g i := by
  have h := normBwd_row dh x g (i 0) (i 1) u t hu ht
  have e : (ix2 (i 0) (i 1) : (Sh a 2048).Idx) = i := funext fun | ⟨0, _⟩ => rfl | ⟨1, _⟩ => rfl
  rw [e] at h
  exact h

end Cert.FinalLoss

end
-- ==== Proof.LCalls.lean ====
module

public import proofs.«01_k».proof.Proof.Gen.LossIdeal.Frame
public import Idealize.ShloMosaic.Lib.Pipeline.ValueKit
public import proofs.«01_k».proof.Proof.LSpec

@[expose] public section

set_option maxRecDepth 16384

noncomputable section

open Idealize.ShloMosaic Idealize.ShloMosaic.TcCoe Idealize.SL Idealize.SL.Sem
open Idealize.ShloMosaic.Pipeline (Dat)

namespace Cert.LossIdeal.Value

open Cert.LossIdeal Cert.LossIdeal.Gen Cert.Block Cert.FinalLoss

variable (m : (ℓ : Loc nD τ sig) → Buf (Elt Ideal) ℓ)

/-! # What the loss call leaves in its result arrays -/

/-- The blocks of the call, point by point. -/
theorem idx0 : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

/-- The gradient at the residual stream. -/
theorem final_3 (c : Dev nD) : (dats m 0 c).arrAt 3 cfg0.N
    = normBwdE (dyE (V m c main_arg0) (V m c main_arg1) (V m c main_arg2)) (V m c main_arg0) (V m c main_arg2) := by
  refine (dats m 0 c).arrAt_eq_of_covers 3 _ (by decide +kernel) fun t _ y => ?_
  blk_simp
  rw [after0_3]
  by_cases h : t.val % 16 = 0
  · rw [outsAt0_A m c t h]; frame_out
    pointwise [k0_pay7, k0_pay6, k0_pay5, k0_pay4, k0_pay3, normBwdE, dyE, diffE, normE, rmsE]
    blk_point [iblk, idx0 t]
  · rw [outsAt0_B m c t h]; frame_out
    pointwise [k0_pay7, k0_pay6, k0_pay5, k0_pay4, k0_pay3, normBwdE, dyE, diffE, normE, rmsE]
    blk_point [iblk, idx0 t]

/-- The same, as the products read it. -/
theorem final_4 (c : Dev nD) : (dats m 0 c).arrAt 4 cfg0.N
    = normBwdE (dyE (V m c main_arg0) (V m c main_arg1) (V m c main_arg2)) (V m c main_arg0) (V m c main_arg2) := by
  refine (dats m 0 c).arrAt_eq_of_covers 4 _ (by decide +kernel) fun t _ y => ?_
  blk_simp
  rw [after0_4]
  by_cases h : t.val % 16 = 0
  · rw [outsAt0_A m c t h]; frame_out
    pointwise [k0_pay8, k0_pay7, k0_pay6, k0_pay5, k0_pay4, k0_pay3, normBwdE, dyE, diffE, normE, rmsE]
    blk_point [iblk, idx0 t]
  · rw [outsAt0_B m c t h]; frame_out
    pointwise [k0_pay8, k0_pay7, k0_pay6, k0_pay5, k0_pay4, k0_pay3, normBwdE, dyE, diffE, normE, rmsE]
    blk_point [iblk, idx0 t]

/-- A row group's part of the loss. -/
def part (d : FVec Ideal S256x2048 .f32) : EReal :=
  Ideal.ofBits .f32 0x3F000000#32 * ∑ k : Fin 256, Ideal.div (∑ j : Fin 2048, d (ix2 k j) * d (ix2 k j)) (Ideal.ofBits .f32 0x45000000#32)

/-- A row group's part of the gain's gradient. -/
def gpart (h d : FVec Ideal S256x2048 .f32) (j : S1x2048.Idx) : EReal := ∑ k : Fin 256, d (ix2 k (j 1)) * h (ix2 k (j 1))

/-- The loss starts at zero. -/
theorem zeroL (j) : k0_pay9 (F := Ideal) j = 0 := by pointwise [k0_pay9]

/-- The gain's gradient starts at zero. -/
theorem zeroG (j) : k0_pay10 (F := Ideal) j = 0 := by pointwise [k0_pay10]

/-- One step of the loss. -/
theorem stepL (d acc j) : k0_pay1 (F := Ideal) d acc j = acc j + part d := by
  pointwise [k0_pay1, part]
  congr 2
  exact Finset.sum_congr rfl fun k _ => Fin.sum_univ_one _

/-- One step of the gain's gradient. -/
theorem stepG (h d acc j) : k0_pay2 (F := Ideal) h d acc j = acc j + gpart h d j := by pointwise [k0_pay2, gpart]

/-- The loss. -/
theorem final_5 (c : Dev nD) : (dats m 0 c).arrAt 5 cfg0.N = lossE (V m c main_arg0) (V m c main_arg1) (V m c main_arg2) := by
  refine (dats m 0 c).arrAt_eq_of_covers 5 _ (by decide +kernel) fun t hf y => ?_
  blk_simp
  rw [after0_5, Pipeline.eq_sum_fin_of_reset_step_apply_of_flush (fun n h => (outsAt0 m c n h).2.2.1) 16 (fun _ => 0) _
    (fun t h j => by rw [outsAt0_A m c t h]; frame_out; rw [stepL, zeroL])
    (fun t h j => by rw [outsAt0_B m c t h]; frame_out; rw [stepL])
    t ((flush0_5 t).mp hf) _, zero_add]
  pointwise [part, k0_pay5, k0_pay4, k0_pay3, lossE, rowE, diffE, normE, rmsE]
  refine @Finset.sum_congr (Fin 16) EReal _ _ _ _ _ rfl fun s _ => congrArg (Ideal.ofBits .f32 0x3F000000#32 * ·) (Finset.sum_congr rfl fun k _ => ?_)
  blk_point [iblk, idx0 t, idx0 ⟨_, Pipeline.run_point_lt_of_flush t ((flush0_5 t).mp hf) s⟩]

/-- The gradient of the gain. -/
theorem final_6 (c : Dev nD) : (dats m 0 c).arrAt 6 cfg0.N
    = gainE (dyE (V m c main_arg0) (V m c main_arg1) (V m c main_arg2)) (V m c main_arg0) := by
  refine (dats m 0 c).arrAt_eq_of_covers 6 _ (by decide +kernel) fun t hf y => ?_
  blk_simp
  rw [after0_6, Pipeline.eq_sum_fin_of_reset_step_apply_of_flush (fun n h => (outsAt0 m c n h).2.2.2) 16 (fun _ => 0) _
    (fun t h j => by rw [outsAt0_A m c t h]; frame_out; rw [stepG, zeroG])
    (fun t h j => by rw [outsAt0_B m c t h]; frame_out; rw [stepG])
    t ((flush0_6 t).mp hf) _, zero_add]
  pointwise [gpart, k0_pay6, k0_pay5, k0_pay4, k0_pay3, gainE, dyE, diffE, normE, rmsE]
  refine Fin.sum_mul_add_congr fun s k hl => ?_
  blk_point [iblk, idx0 t, idx0 ⟨_, Pipeline.run_point_lt_of_flush t ((flush0_6 t).mp hf) s⟩]

end Cert.LossIdeal.Value

end
-- ==== Proof.DCalls.lean ====
module

public import proofs.«01_k».proof.Proof.Gen.DhIdeal.Frame
public import Idealize.ShloMosaic.Lib.Pipeline.ValueKit
public import Idealize.ShloMosaic.Lib.Pipeline.ReadBack
public import proofs.«01_k».proof.Proof.PCalls

@[expose] public section

set_option maxRecDepth 16384

noncomputable section

open Idealize.ShloMosaic Idealize.ShloMosaic.TcCoe Idealize.SL Idealize.SL.Sem
open Idealize.ShloMosaic.Pipeline (Dat)

namespace Cert.DhIdeal.Value

open Cert.DhIdeal Cert.DhIdeal.Gen Cert.Block Cert.Projection

variable (m : (ℓ : Loc nD τ sig) → Buf (Elt Ideal) ℓ)

/-! # What the call for the mixer's input gradient leaves in its result arrays -/

/-- The blocks of the call, point by point: row group `t / 4`, column slab `t % 4`. -/
theorem idx0 : ∀ t : Fin cfg0.N, win0_0.index t = ![t.val / 4, t.val % 4] ∧ win0_1.index t = ![t.val % 4, 0, 0] ∧ win0_2.index t = ![t.val / 4, 0] ∧ win0_3.index t = ![0, 0] ∧ win0_4.index t = ![t.val / 4, 0] ∧ win0_5.index t = ![t.val / 4, 0] ∧ win0_6.index t = ![0, 0] :=
  (by decide +kernel : ∀ t : Fin grid0.N, _)

/-- The weight's slabs, as the host lays them out. -/
theorem V_slabs (c : Dev nD) : V m c main_v1 = slabs (m ((c : Thread nD τ).loc main_arg1)) := by
  show StableHlo.after hostOps0 (StableHlo.launchContents m c) (Proc.devRef .tc main_v1) = _
  entry_read
  funext i
  pointwise [slabs]
  blk_ext []

/-- One slab's part of a row group's product with the transposed weight. -/
def part (x : FVec Ideal S512x768 .bf16) (w : FVec Ideal S1x2048x768 .bf16) (j : S512x2048.Idx) : EReal :=
  ∑ e : Fin 768, x (ix2 (j 0) e) * w (ix3 0 (j 1) e)

/-- The product starts at zero. -/
theorem zeroA (j) : k0_pay1 (F := Ideal) j = 0 := by pointwise [k0_pay1]

/-- One step of the product. -/
theorem stepA (x w acc j) : k0_pay2 (F := Ideal) x w acc j = acc j + part x w j := by pointwise [k0_pay2, part]

/-- The first step of a row group. -/
theorem first (c : Dev nD) (t : Fin cfg0.N) (h : t.val % 4 = 0) (j : S512x2048.Idx) :
    (outsAt0 m c t.val t.isLt).2.2 j = 0 + part (iblk m c 0 t) (iblk m c 1 t) j := by
  rw [outsAt0_A m c t h (by omega)]; frame_out; rw [stepA, zeroA]

/-- Every other step of a row group. -/
theorem next (c : Dev nD) (t : Fin cfg0.N) (h : ¬t.val % 4 = 0) (j : S512x2048.Idx) :
    (outsAt0 m c t.val t.isLt).2.2 j
      = (outsAt0 m c (t.val - 1) (Nat.lt_of_le_of_lt (Nat.sub_le _ _) t.isLt)).2.2 j + part (iblk m c 0 t) (iblk m c 1 t) j := by
  by_cases h3 : t.val % 4 = 3
  · by_cases h4 : t.val < 4
    · rw [outsAt0_C m c t h h3 h4]; frame_out; rw [stepA, read_unread_whole]
    · rw [outsAt0_D m c t h h3 h4]; frame_out; rw [stepA, read_unread_whole]
  · rw [outsAt0_B m c t h h3]; frame_out; rw [stepA, read_unread_whole]

/-- A product with the transpose of a weight kept as four column slabs. -/
def slabNT (x : Arr 4096 3072) (w : FVec Ideal S4x2048x768 .bf16) : Arr 4096 2048 := fun i =>
  ∑ k : Fin 3072, x (ix2 (i 0) k) * w (ix3 ⟨k.val / 768, by omega⟩ (i 1) ⟨k.val % 768, Nat.mod_lt _ (by decide)⟩)

/-- The product through the slabs is the plain product with the transpose. -/
theorem slabNT_slabs (x : Arr 4096 3072) (w : FVec Ideal S2048x3072 .bf16) : slabNT x (slabs w) = mmNTE x w := by
  funext i
  refine Finset.sum_congr rfl fun k _ => congrArg (x (ix2 (i 0) k) * ·) ?_
  show w (ix2 (i 1) ⟨k.val / 768 * 768 + k.val % 768, _⟩) = w (ix2 (i 1) k)
  congr 2
  exact Fin.ext (by show k.val / 768 * 768 + k.val % 768 = k.val; omega)

/-- The gradient at the normalised rows, as the call finds its arrays. -/
abbrev dhV (c : Dev nD) : Arr 4096 2048 := slabNT (V m c main_arg0) (V m c main_v1)

/-- Row `k` of a row group. -/
def rowOf (t : Fin cfg0.N) (k : Fin 512) : Fin 4096 := ⟨t.val / 4 * 512 + k.val, by
  have := t.isLt; change _ < 32 at this; omega⟩

/-- The product of a row group, when its last slab is in. -/
theorem acc_eq (c : Dev nD) (t : Fin cfg0.N) (h : t.val % 4 = 3) :
    (outsAt0 m c t.val t.isLt).2.2 = fun j => dhV m c (ix2 (rowOf t (j 0)) (j 1)) := by
  funext j
  rw [Pipeline.eq_sum_fin_of_reset_step_apply_of_flush (fun n h => (outsAt0 m c n h).2.2) 4 (fun _ => 0) _
    (first m c) (next m c) t h j, zero_add]
  pointwise [part, slabNT]
  refine Fin.sum_mul_add_congr fun s k hl => ?_
  blk_point [iblk, rowOf, idx0 t, idx0 ⟨_, Pipeline.run_point_lt_of_flush t h s⟩]

/-- The gradient at the stream, as the call finds its arrays: the gradient of the normalisation, plus what comes past it. -/
theorem final_5V (c : Dev nD) : (dats m 0 c).arrAt 5 cfg0.N
    = addE (normBwdE (dhV m c) (V m c main_arg2) (V m c main_arg3)) (V m c main_arg4) := by
  refine (dats m 0 c).arrAt_eq_of_covers 5 _ (by decide +kernel) fun t hf y => ?_
  have h3 := (flush0_5 t).mp hf
  blk_simp
  rw [after0_5]
  have e : (outsAt0 m c t.val t.isLt).1 = k0_pay5 (outsAt0 m c t.val t.isLt).2.2 (iblk m c 2 t) (iblk m c 3 t) (iblk m c 4 t) := by
    by_cases h4 : t.val < 4
    · rw [outsAt0_C m c t (by omega) h3 h4]; frame_out
    · rw [outsAt0_D m c t (by omega) h3 h4]; frame_out
  rw [e, acc_eq m c t h3]
  pointwise [k0_pay5, k0_pay4, k0_pay3, addE, normBwdE, rmsE]
  generalize dhV m c = d
  blk_point [iblk, rowOf, idx0 t]

/-- A row group's part of the gain's gradient. -/
def gpart (d : Arr 4096 2048) (x : Arr 4096 2048) (n : Fin 8) (q : Fin 2048) : EReal :=
  ∑ k : Fin 512, d (ix2 ⟨n.val * 512 + k.val, by omega⟩ q) * (x (ix2 ⟨n.val * 512 + k.val, by omega⟩ q) * rmsE x ⟨n.val * 512 + k.val, by omega⟩)

/-- The row group of a point. -/
def groupOf (t : Fin cfg0.N) : Fin 8 := ⟨t.val / 4, by have := t.isLt; change _ < 32 at this; omega⟩

/-- The gain's gradient starts at zero. -/
theorem zeroG (j) : k0_pay6 (F := Ideal) j = 0 := by pointwise [k0_pay6]

/-- One step of the gain's gradient, when a row group's product is in. -/
theorem stepG (c : Dev nD) (t : Fin cfg0.N) (h : t.val % 4 = 3) (prev : FVec Ideal S1x2048 .f32) (j) :
    k0_pay7 (F := Ideal) (outsAt0 m c t.val t.isLt).2.2 (iblk m c 2 t) prev j
      = prev j + gpart (dhV m c) (V m c main_arg2) (groupOf t) (j 1) := by
  rw [acc_eq m c t h]
  pointwise [k0_pay7, k0_pay4, k0_pay3, gpart, rmsE]
  generalize dhV m c = d
  blk_point [iblk, rowOf, groupOf, idx0 t]

/-- A point that does not end a row group keeps the gain's gradient. -/
theorem carried (c : Dev nD) (t : Fin cfg0.N) (h : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 h]; rfl
  · rw [outsAt0_B m c t h0 h]; rfl

/-- The end of the first row group. -/
theorem begun (c : Dev nD) (t : Fin cfg0.N) (h : t.val % 4 = 3) (h4 : t.val < 4) :
    (outsAt0 m c t.val t.isLt).2.1 = k0_pay7 (outsAt0 m c t.val t.isLt).2.2 (iblk m c 2 t) (k0_pay6 (F := Ideal)) := by
  rw [outsAt0_C m c t (by omega) h h4]; frame_out

/-- The end of a later row group. -/
theorem added (c : Dev nD) (t : Fin cfg0.N) (h : t.val % 4 = 3) (h4 : ¬t.val < 4) :
    (outsAt0 m c t.val t.isLt).2.1 = k0_pay7 (outsAt0 m c t.val t.isLt).2.2 (iblk m c 2 t)
      (outsAt0 m c (t.val - 1) (Nat.lt_of_le_of_lt (Nat.sub_le _ _) t.isLt)).2.1 := by
  rw [outsAt0_D m c t (by omega) h h4]; frame_out

/-- At the end of row group `n`, the gain's gradient holds the parts of the groups so far. -/
theorem gain_upto (c : Dev nD) (j) : ∀ (n : ℕ) (hn : n < 8) (t : Fin cfg0.N), t.val = 4 * n + 3 →
    (outsAt0 m c t.val t.isLt).2.1 j
      = ∑ s : Fin (n + 1), gpart (dhV m c) (V m c main_arg2) ⟨s.val, by omega⟩ (j 1) := by
  intro n
  induction n with
  | zero =>
    intro hn t h
    rw [begun m c t (by omega) (by omega), stepG m c t (by omega), zeroG, zero_add, Fin.sum_univ_one]
    congr 1
    exact Fin.ext (by show t.val / 4 = 0; omega)
  | succ n ih =>
    intro hn t h
    have h1 : t.val - 1 < cfg0.N := Nat.lt_of_le_of_lt (Nat.sub_le _ _) t.isLt
    have h2 : t.val - 1 - 1 < cfg0.N := Nat.lt_of_le_of_lt (Nat.sub_le _ _) h1
    have h3 : t.val - 1 - 1 - 1 < cfg0.N := Nat.lt_of_le_of_lt (Nat.sub_le _ _) h2
    have h4 : t.val - 1 - 1 - 1 - 1 < cfg0.N := Nat.lt_of_le_of_lt (Nat.sub_le _ _) h3
    have c1 := carried m c ⟨t.val - 1, h1⟩ (by show ¬(t.val - 1) % 4 = 3; omega)
    have c2 := carried m c ⟨t.val - 1 - 1, h2⟩ (by show ¬(t.val - 1 - 1) % 4 = 3; omega)
    have c3 := carried m c ⟨t.val - 1 - 1 - 1, h3⟩ (by show ¬(t.val - 1 - 1 - 1) % 4 = 3; omega)
    have i := ih (by omega) ⟨t.val - 1 - 1 - 1 - 1, h4⟩ (by show t.val - 1 - 1 - 1 - 1 = 4 * n + 3; omega)
    rw [added m c t (by omega) (by omega), stepG m c t (by omega), Fin.sum_univ_castSucc]
    refine congrArg₂ (· + ·) ((congrFun (c1.trans (c2.trans c3)) j).trans i) ?_
    congr 1
    exact Fin.ext (by show t.val / 4 = n + 1; omega)

/-- The gradient of the gain, as the call finds its arrays. -/
theorem final_6V (c : Dev nD) : (dats m 0 c).arrAt 6 cfg0.N = gainE (dhV m c) (V m c main_arg2) := by
  refine (dats m 0 c).arrAt_eq_of_covers 6 _ (by decide +kernel) fun t hf y => ?_
  have h3 := (flush0_6 t).mp hf
  blk_simp
  rw [after0_6]
  refine (gain_upto m c _ 7 (by decide) t (by have ht := t.isLt; change _ < 32 at ht; omega)).trans ?_
  unfold gainE gpart
  refine Fin.sum_mul_add_congr fun s k hl => ?_
  generalize dhV m c = d
  blk_point [idx0 t]

/-- The gradient at the stream, over the program's arguments. -/
theorem final_5 (c : Dev nD) : (dats m 0 c).arrAt 5 cfg0.N
    = addE (normBwdE (mmNTE (m ((c : Thread nD τ).loc main_arg0)) (m ((c : Thread nD τ).loc main_arg1)))
      (m ((c : Thread nD τ).loc main_arg2)) (m ((c : Thread nD τ).loc main_arg3))) (m ((c : Thread nD τ).loc main_arg4)) := by
  refine (final_5V m c).trans ?_
  unfold dhV
  rw [V_slabs, slabNT_slabs, V_main_arg0, V_main_arg2, V_main_arg3, V_main_arg4]

/-- The gradient of the gain, over the program's arguments. -/
theorem final_6 (c : Dev nD) : (dats m 0 c).arrAt 6 cfg0.N
    = gainE (mmNTE (m ((c : Thread nD τ).loc main_arg0)) (m ((c : Thread nD τ).loc main_arg1))) (m ((c : Thread nD τ).loc main_arg2)) := by
  refine (final_6V m c).trans ?_
  unfold dhV
  rw [V_slabs, slabNT_slabs, V_main_arg0, V_main_arg2]

end Cert.DhIdeal.Value

end
-- ==== Proof.DRef.lean ====
module

public import proofs.«01_k».proof.Proof.LSpec
public import proofs.«01_k».proof.Proof.Gen.DhReferenceIdeal.Run
public import proofs.«01_k».proof.Proof.Gen.DhReferenceIdeal.Read

@[expose] public section

set_option maxRecDepth 16384

noncomputable section

open Idealize.ShloMosaic Idealize.ShloMosaic.TcCoe Idealize.SL.Sem
open Cert.DhReferenceIdeal Cert.DhReferenceIdeal.Read Cert.Scalar Cert.Block

namespace Cert.MixerInput

/-! # The reference's values are the kernel's -/

variable (p : Arr 4096 3072) (w : Arr 2048 3072) (x : Arr 4096 2048) (g : Arr 1 2048) (d : Arr 4096 2048)

/-- The rows before the gain. -/
theorem hat_eq : val_main_v12 (F := Ideal) x = fun i => x i * rmsE x (i 0) := by
  funext i
  pointwise [val_main_v12, val_main_v11, val_main_v7, val_main_v6, val_main_v5, val_main_v4, val_main_v3, val_main_v2, val_main_v1, val_main_v0, val_main_cst, val_main_cst_0, val_main_cst_1, rmsE]

/-- The gradient at the normalised rows. -/
theorem hidden_eq : val_main_v18 (F := Ideal) p w = mmNTE p w := by
  funext i
  pointwise [val_main_v18, val_main_v17, val_main_v15, mmNTE]

/-- The gradient of the gain. -/
theorem gain_eq : val_main_v21 (F := Ideal) p w x = gainE (mmNTE p w) x := by
  funext i
  pointwise [val_main_v21, val_main_v20, val_main_v19, val_main_cst_3, gainE]
  rw [hidden_eq p w, hat_eq]
  first | rfl | exact Finset.sum_congr rfl fun k _ => EReal.mul_comm _ _

/-- The gradient at the stream. -/
theorem stream_eq : val_main_v38 (F := Ideal) p w x g d = addE (normBwdE (mmNTE p w) x g) d := by
  funext i
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v10, val_main_v9, val_main_v8, val_main_v7, val_main_v6, val_main_v5, val_main_v4, val_main_v3, val_main_v2, val_main_v1, val_main_v0, val_main_cst, val_main_cst_0, val_main_cst_1, val_main_cst_2, val_main_cst_4, val_main_cst_5, val_main_cst_6, addE]
  rw [hidden_eq p w, add_assoc, add_assoc, add_comm (normBwdE _ _ _ _)]
  refine congrArg (d i + ·) ?_
  rw [← add_assoc]
  exact Cert.FinalLoss.normBwd_any (mmNTE p w) x g i _ _ rfl (Fin.sum_univ_one _)

end Cert.MixerInput

end
-- ==== Proof.LRef.lean ====
module

public import proofs.«01_k».proof.Proof.LSpec
public import proofs.«01_k».proof.Proof.Gen.LossReferenceIdeal.Run
public import proofs.«01_k».proof.Proof.Gen.LossReferenceIdeal.Read

@[expose] public section

set_option maxRecDepth 16384

noncomputable section

open Idealize.ShloMosaic Idealize.ShloMosaic.TcCoe Idealize.SL.Sem
open Cert.LossReferenceIdeal Cert.LossReferenceIdeal.Read Cert.Scalar Cert.Block

namespace Cert.FinalLoss

/-! # The reference's values are the kernel's -/

variable (x t : Arr 4096 2048) (g : Arr 1 2048)

/-- The rows before the gain. -/
theorem hat_eq : val_main_v12 (F := Ideal) x = fun i => x i * rmsE x (i 0) := by
  funext i
  pointwise [val_main_v12, val_main_v11, val_main_v7, val_main_v6, val_main_v5, val_main_v4, val_main_v3, val_main_v2, val_main_v1, val_main_v0, val_main_cst, val_main_cst_0, val_main_cst_1, rmsE]

/-- The differences. -/
theorem diffs_eq : val_main_v15 (F := Ideal) x t g = diffE x t g := by
  funext i
  pointwise [val_main_v15, val_main_v14, val_main_v13, diffE, normE]
  rw [hat_eq]

/-- The gradient at the normalised rows. -/
theorem grads_eq : val_main_v29 (F := Ideal) x t g = dyE x t g := by
  funext i
  refine Eq.trans ?_ (dy_eq x t g i)
  pointwise [val_main_v29, val_main_v28, val_main_v27, val_main_v26, val_main_v25, val_main_v24, val_main_v18, val_main_v17, val_main_cst_3, val_main_cst_8, val_main_cst_9, val_main_cst_10]
  rw [diffs_eq]

/-- The loss. -/
theorem total_eq : val_main_v49 (F := Ideal) x t g = lossE x t g := by
  funext i
  rw [loss_eq x t g i]
  pointwise [val_main_v49, val_main_v23, val_main_v22, val_main_v21, val_main_v20, val_main_v19, val_main_v16, val_main_cst_4, val_main_cst_5, val_main_cst_6, val_main_cst_7, rowE]
  rw [diffs_eq]

/-- The gradient of the gain. -/
theorem gain_eq : val_main_v32 (F := Ideal) x t g = gainE (dyE x t g) x := by
  funext i
  pointwise [val_main_v32, val_main_v31, val_main_v30, val_main_cst_11, gainE]
  rw [grads_eq x t g, hat_eq]
  exact Finset.sum_congr rfl fun k _ => EReal.mul_comm _ _

/-- The gradient at the residual stream. -/
theorem stream_eq : val_main_v48 (F := Ideal) x t g = normBwdE (dyE x t g) x g := by
  funext i
  pointwise [val_main_v48, val_main_v47, val_main_v46, val_main_v45, val_main_v44, val_main_v43, val_main_v42, val_main_v41, val_main_v40, val_main_v39, val_main_v38, val_main_v37, val_main_v36, val_main_v35, val_main_v34, val_main_v33, val_main_v10, val_main_v9, val_main_v8, val_main_v7, val_main_v6, val_main_v5, val_main_v4, val_main_v3, val_main_v2, val_main_v1, val_main_v0, val_main_cst, val_main_cst_0, val_main_cst_1, val_main_cst_2, val_main_cst_12, val_main_cst_13, val_main_cst_14]
  rw [grads_eq x t g]
  exact normBwd_any (dyE x t g) x g i _ _ rfl (Fin.sum_univ_one _)

/-- The same, as the products read it. -/
theorem streamLow_eq : val_main_v50 (F := Ideal) x t g = normBwdE (dyE x t g) x g := by
  refine Eq.trans ?_ (stream_eq x t g)
  funext i
  pointwise [val_main_v50]

end Cert.FinalLoss

end
-- ==== Proof.lean ====
/- The proof of every claim of this certificate: the frames of the fifteen programs, and the equality of each kernel
   with its reference, where its precondition holds if it has one. -/
module

public import proofs.«01_k».proof.Defs
public import proofs.«01_k».proof.Proof.MSpec
public import proofs.«01_k».proof.Proof.MBlock
public import proofs.«01_k».proof.Proof.MPool
public import proofs.«01_k».proof.Proof.MCalls
public import proofs.«01_k».proof.Proof.MGlobal
public import proofs.«01_k».proof.Proof.MPre
public import proofs.«01_k».proof.Proof.MRef
public import proofs.«01_k».proof.Proof.MRefOut
public import proofs.«01_k».proof.Proof.MFinite
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Run
public import proofs.«01_k».proof.Proof.Chain
public import proofs.«01_k».proof.Proof.RefRead
public import proofs.«01_k».proof.Proof.Finite
public import proofs.«01_k».proof.Proof.Gen.XattnReferenceIdeal.Run
public import proofs.«01_k».proof.Proof.Gen.XattnReferenceIdeal.Read
public import proofs.«01_k».proof.Proof.Gen.Xattn
public import proofs.«01_k».proof.Proof.Gen.Xattn.Skeleton
public import proofs.«01_k».proof.Proof.Gen.Xattn.Launch
public import proofs.«01_k».proof.Proof.Gen.Xattn.Points
public import proofs.«01_k».proof.Proof.Gen.Xattn.Frame
public import proofs.«01_k».proof.Proof.Gen.XattnIdeal
public import proofs.«01_k».proof.Proof.Gen.XattnIdeal.Skeleton
public import proofs.«01_k».proof.Proof.Gen.XattnIdeal.Launch
public import proofs.«01_k».proof.Proof.Gen.XattnIdeal.Points
public import proofs.«01_k».proof.Proof.Gen.XattnIdeal.Frame
public import proofs.«01_k».proof.Proof.Gen.XattnReferenceIdeal
public import proofs.«01_k».proof.Proof.Gen.Pre_finite_xattn
public import proofs.«01_k».proof.Proof.XRun
public import proofs.«01_k».proof.Proof.XChain
public import proofs.«01_k».proof.Proof.XRefResults
public import proofs.«01_k».proof.Proof.XFinite
public import proofs.«01_k».proof.Proof.Gen.ProjReferenceIdeal.Run
public import proofs.«01_k».proof.Proof.Gen.ProjReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.LossReferenceIdeal.Run
public import proofs.«01_k».proof.Proof.Gen.LossReferenceIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.PCalls
public import proofs.«01_k».proof.Proof.PRun
public import proofs.«01_k».proof.Proof.PRef
public import proofs.«01_k».proof.Proof.LCalls
public import proofs.«01_k».proof.Proof.DCalls
public import proofs.«01_k».proof.Proof.DRef
public import proofs.«01_k».proof.Proof.LRef
public import proofs.«01_k».proof.Proof.Gen.DhReferenceIdeal.Run
public import proofs.«01_k».proof.Proof.Gen.DhReferenceIdeal.Read
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhReferenceIdeal
public import proofs.«01_k».proof.Proof.Gen.MixReferenceIdeal.Run
public import proofs.«01_k».proof.Proof.Gen.MixReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.Pre_finite_mix
public import Idealize.ShloMosaic.Adequacy
public import Idealize.ShloMosaic.Init

@[expose] public section

noncomputable section

namespace Cert.Proof

open Idealize.ShloMosaic Idealize.SL.Sem Cert.Kernel

/-- The reference's frame: its run keeps its arguments, and the program has no semaphores. -/
theorem referenceFrame : Cert.quiescent_ReferenceIdeal := fun m ρ _ =>
  (θ_run Cert.ReferenceIdeal.defs _ _).mono
    (fun r h => ⟨fun c => (h c).2.2.2.2.2, sem_eq_zero_of_no_sems (by decide) r.2⟩) (Cert.ReferenceIdeal.Value.run m ρ)

/-- The feed-forward block and its gradients: where the precondition holds, the kernel's five results are the reference's. -/
theorem feedForward : Cert.algebraic_KernelIdeal_ReferenceIdeal_pre_finite := by
  intro m g m' g' pre args
  refine ⟨fun c => Cert.KernelIdeal.Gen.W8 m g c (Proc.devRef .tc Cert.KernelIdeal.main_v5),
    fun c => Cert.KernelIdeal.Gen.W8 m g c (Proc.devRef .tc Cert.KernelIdeal.main_v10),
    fun c => Cert.KernelIdeal.Gen.W8 m g c (Proc.devRef .tc Cert.KernelIdeal.main_v8),
    fun c => Cert.KernelIdeal.Gen.W8 m g c (Proc.devRef .tc Cert.KernelIdeal.main_v9),
    fun c => Cert.KernelIdeal.Gen.W8 m g c (Proc.devRef .tc Cert.KernelIdeal.main_v7), ?_, ?_⟩
  · refine (θ_run Cert.KernelIdeal.defs _ _).mono (fun r h c => ?_) (Cert.KernelIdeal.Value.run_state m g)
    exact ⟨h.1 c _ (Cert.KernelIdeal.Gen.mem_uc Cert.KernelIdeal.main_v5 (by decide)),
      h.1 c _ (Cert.KernelIdeal.Gen.mem_uc Cert.KernelIdeal.main_v10 (by decide)),
      h.1 c _ (Cert.KernelIdeal.Gen.mem_uc Cert.KernelIdeal.main_v8 (by decide)),
      h.1 c _ (Cert.KernelIdeal.Gen.mem_uc Cert.KernelIdeal.main_v9 (by decide)),
      h.1 c _ (Cert.KernelIdeal.Gen.mem_uc Cert.KernelIdeal.main_v7 (by decide)),
      (h.1 c _ (Cert.KernelIdeal.Gen.mem_uc Cert.KernelIdeal.main_arg0 (by decide))).trans (Cert.KernelIdeal.Gen.W8_main_arg0 m g c),
      (h.1 c _ (Cert.KernelIdeal.Gen.mem_uc Cert.KernelIdeal.main_arg1 (by decide))).trans (Cert.KernelIdeal.Gen.W8_main_arg1 m g c),
      (h.1 c _ (Cert.KernelIdeal.Gen.mem_uc Cert.KernelIdeal.main_arg2 (by decide))).trans (Cert.KernelIdeal.Gen.W8_main_arg2 m g c),
      (h.1 c _ (Cert.KernelIdeal.Gen.mem_uc Cert.KernelIdeal.main_arg3 (by decide))).trans (Cert.KernelIdeal.Gen.W8_main_arg3 m g c),
      (h.1 c _ (Cert.KernelIdeal.Gen.mem_uc Cert.KernelIdeal.main_arg4 (by decide))).trans (Cert.KernelIdeal.Gen.W8_main_arg4 m g c),
      (h.1 c _ (Cert.KernelIdeal.Gen.mem_uc Cert.KernelIdeal.main_arg5 (by decide))).trans (Cert.KernelIdeal.Gen.W8_main_arg5 m g c)⟩
  · refine (θ_run Cert.ReferenceIdeal.defs _ _).mono (fun r h c => ?_) (Cert.ReferenceIdeal.Value.run m' g')
    obtain ⟨h23, h22, h26, h29, h30, hargs⟩ := h c
    obtain ⟨e0, e1, e2, e3, e4, e5⟩ := args c
    obtain ⟨f1, f3, f4, f5⟩ := Cert.Pre_finite.finite (pre c)
    refine ⟨?_, ?_, ?_, ?_, ?_, hargs⟩
    · refine h23.trans ((Cert.ReferenceIdeal.Read.val_main_v23_eq (F := Ideal) _ _ _ _ _).trans ?_)
      simp only [e0, e1, e2, e3, e4, e5]
      exact (Cert.FeedForward.y_eq _ _ _ _ _).trans (Cert.KernelIdeal.Value.W8_v5 m g c).symm
    · refine h22.trans ((Cert.ReferenceIdeal.Read.val_main_v22_eq (F := Ideal) _ _ _ _ _).trans ?_)
      simp only [e0, e1, e2, e3, e4, e5]
      exact (Cert.FeedForward.dh_eq _ _ _ _ _ f1 f3 f4 f5).trans (Cert.KernelIdeal.Value.W8_v10 m g c).symm
    · refine h26.trans ((Cert.ReferenceIdeal.Read.val_main_v26_eq (F := Ideal) _ _ _ _ _).trans ?_)
      simp only [e0, e1, e2, e3, e4, e5]
      exact (Cert.FeedForward.gradGate_eq _ _ _ _ _ f1 f3 f4 f5).trans (Cert.KernelIdeal.Value.W8_v8 m g c).symm
    · refine h29.trans ((Cert.ReferenceIdeal.Read.val_main_v29_eq (F := Ideal) _ _ _ _).trans ?_)
      simp only [e0, e1, e2, e3, e4, e5]
      exact (Cert.FeedForward.gradUp_eq _ _ _ _).trans (Cert.KernelIdeal.Value.W8_v9 m g c).symm
    · refine h30.trans ((Cert.ReferenceIdeal.Read.val_main_v30_eq (F := Ideal) _ _ _ _).trans ?_)
      simp only [e0, e1, e2, e3, e4, e5]
      exact (Cert.FeedForward.gradDown_eq _ _ _ _).trans (Cert.KernelIdeal.Value.W8_v7 m g c).symm

/-- The attention block's reference has the frame: its run keeps its arguments, and the program has no semaphores. -/
theorem attentionReferenceFrame : Cert.quiescent_XattnReferenceIdeal := fun m ρ _ =>
  (θ_run Cert.XattnReferenceIdeal.defs _ _).mono
    (fun r h => ⟨fun c => (h c).2.2.2.2.2.2.2.2.2.2.2.2, sem_eq_zero_of_no_sems (by decide) r.2⟩) (Cert.XattnReferenceIdeal.Value.run m ρ)

/-- The cross-attention block and its gradients: where the precondition holds, the kernel's twelve results are the reference's. -/
theorem crossAttention : Cert.algebraic_XattnIdeal_XattnReferenceIdeal_pre_finite_xattn := by
  intro m g m' g' pre args
  refine ⟨fun c => Cert.XattnIdeal.Gen.W18 m g c (Proc.devRef .tc Cert.XattnIdeal.main_v6_0),
    fun c => Cert.XattnIdeal.Gen.W18 m g c (Proc.devRef .tc Cert.XattnIdeal.main_v6_1),
    fun c => Cert.XattnIdeal.Gen.W18 m g c (Proc.devRef .tc Cert.XattnIdeal.main_v17),
    fun c => Cert.XattnIdeal.Gen.W18 m g c (Proc.devRef .tc Cert.XattnIdeal.main_v12_0),
    fun c => Cert.XattnIdeal.Gen.W18 m g c (Proc.devRef .tc Cert.XattnIdeal.main_v12_2),
    fun c => Cert.XattnIdeal.Gen.W18 m g c (Proc.devRef .tc Cert.XattnIdeal.main_v15),
    fun c => Cert.XattnIdeal.Gen.W18 m g c (Proc.devRef .tc Cert.XattnIdeal.main_v7_2),
    fun c => Cert.XattnIdeal.Gen.W18 m g c (Proc.devRef .tc Cert.XattnIdeal.main_v16),
    fun c => Cert.XattnIdeal.Gen.W18 m g c (Proc.devRef .tc Cert.XattnIdeal.main_v11),
    fun c => Cert.XattnIdeal.Gen.W18 m g c (Proc.devRef .tc Cert.XattnIdeal.main_v13_0),
    fun c => Cert.XattnIdeal.Gen.W18 m g c (Proc.devRef .tc Cert.XattnIdeal.main_v13_1),
    fun c => Cert.XattnIdeal.Gen.W18 m g c (Proc.devRef .tc Cert.XattnIdeal.main_v9), ?_, ?_⟩
  · refine (θ_run Cert.XattnIdeal.defs _ _).mono (fun r h c => ?_) (Cert.XattnIdeal.Value.run_state m g)
    exact ⟨h.1 c _ (Cert.XattnIdeal.Gen.mem_uc Cert.XattnIdeal.main_v6_0 (by decide)),
      h.1 c _ (Cert.XattnIdeal.Gen.mem_uc Cert.XattnIdeal.main_v6_1 (by decide)),
      h.1 c _ (Cert.XattnIdeal.Gen.mem_uc Cert.XattnIdeal.main_v17 (by decide)),
      h.1 c _ (Cert.XattnIdeal.Gen.mem_uc Cert.XattnIdeal.main_v12_0 (by decide)),
      h.1 c _ (Cert.XattnIdeal.Gen.mem_uc Cert.XattnIdeal.main_v12_2 (by decide)),
      h.1 c _ (Cert.XattnIdeal.Gen.mem_uc Cert.XattnIdeal.main_v15 (by decide)),
      h.1 c _ (Cert.XattnIdeal.Gen.mem_uc Cert.XattnIdeal.main_v7_2 (by decide)),
      h.1 c _ (Cert.XattnIdeal.Gen.mem_uc Cert.XattnIdeal.main_v16 (by decide)),
      h.1 c _ (Cert.XattnIdeal.Gen.mem_uc Cert.XattnIdeal.main_v11 (by decide)),
      h.1 c _ (Cert.XattnIdeal.Gen.mem_uc Cert.XattnIdeal.main_v13_0 (by decide)),
      h.1 c _ (Cert.XattnIdeal.Gen.mem_uc Cert.XattnIdeal.main_v13_1 (by decide)),
      h.1 c _ (Cert.XattnIdeal.Gen.mem_uc Cert.XattnIdeal.main_v9 (by decide)),
      (h.1 c _ (Cert.XattnIdeal.Gen.mem_uc Cert.XattnIdeal.main_arg0 (by decide))).trans (Cert.XattnIdeal.Gen.W18_main_arg0 m g c),
      (h.1 c _ (Cert.XattnIdeal.Gen.mem_uc Cert.XattnIdeal.main_arg1 (by decide))).trans (Cert.XattnIdeal.Gen.W18_main_arg1 m g c),
      (h.1 c _ (Cert.XattnIdeal.Gen.mem_uc Cert.XattnIdeal.main_arg2 (by decide))).trans (Cert.XattnIdeal.Gen.W18_main_arg2 m g c),
      (h.1 c _ (Cert.XattnIdeal.Gen.mem_uc Cert.XattnIdeal.main_arg3 (by decide))).trans (Cert.XattnIdeal.Gen.W18_main_arg3 m g c),
      (h.1 c _ (Cert.XattnIdeal.Gen.mem_uc Cert.XattnIdeal.main_arg4 (by decide))).trans (Cert.XattnIdeal.Gen.W18_main_arg4 m g c),
      (h.1 c _ (Cert.XattnIdeal.Gen.mem_uc Cert.XattnIdeal.main_arg5 (by decide))).trans (Cert.XattnIdeal.Gen.W18_main_arg5 m g c),
      (h.1 c _ (Cert.XattnIdeal.Gen.mem_uc Cert.XattnIdeal.main_arg6 (by decide))).trans (Cert.XattnIdeal.Gen.W18_main_arg6 m g c),
      (h.1 c _ (Cert.XattnIdeal.Gen.mem_uc Cert.XattnIdeal.main_arg7 (by decide))).trans (Cert.XattnIdeal.Gen.W18_main_arg7 m g c),
      (h.1 c _ (Cert.XattnIdeal.Gen.mem_uc Cert.XattnIdeal.main_arg8 (by decide))).trans (Cert.XattnIdeal.Gen.W18_main_arg8 m g c),
      (h.1 c _ (Cert.XattnIdeal.Gen.mem_uc Cert.XattnIdeal.main_arg9 (by decide))).trans (Cert.XattnIdeal.Gen.W18_main_arg9 m g c),
      (h.1 c _ (Cert.XattnIdeal.Gen.mem_uc Cert.XattnIdeal.main_arg10 (by decide))).trans (Cert.XattnIdeal.Gen.W18_main_arg10 m g c),
      (h.1 c _ (Cert.XattnIdeal.Gen.mem_uc Cert.XattnIdeal.main_arg11 (by decide))).trans (Cert.XattnIdeal.Gen.W18_main_arg11 m g c),
      (h.1 c _ (Cert.XattnIdeal.Gen.mem_uc Cert.XattnIdeal.main_arg12 (by decide))).trans (Cert.XattnIdeal.Gen.W18_main_arg12 m g c)⟩
  · refine (θ_run Cert.XattnReferenceIdeal.defs _ _).mono (fun r h c => ?_) (Cert.XattnReferenceIdeal.Value.run m' g')
    obtain ⟨h76, h179, h178, h175, h158, h155, h94, h180, h181, h182, h183, h184, hargs⟩ := h c
    obtain ⟨e0, e1, e2, e3, e4, e5, e6, e7, e8, e9, e10, e11, e12⟩ := args c
    obtain ⟨⟨f0, f1, f2, f3, f4, f5⟩, ⟨f6, f7, f8, f9, f10⟩, f11, f12⟩ := Cert.Pre_finite_xattn.finite (pre c)
    have R : (Cert.XattnIdeal.Value.args m c).Real := ⟨f0, f1, f2, f3, f4, f5, f6, f7, f8, f9, f10, f11, f12⟩
    have L : Cert.CrossAttention.Launched (StableHlo.launchContents m' c) (Cert.XattnIdeal.Value.args m c) := ⟨e0, e1, e2, e3, e4, e5, e6, e7, e8, e9, e10, e11, e12⟩
    refine ⟨?_, ?_, ?_, ?_, ?_, ?_, ?_, ?_, ?_, ?_, ?_, ?_, hargs⟩
    · exact h76.trans ((Cert.XattnReferenceIdeal.Read.val_main_v76_eq (F := Ideal) _).trans
        ((Cert.CrossAttention.launched_v76 L).trans (Cert.XattnIdeal.Value.at18_v6_0 m g c).symm))
    · exact h179.trans ((Cert.XattnReferenceIdeal.Read.val_main_v179_eq (F := Ideal) _).trans
        ((Cert.CrossAttention.launched_v179 L).trans (Cert.XattnIdeal.Value.at18_v6_1 m g c).symm))
    · exact h178.trans ((Cert.XattnReferenceIdeal.Read.val_main_v178_eq (F := Ideal) _).trans
        ((Cert.CrossAttention.launched_v178 L R).trans (Cert.XattnIdeal.Value.at_v17 m g c).symm))
    · exact h175.trans ((Cert.XattnReferenceIdeal.Read.val_main_v175_eq (F := Ideal) _).trans
        ((Cert.CrossAttention.launched_v175 L R).trans (Cert.XattnIdeal.Value.at18_v12_0 m g c).symm))
    · exact h158.trans ((Cert.XattnReferenceIdeal.Read.val_main_v158_eq (F := Ideal) _).trans
        ((Cert.CrossAttention.launched_v158 L R).trans (Cert.XattnIdeal.Value.at18_v12_2 m g c).symm))
    · exact h155.trans ((Cert.XattnReferenceIdeal.Read.val_main_v155_eq (F := Ideal) _).trans
        ((Cert.CrossAttention.launched_v155 L R).trans (Cert.XattnIdeal.Value.at18_v15 m g c).symm))
    · exact h94.trans ((Cert.XattnReferenceIdeal.Read.val_main_v94_eq (F := Ideal) _).trans
        ((Cert.CrossAttention.launched_v94 L).trans (Cert.XattnIdeal.Value.at18_v7_2 m g c).symm))
    · exact h180.trans ((Cert.XattnReferenceIdeal.Read.val_main_v180_eq (F := Ideal) _).trans
        ((Cert.CrossAttention.launched_v180 L R).trans (Cert.XattnIdeal.Value.at18_v16 m g c).symm))
    · exact h181.trans ((Cert.XattnReferenceIdeal.Read.val_main_v181_eq (F := Ideal) _).trans
        ((Cert.CrossAttention.launched_v181 L R).trans (Cert.XattnIdeal.Value.at18_v11 m g c).symm))
    · exact h182.trans ((Cert.XattnReferenceIdeal.Read.val_main_v182_eq (F := Ideal) _).trans
        ((Cert.CrossAttention.launched_v182 L R).trans (Cert.XattnIdeal.Value.at18_v13_0 m g c).symm))
    · exact h183.trans ((Cert.XattnReferenceIdeal.Read.val_main_v183_eq (F := Ideal) _).trans
        ((Cert.CrossAttention.launched_v183 L R).trans (Cert.XattnIdeal.Value.at18_v13_1 m g c).symm))
    · exact h184.trans ((Cert.XattnReferenceIdeal.Read.val_main_v184_eq (F := Ideal) _).trans
        ((Cert.CrossAttention.launched_v184 L R).trans (Cert.XattnIdeal.Value.at18_v9 m g c).symm))

/-- The projection's reference has the frame: its run keeps its arguments, and the program has no semaphores. -/
theorem projectionReferenceFrame : Cert.quiescent_ProjReferenceIdeal := fun m ρ _ =>
  (θ_run Cert.ProjReferenceIdeal.defs _ _).mono
    (fun r h => ⟨fun c => (h c).2.2, sem_eq_zero_of_no_sems (by decide) r.2⟩) (Cert.ProjReferenceIdeal.Value.run m ρ)

/-- The normalisation and projection into the mixer, and the projection's gradient: the kernel's two results are the
    reference's, on every input. -/
theorem projection : Cert.algebraic_ProjIdeal_ProjReferenceIdeal := by
  intro m g m' g' _ args
  refine ⟨fun c => Cert.ProjIdeal.Gen.W4 m g c (Proc.devRef .tc Cert.ProjIdeal.main_v3), fun c => Cert.ProjIdeal.Gen.W4 m g c (Proc.devRef .tc Cert.ProjIdeal.main_v4), ?_, ?_⟩
  · refine (θ_run Cert.ProjIdeal.defs _ _).mono (fun r h c => ?_) (Cert.ProjIdeal.Value.run_state m g)
    exact ⟨h.1 c _ (Cert.ProjIdeal.Gen.mem_uc Cert.ProjIdeal.main_v3 (by decide)),
      h.1 c _ (Cert.ProjIdeal.Gen.mem_uc Cert.ProjIdeal.main_v4 (by decide)),
      (h.1 c _ (Cert.ProjIdeal.Gen.mem_uc Cert.ProjIdeal.main_arg0 (by decide))).trans (Cert.ProjIdeal.Gen.W4_main_arg0 m g c),
      (h.1 c _ (Cert.ProjIdeal.Gen.mem_uc Cert.ProjIdeal.main_arg1 (by decide))).trans (Cert.ProjIdeal.Gen.W4_main_arg1 m g c),
      (h.1 c _ (Cert.ProjIdeal.Gen.mem_uc Cert.ProjIdeal.main_arg2 (by decide))).trans (Cert.ProjIdeal.Gen.W4_main_arg2 m g c),
      (h.1 c _ (Cert.ProjIdeal.Gen.mem_uc Cert.ProjIdeal.main_arg3 (by decide))).trans (Cert.ProjIdeal.Gen.W4_main_arg3 m g c)⟩
  · refine (θ_run Cert.ProjReferenceIdeal.defs _ _).mono (fun r h c => ?_) (Cert.ProjReferenceIdeal.Value.run m' g')
    obtain ⟨h13, h19, hargs⟩ := h c
    obtain ⟨e0, e1, e2, e3⟩ := args c
    refine ⟨?_, ?_, hargs⟩
    · refine h13.trans ((Cert.ProjReferenceIdeal.Read.val_main_v13_eq (F := Ideal) _ _ _).trans ?_)
      simp only [e0, e1, e2]
      exact (Cert.Projection.proj_eq _ _ _).trans (Cert.ProjIdeal.Value.W4_v3 m g c).symm
    · refine h19.trans ((Cert.ProjReferenceIdeal.Read.val_main_v19_eq (F := Ideal) _ _ _).trans ?_)
      simp only [e0, e1, e3]
      exact (Cert.Projection.grad_eq _ _ _).trans (Cert.ProjIdeal.Value.W4_v4 m g c).symm

/-- The reference of the mixer's input gradient has the frame: its run keeps its arguments, and the program has no semaphores. -/
theorem inputGradReferenceFrame : Cert.quiescent_DhReferenceIdeal := fun m ρ _ =>
  (θ_run Cert.DhReferenceIdeal.defs _ _).mono
    (fun r h => ⟨fun c => (h c).2.2, sem_eq_zero_of_no_sems (by decide) r.2⟩) (Cert.DhReferenceIdeal.Value.run m ρ)

/-- The gradient through the projection into the mixer and the normalisation before it: the kernel's two results are the
    reference's, on every input. -/
theorem inputGrad : Cert.algebraic_DhIdeal_DhReferenceIdeal := by
  intro m g m' g' _ args
  refine ⟨fun c => (Cert.DhIdeal.Gen.dats m 0 c).arrAt 5 Cert.DhIdeal.cfg0.N, fun c => (Cert.DhIdeal.Gen.dats m 0 c).arrAt 6 Cert.DhIdeal.cfg0.N, ?_, ?_⟩
  · refine (θ_run Cert.DhIdeal.defs _ _).mono (fun r h c => ?_) (Cert.DhIdeal.Gen.run_main m g)
    exact ⟨(h c).1 5, (h c).1 6,
      ((h c).1 0).trans (((Cert.DhIdeal.Gen.dats m 0 c).arrAt_in 0 rfl _).trans ((Cert.DhIdeal.Gen.A_eq m c 0).trans (Cert.DhIdeal.Gen.V_main_arg0 m c))),
      ((h c).2 Cert.DhIdeal.main_arg1 (Pipeline.mem_restRefs_of Cert.DhIdeal.main_arg1 (by decide) (by decide))).trans (Cert.DhIdeal.Gen.V_main_arg1 m c),
      ((h c).1 2).trans (((Cert.DhIdeal.Gen.dats m 0 c).arrAt_in 2 rfl _).trans ((Cert.DhIdeal.Gen.A_eq m c 2).trans (Cert.DhIdeal.Gen.V_main_arg2 m c))),
      ((h c).1 3).trans (((Cert.DhIdeal.Gen.dats m 0 c).arrAt_in 3 rfl _).trans ((Cert.DhIdeal.Gen.A_eq m c 3).trans (Cert.DhIdeal.Gen.V_main_arg3 m c))),
      ((h c).1 4).trans (((Cert.DhIdeal.Gen.dats m 0 c).arrAt_in 4 rfl _).trans ((Cert.DhIdeal.Gen.A_eq m c 4).trans (Cert.DhIdeal.Gen.V_main_arg4 m c)))⟩
  · refine (θ_run Cert.DhReferenceIdeal.defs _ _).mono (fun r h c => ?_) (Cert.DhReferenceIdeal.Value.run m' g')
    obtain ⟨h38, h21, hargs⟩ := h c
    obtain ⟨e0, e1, e2, e3, e4⟩ := args c
    refine ⟨?_, ?_, hargs⟩
    · refine h38.trans ((Cert.DhReferenceIdeal.Read.val_main_v38_eq (F := Ideal) _ _).trans ?_)
      simp only [e0, e1, e2, e3, e4]
      exact (Cert.MixerInput.stream_eq _ _ _ _ _).trans (Cert.DhIdeal.Value.final_5 m c).symm
    · refine h21.trans ((Cert.DhReferenceIdeal.Read.val_main_v21_eq (F := Ideal) _ _ _).trans ?_)
      simp only [e0, e1, e2]
      exact (Cert.MixerInput.gain_eq _ _ _).trans (Cert.DhIdeal.Value.final_6 m c).symm

/-- The mixer's reference has the frame: its run keeps its arguments, and the program has no semaphores. -/
theorem mixerReferenceFrame : Cert.quiescent_MixReferenceIdeal := fun m ρ _ =>
  (θ_run Cert.MixReferenceIdeal.defs _ _).mono
    (fun r h => ⟨fun c => (h c).2, sem_eq_zero_of_no_sems (by decide) r.2⟩) (Cert.MixReferenceIdeal.Value.run m ρ)

/-- The mixer, forward: where the pooled columns are finite, the kernel's result is the reference's. -/
theorem mixer : Cert.algebraic_MixIdeal_MixReferenceIdeal_pre_finite_mix := by
  intro m g m' g' pre args
  refine ⟨fun c => (Cert.MixIdeal.Gen.dats m 0 c).arrAt 9 Cert.MixIdeal.cfg0.N, ?_, ?_⟩
  · refine (θ_run Cert.MixIdeal.defs _ _).mono (fun r h c => ?_) (Cert.MixIdeal.Gen.run_main m g)
    exact ⟨(h c).1 9,
      ((h c).1 0).trans (((Cert.MixIdeal.Gen.dats m 0 c).arrAt_in 0 rfl _).trans ((Cert.MixIdeal.Gen.A_eq m c 0).trans (Cert.MixIdeal.Gen.V_main_arg0 m c))),
      ((h c).1 4).trans (((Cert.MixIdeal.Gen.dats m 0 c).arrAt_in 4 rfl _).trans ((Cert.MixIdeal.Gen.A_eq m c 4).trans (Cert.MixIdeal.Gen.V_main_arg1 m c))),
      ((h c).1 5).trans (((Cert.MixIdeal.Gen.dats m 0 c).arrAt_in 5 rfl _).trans ((Cert.MixIdeal.Gen.A_eq m c 5).trans (Cert.MixIdeal.Gen.V_main_arg2 m c))),
      ((h c).1 6).trans (((Cert.MixIdeal.Gen.dats m 0 c).arrAt_in 6 rfl _).trans ((Cert.MixIdeal.Gen.A_eq m c 6).trans (Cert.MixIdeal.Gen.V_main_arg3 m c))),
      ((h c).1 7).trans (((Cert.MixIdeal.Gen.dats m 0 c).arrAt_in 7 rfl _).trans ((Cert.MixIdeal.Gen.A_eq m c 7).trans (Cert.MixIdeal.Gen.V_main_arg4 m c))),
      ((h c).2 Cert.MixIdeal.main_arg5 (Pipeline.mem_restRefs_of Cert.MixIdeal.main_arg5 (by decide) (by decide))).trans (Cert.MixIdeal.Gen.V_main_arg5 m c)⟩
  · refine (θ_run Cert.MixReferenceIdeal.defs _ _).mono (fun r h c => ?_) (Cert.MixReferenceIdeal.Value.run m' g')
    obtain ⟨h97, hargs⟩ := h c
    obtain ⟨e0, e1, e2, e3, e4, e5⟩ := args c
    refine ⟨?_, hargs⟩
    refine h97.trans ((Cert.MixReferenceIdeal.Read.val_main_v97_eq (F := Ideal) _ _).trans ?_)
    simp only [e0, e1, e2, e3, e4, e5]
    exact (Cert.Mixer.result_eq _ _ _ _ _ _ (Cert.Pre_finite_mix.finite (pre c))).trans (Cert.MixIdeal.Value.final_9 m c).symm

/-- The loss's reference has the frame: its run keeps its arguments, and the program has no semaphores. -/
theorem lossReferenceFrame : Cert.quiescent_LossReferenceIdeal := fun m ρ _ =>
  (θ_run Cert.LossReferenceIdeal.defs _ _).mono
    (fun r h => ⟨fun c => (h c).2.2.2.2, sem_eq_zero_of_no_sems (by decide) r.2⟩) (Cert.LossReferenceIdeal.Value.run m ρ)

/-- The final normalisation, the loss and their gradients: the kernel's four results are the reference's, on every
    input. -/
theorem finalLoss : Cert.algebraic_LossIdeal_LossReferenceIdeal := by
  intro m g m' g' _ args
  refine ⟨fun c => (Cert.LossIdeal.Gen.dats m 0 c).arrAt 5 Cert.LossIdeal.cfg0.N, fun c => (Cert.LossIdeal.Gen.dats m 0 c).arrAt 3 Cert.LossIdeal.cfg0.N,
    fun c => (Cert.LossIdeal.Gen.dats m 0 c).arrAt 4 Cert.LossIdeal.cfg0.N, fun c => (Cert.LossIdeal.Gen.dats m 0 c).arrAt 6 Cert.LossIdeal.cfg0.N, ?_, ?_⟩
  · refine (θ_run Cert.LossIdeal.defs _ _).mono (fun r h c => ?_) (Cert.LossIdeal.Gen.run_main m g)
    exact ⟨(h c).1 5, (h c).1 3, (h c).1 4, (h c).1 6, ((h c).1 0).trans ((Cert.LossIdeal.Gen.dats m 0 c).arrAt_in 0 rfl _),
      ((h c).1 1).trans ((Cert.LossIdeal.Gen.dats m 0 c).arrAt_in 1 rfl _), ((h c).1 2).trans ((Cert.LossIdeal.Gen.dats m 0 c).arrAt_in 2 rfl _)⟩
  · refine (θ_run Cert.LossReferenceIdeal.defs _ _).mono (fun r h c => ?_) (Cert.LossReferenceIdeal.Value.run m' g')
    obtain ⟨h49, h48, h50, h32, hargs⟩ := h c
    obtain ⟨e0, e1, e2⟩ := args c
    refine ⟨?_, ?_, ?_, ?_, hargs⟩
    · refine h49.trans ((Cert.LossReferenceIdeal.Read.val_main_v49_eq (F := Ideal) _ _ _).trans ?_)
      simp only [e0, e1, e2]
      exact (Cert.FinalLoss.total_eq _ _ _).trans (Cert.LossIdeal.Value.final_5 m c).symm
    · refine h48.trans ((Cert.LossReferenceIdeal.Read.val_main_v48_eq (F := Ideal) _ _).trans ?_)
      simp only [e0, e1, e2]
      exact (Cert.FinalLoss.stream_eq _ _ _).trans (Cert.LossIdeal.Value.final_3 m c).symm
    · refine h50.trans ((Cert.LossReferenceIdeal.Read.val_main_v50_eq (F := Ideal) _ _).trans ?_)
      simp only [e0, e1, e2]
      exact (Cert.FinalLoss.streamLow_eq _ _ _).trans (Cert.LossIdeal.Value.final_4 m c).symm
    · refine h32.trans ((Cert.LossReferenceIdeal.Read.val_main_v32_eq (F := Ideal) _ _ _).trans ?_)
      simp only [e0, e1, e2]
      exact (Cert.FinalLoss.gain_eq _ _ _).trans (Cert.LossIdeal.Value.final_6 m c).symm

/-- Every claim of the certificate. -/
theorem claim : Cert.Claim :=
  ⟨Cert.Kernel.Gen.facts, Cert.KernelIdeal.Gen.facts, Cert.ReferenceIdeal.Gen.facts, Cert.Xattn.Gen.facts,
    Cert.XattnIdeal.Gen.facts, Cert.XattnReferenceIdeal.Gen.facts, Cert.Proj.Gen.facts, Cert.ProjIdeal.Gen.facts,
    Cert.ProjReferenceIdeal.Gen.facts, Cert.Dh.Gen.facts, Cert.DhIdeal.Gen.facts, Cert.DhReferenceIdeal.Gen.facts,
    Cert.Mix.Gen.facts, Cert.MixIdeal.Gen.facts, Cert.MixReferenceIdeal.Gen.facts,
    Cert.Loss.Gen.facts, Cert.LossIdeal.Gen.facts, Cert.LossReferenceIdeal.Gen.facts,
    Cert.Pre_finite.Gen.facts, Cert.Pre_finite_xattn.Gen.facts, Cert.Pre_finite_mix.Gen.facts,
    fun m ρ _ => Cert.Kernel.Gen.frame m ρ, fun m ρ _ => Cert.KernelIdeal.Gen.frame m ρ,
    fun m ρ _ => Cert.KernelIdeal.Gen.frame m ρ, referenceFrame,
    fun m ρ _ => referenceFrame m ρ True.intro,
    fun m ρ _ => Cert.Xattn.Gen.frame m ρ, fun m ρ _ => Cert.XattnIdeal.Gen.frame m ρ,
    fun m ρ _ => Cert.XattnIdeal.Gen.frame m ρ, attentionReferenceFrame,
    fun m ρ _ => attentionReferenceFrame m ρ True.intro,
    fun m ρ _ => Cert.Proj.Gen.frame m ρ, fun m ρ _ => Cert.ProjIdeal.Gen.frame m ρ, projectionReferenceFrame,
    fun m ρ _ => Cert.Dh.Gen.frame m ρ, fun m ρ _ => Cert.DhIdeal.Gen.frame m ρ, inputGradReferenceFrame,
    fun m ρ _ => Cert.Mix.Gen.frame m ρ, fun m ρ _ => Cert.MixIdeal.Gen.frame m ρ,
    fun m ρ _ => Cert.MixIdeal.Gen.frame m ρ, mixerReferenceFrame,
    fun m ρ _ => mixerReferenceFrame m ρ True.intro,
    fun m ρ _ => Cert.Loss.Gen.frame m ρ, fun m ρ _ => Cert.LossIdeal.Gen.frame m ρ, lossReferenceFrame,
    trivial, feedForward, trivial, crossAttention, trivial, projection, trivial, inputGrad, trivial, mixer, trivial, finalLoss⟩

end Cert.Proof

end
